-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v46_0)) (v1 : (c : Dev Cert.KernelIdeal.nD) → Buf (Elt Ideal) ((c.tc : Thread Cert.KernelIdeal.nD Cert.KernelIdeal.τ).loc Cert.KernelIdeal.main_v46_1)) (v2 : (c : Dev Cert.KernelIdeal.nD) → Buf (Elt Ideal) ((c.tc : Thread Cert.KernelIdeal.nD Cert.KernelIdeal.τ).loc Cert.KernelIdeal.main_v46_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46_0) = v0 c
          ∧ r.2.mem ((c.tc : Thread Cert.KernelIdeal.nD Cert.KernelIdeal.τ).loc Cert.KernelIdeal.main_v46_1) = v1 c
          ∧ r.2.mem ((c.tc : Thread Cert.KernelIdeal.nD Cert.KernelIdeal.τ).loc Cert.KernelIdeal.main_v46_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v20) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v35) = v0 c
          ∧ r.2.mem ((c.tc : Thread Cert.Reference12Ideal.nD Cert.Reference12Ideal.τ).loc Cert.Reference12Ideal.main_v18) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v12) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v5) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v52) = v0 c
          ∧ r.2.mem ((c.tc : Thread Cert.Reference16Ideal.nD Cert.Reference16Ideal.τ).loc Cert.Reference16Ideal.main_v53) = v1 c
          ∧ r.2.mem ((c.tc : Thread Cert.Reference16Ideal.nD Cert.Reference16Ideal.τ).loc Cert.Reference16Ideal.main_v54) = v2 c
          ∧ r.2.mem ((c.tc : Thread Cert.Reference16Ideal.nD Cert.Reference16Ideal.τ).loc Cert.Reference16Ideal.main_v36) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v20) = v0 c
          ∧ r.2.mem ((c.tc : Thread Cert.Reference20Ideal.nD Cert.Reference20Ideal.τ).loc Cert.Reference20Ideal.main_v21) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v21) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Kernel.lean ====
abbrev S8192x6144 : Shape := ⟨2, ![8192, 6144]⟩
abbrev S8192x2048 : Shape := ⟨2, ![8192, 2048]⟩
abbrev S8192x128 : Shape := ⟨2, ![8192, 128]⟩
abbrev S16 : Shape := ⟨1, ![16]⟩
abbrev S512x16x6144 : Shape := ⟨3, ![512, 16, 6144]⟩
abbrev S16x512x6144 : Shape := ⟨3, ![16, 512, 6144]⟩
abbrev S512x16x2048 : Shape := ⟨3, ![512, 16, 2048]⟩
abbrev S16x512x2048 : Shape := ⟨3, ![16, 512, 2048]⟩
abbrev S512x16x128 : Shape := ⟨3, ![512, 16, 128]⟩
abbrev S16x512x128 : Shape := ⟨3, ![16, 512, 128]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S16x1x1 : Shape := ⟨3, ![16, 1, 1]⟩
abbrev S16x1x128 : Shape := ⟨3, ![16, 1, 128]⟩
abbrev S128x2048 : Shape := ⟨2, ![128, 2048]⟩
abbrev S128x128 : Shape := ⟨2, ![128, 128]⟩
abbrev S1x128x2048 : Shape := ⟨3, ![1, 128, 2048]⟩
abbrev S256x128 : Shape := ⟨2, ![256, 128]⟩
abbrev S1x1x128 : Shape := ⟨3, ![1, 1, 128]⟩
abbrev S1x128 : Shape := ⟨2, ![1, 128]⟩
abbrev S1x1 : Shape := ⟨2, ![1, 1]⟩
abbrev S1x128x128 : Shape := ⟨3, ![1, 128, 128]⟩

abbrev nBuf : Space → Nat
  | .hbm => 87
  | .vmem => 27
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S8192x128, .f32⟩
  | .hbm, ⟨3, _⟩ => ⟨S8192x128, .f32⟩
  | .hbm, ⟨4, _⟩ => ⟨S16, .f32⟩
  | .hbm, ⟨5, _⟩ => ⟨S512x16x6144, .bf16⟩
  | .hbm, ⟨6, _⟩ => ⟨S16x512x6144, .bf16⟩
  | .hbm, ⟨7, _⟩ => ⟨S8192x6144, .bf16⟩
  | .hbm, ⟨8, _⟩ => ⟨S512x16x2048, .bf16⟩
  | .hbm, ⟨9, _⟩ => ⟨S16x512x2048, .bf16⟩
  | .hbm, ⟨10, _⟩ => ⟨S8192x2048, .bf16⟩
  | .hbm, ⟨11, _⟩ => ⟨S512x16x128, .f32⟩
  | .hbm, ⟨12, _⟩ => ⟨S16x512x128, .f32⟩
  | .hbm, ⟨13, _⟩ => ⟨S8192x128, .f32⟩
  | .hbm, ⟨14, _⟩ => ⟨S512x16x128, .f32⟩
  | .hbm, ⟨15, _⟩ => ⟨S16x512x128, .f32⟩
  | .hbm, ⟨16, _⟩ => ⟨S8192x128, .f32⟩
  | .hbm, ⟨17, _⟩ => ⟨S128, .i32⟩
  | .hbm, ⟨18, _⟩ => ⟨S128x1, .i32⟩
  | .hbm, ⟨19, _⟩ => ⟨S256, .i32⟩
  | .hbm, ⟨20, _⟩ => ⟨S1x256, .i32⟩
  | .hbm, ⟨21, _⟩ => ⟨S_, .i32⟩
  | .hbm, ⟨22, _⟩ => ⟨S128x1, .i32⟩
  | .hbm, ⟨23, _⟩ => ⟨S128x1, .i32⟩
  | .hbm, ⟨24, _⟩ => ⟨S128x256, .i32⟩
  | .hbm, ⟨25, _⟩ => ⟨S128x256, .i32⟩
  | .hbm, ⟨26, _⟩ => ⟨S128x256, .i32⟩
  | .hbm, ⟨27, _⟩ => ⟨S_, .i32⟩
  | .hbm, ⟨28, _⟩ => ⟨S128x256, .i32⟩
  | .hbm, ⟨29, _⟩ => ⟨S128x256, .i32⟩
  | .hbm, ⟨30, _⟩ => ⟨S_, .f32⟩
  | .hbm, ⟨31, _⟩ => ⟨S128x256, .f32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S_, .i32⟩
  | .hbm, ⟨48, _⟩ => ⟨S128x256, .i32⟩
  | .hbm, ⟨49, _⟩ => ⟨S128x256, .i1⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S_, .i32⟩
  | .hbm, ⟨54, _⟩ => ⟨S_, .i1⟩
  | .hbm, ⟨55, _⟩ => ⟨S128x256, .i1⟩
  | .hbm, ⟨56, _⟩ => ⟨S128x256, .i1⟩
  | .hbm, ⟨57, _⟩ => ⟨S128x256, .i1⟩
  | .hbm, ⟨58, _⟩ => ⟨S128x256, .i32⟩
  | .hbm, ⟨59, _⟩ => ⟨S128x256, .i32⟩
  | .hbm, ⟨60, _⟩ => ⟨S128x256, .i32⟩
  | .hbm, ⟨61, _⟩ => ⟨S_, .i32⟩
  | .hbm, ⟨62, _⟩ => ⟨S128x256, .i32⟩
  | .hbm, ⟨63, _⟩ => ⟨S128x256, .i1⟩
  | .hbm, ⟨64, _⟩ => ⟨S128x256, .i1⟩
  | .hbm, ⟨65, _⟩ => ⟨S128x256, .f32⟩
  | .hbm, ⟨66, _⟩ => ⟨S128x256, .f32⟩
  | .hbm, ⟨67, _⟩ => ⟨S_, .f32⟩
  | .hbm, ⟨68, _⟩ => ⟨S128x256, .f32⟩
  | .hbm, ⟨69, _⟩ => ⟨S128x256, .i1⟩
  | .hbm, ⟨70, _⟩ => ⟨S_, .f32⟩
  | .hbm, ⟨71, _⟩ => ⟨S128x256, .f32⟩
  | .hbm, ⟨72, _⟩ => ⟨S128x256, .f32⟩
  | .hbm, ⟨73, _⟩ => ⟨S128x256, .f32⟩
  | .hbm, ⟨74, _⟩ => ⟨S_, .f32⟩
  | .hbm, ⟨75, _⟩ => ⟨S_, .f32⟩
  | .hbm, ⟨76, _⟩ => ⟨S128x256, .f32⟩
  | .hbm, ⟨77, _⟩ => ⟨S128x256, .f32⟩
  | .hbm, ⟨78, _⟩ => ⟨S_, .i32⟩
  | .hbm, ⟨79, _⟩ => ⟨S128x256, .i32⟩
  | .hbm, ⟨80, _⟩ => ⟨S128x256, .i32⟩
  | .hbm, ⟨81, _⟩ => ⟨S128x256, .f32⟩
  | .hbm, ⟨82, _⟩ => ⟨S16x1x1, .f32⟩
  | .hbm, ⟨83, _⟩ => ⟨S16x1x128, .f32⟩
  | .hbm, ⟨84, _⟩ => ⟨S8192x2048, .bf16⟩
  | .hbm, ⟨85, _⟩ => ⟨S8192x2048, .bf16⟩
  | .hbm, ⟨86, _⟩ => ⟨S8192x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x256, .f32⟩
  | .local _ .vmem, ⟨17, _⟩ => ⟨S128x256, .f32⟩
  | .local _ .vmem, ⟨18, _⟩ => ⟨S16x1x128, .f32⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S128x2048, .bf16⟩
  | .local _ .vmem, ⟨23, _⟩ => ⟨S128x2048, .bf16⟩
  | .local _ .vmem, ⟨24, _⟩ => ⟨S128x2048, .bf16⟩
  | .local _ .vmem, ⟨25, _⟩ => ⟨S1x128x2048, .f32⟩
  | .local _ .vmem, ⟨26, _⟩ => ⟨S1x128x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_0 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_c_3 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_c_4 : Ref sig .tc := ⟨.hbm, 39, rfl⟩
abbrev main_call0_v0 : Ref sig .tc := ⟨.hbm, 40, rfl⟩
abbrev main_call0_c : Ref sig .tc := ⟨.hbm, 41, rfl⟩
abbrev main_call0_v1 : Ref sig .tc := ⟨.hbm, 42, rfl⟩
abbrev main_call0_c_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_c_1 : Ref sig .tc := ⟨.hbm, 47, rfl⟩
abbrev main_call0_v5 : Ref sig .tc := ⟨.hbm, 48, rfl⟩
abbrev main_call0_v6 : Ref sig .tc := ⟨.hbm, 49, rfl⟩
abbrev main_call0_c_2 : Ref sig .tc := ⟨.hbm, 50, rfl⟩
abbrev main_call0_v7 : Ref sig .tc := ⟨.hbm, 51, rfl⟩
abbrev main_call0_v8 : Ref sig .tc := ⟨.hbm, 52, rfl⟩
abbrev main_call0_c_3 : Ref sig .tc := ⟨.hbm, 53, rfl⟩
abbrev main_call0_v9 : Ref sig .tc := ⟨.hbm, 54, rfl⟩
abbrev main_call0_v10 : Ref sig .tc := ⟨.hbm, 55, rfl⟩
abbrev main_call0_v11 : Ref sig .tc := ⟨.hbm, 56, rfl⟩
abbrev main_call0_v12 : Ref sig .tc := ⟨.hbm, 57, rfl⟩
abbrev main_call0_v13 : Ref sig .tc := ⟨.hbm, 58, rfl⟩
abbrev main_call0_v14 : Ref sig .tc := ⟨.hbm, 59, rfl⟩
abbrev main_v29 : Ref sig .tc := ⟨.hbm, 60, rfl⟩
abbrev main_c_5 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_cst_6 : Ref sig .tc := ⟨.hbm, 67, rfl⟩
abbrev main_v35 : Ref sig .tc := ⟨.hbm, 68, rfl⟩
abbrev main_v36 : Ref sig .tc := ⟨.hbm, 69, rfl⟩
abbrev main_cst_7 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_8 : Ref sig .tc := ⟨.hbm, 74, rfl⟩
abbrev main_call1_v0 : Ref sig .tc := ⟨.hbm, 75, rfl⟩
abbrev main_call1_v1 : Ref sig .tc := ⟨.hbm, 76, rfl⟩
abbrev main_v40 : Ref sig .tc := ⟨.hbm, 77, rfl⟩
abbrev main_c_9 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46_0 : Ref sig .tc := ⟨.hbm, 84, rfl⟩
abbrev main_v46_1 : Ref sig .tc := ⟨.hbm, 85, rfl⟩
abbrev main_v46_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_scratch1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c64_i32 : BitVec 32 := 64#32
  let v3 : BitVec 1 := Scalar.cmpi .slt arg0 c64_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let c0_i32_38 : BitVec 32 := 0#32
  let v69 : BitVec 32 := Scalar.addi arg0 c0_i32_38
  let c1_i32 : BitVec 32 := 1#32
  let v70 : BitVec 32 := Scalar.remsi v69 c1_i32
  let v71 : Index := Scalar.indexCast v70
  let c0_39 : Index := 0#32
  let c0_40 : Index := 0#32
  ![v71.toNat, 0, 0]
def k0_off2 (i : grid0.Coords) : Fin 3 → Nat :=
  let arg0 : BitVec 32 := BitVec.ofNat 32 (i 0).val
  let c0_i32_83 : BitVec 32 := 0#32
  let v147 : BitVec 32 := Scalar.addi arg0 c0_i32_83
  let c1_i32_84 : BitVec 32 := 1#32
  let v148 : BitVec 32 := Scalar.remsi v147 c1_i32_84
  let v149 : Index := Scalar.indexCast v148
  let c0_85 : Index := 0#32
  let c128_86 : Index := 128#32
  ![v149.toNat, 0, 128]
def k0_off3 (i : grid0.Coords) : Fin 3 → Nat :=
  let arg0 : BitVec 32 := BitVec.ofNat 32 (i 0).val
  let c0_i32_129 : BitVec 32 := 0#32
  let v225 : BitVec 32 := Scalar.addi arg0 c0_i32_129
  let c1_i32_130 : BitVec 32 := 1#32
  let v226 : BitVec 32 := Scalar.remsi v225 c1_i32_130
  let v227 : Index := Scalar.indexCast v226
  let c0_131 : Index := 0#32
  let c256_132 : Index := 256#32
  ![v227.toNat, 0, 256]
def k0_off4 (i : grid0.Coords) : Fin 3 → Nat :=
  let arg0 : BitVec 32 := BitVec.ofNat 32 (i 0).val
  let c0_i32_175 : BitVec 32 := 0#32
  let v303 : BitVec 32 := Scalar.addi arg0 c0_i32_175
  let c1_i32_176 : BitVec 32 := 1#32
  let v304 : BitVec 32 := Scalar.remsi v303 c1_i32_176
  let v305 : Index := Scalar.indexCast v304
  let c0_177 : Index := 0#32
  let c384_178 : Index := 384#32
  ![v305.toNat, 0, 384]
def k0_off5 (i : grid0.Coords) : Fin 3 → Nat :=
  let arg0 : BitVec 32 := BitVec.ofNat 32 (i 0).val
  let c0_i32_221 : BitVec 32 := 0#32
  let v381 : BitVec 32 := Scalar.addi arg0 c0_i32_221
  let c1_i32_222 : BitVec 32 := 1#32
  let v382 : BitVec 32 := Scalar.remsi v381 c1_i32_222
  let v383 : Index := Scalar.indexCast v382
  let c0_223 : Index := 0#32
  let c512_224 : Index := 512#32
  ![v383.toNat, 0, 512]
def k0_off6 (i : grid0.Coords) : Fin 3 → Nat :=
  let arg0 : BitVec 32 := BitVec.ofNat 32 (i 0).val
  let c0_i32_267 : BitVec 32 := 0#32
  let v459 : BitVec 32 := Scalar.addi arg0 c0_i32_267
  let c1_i32_268 : BitVec 32 := 1#32
  let v460 : BitVec 32 := Scalar.remsi v459 c1_i32_268
  let v461 : Index := Scalar.indexCast v460
  let c0_269 : Index := 0#32
  let c640_270 : Index := 640#32
  ![v461.toNat, 0, 640]
def k0_off7 (i : grid0.Coords) : Fin 3 → Nat :=
  let arg0 : BitVec 32 := BitVec.ofNat 32 (i 0).val
  let c0_i32_313 : BitVec 32 := 0#32
  let v537 : BitVec 32 := Scalar.addi arg0 c0_i32_313
  let c1_i32_314 : BitVec 32 := 1#32
  let v538 : BitVec 32 := Scalar.remsi v537 c1_i32_314
  let v539 : Index := Scalar.indexCast v538
  let c0_315 : Index := 0#32
  let c768_316 : Index := 768#32
  ![v539.toNat, 0, 768]
def k0_off8 (i : grid0.Coords) : Fin 3 → Nat :=
  let arg0 : BitVec 32 := BitVec.ofNat 32 (i 0).val
  let c0_i32_359 : BitVec 32 := 0#32
  let v615 : BitVec 32 := Scalar.addi arg0 c0_i32_359
  let c1_i32_360 : BitVec 32 := 1#32
  let v616 : BitVec 32 := Scalar.remsi v615 c1_i32_360
  let v617 : Index := Scalar.indexCast v616
  let c0_361 : Index := 0#32
  let c896_362 : Index := 896#32
  ![v617.toNat, 0, 896]
def k0_off9 (i : grid0.Coords) : Fin 3 → Nat :=
  let arg0 : BitVec 32 := BitVec.ofNat 32 (i 0).val
  let c0_i32_405 : BitVec 32 := 0#32
  let v693 : BitVec 32 := Scalar.addi arg0 c0_i32_405
  let c1_i32_406 : BitVec 32 := 1#32
  let v694 : BitVec 32 := Scalar.remsi v693 c1_i32_406
  let v695 : Index := Scalar.indexCast v694
  let c0_407 : Index := 0#32
  let c1024_408 : Index := 1024#32
  ![v695.toNat, 0, 1024]
def k0_off10 (i : grid0.Coords) : Fin 3 → Nat :=
  let arg0 : BitVec 32 := BitVec.ofNat 32 (i 0).val
  let c0_i32_451 : BitVec 32 := 0#32
  let v771 : BitVec 32 := Scalar.addi arg0 c0_i32_451
  let c1_i32_452 : BitVec 32 := 1#32
  let v772 : BitVec 32 := Scalar.remsi v771 c1_i32_452
  let v773 : Index := Scalar.indexCast v772
  let c0_453 : Index := 0#32
  let c1152_454 : Index := 1152#32
  ![v773.toNat, 0, 1152]
def k0_off11 (i : grid0.Coords) : Fin 3 → Nat :=
  let arg0 : BitVec 32 := BitVec.ofNat 32 (i 0).val
  let c0_i32_497 : BitVec 32 := 0#32
  let v849 : BitVec 32 := Scalar.addi arg0 c0_i32_497
  let c1_i32_498 : BitVec 32 := 1#32
  let v850 : BitVec 32 := Scalar.remsi v849 c1_i32_498
  let v851 : Index := Scalar.indexCast v850
  let c0_499 : Index := 0#32
  let c1280_500 : Index := 1280#32
  ![v851.toNat, 0, 1280]
def k0_off12 (i : grid0.Coords) : Fin 3 → Nat :=
  let arg0 : BitVec 32 := BitVec.ofNat 32 (i 0).val
  let c0_i32_543 : BitVec 32 := 0#32
  let v927 : BitVec 32 := Scalar.addi arg0 c0_i32_543
  let c1_i32_544 : BitVec 32 := 1#32
  let v928 : BitVec 32 := Scalar.remsi v927 c1_i32_544
  let v929 : Index := Scalar.indexCast v928
  let c0_545 : Index := 0#32
  let c1408_546 : Index := 1408#32
  ![v929.toNat, 0, 1408]
def k0_off13 (i : grid0.Coords) : Fin 3 → Nat :=
  let arg0 : BitVec 32 := BitVec.ofNat 32 (i 0).val
  let c0_i32_589 : BitVec 32 := 0#32
  let v1005 : BitVec 32 := Scalar.addi arg0 c0_i32_589
  let c1_i32_590 : BitVec 32 := 1#32
  let v1006 : BitVec 32 := Scalar.remsi v1005 c1_i32_590
  let v1007 : Index := Scalar.indexCast v1006
  let c0_591 : Index := 0#32
  let c1536_592 : Index := 1536#32
  ![v1007.toNat, 0, 1536]
def k0_off14 (i : grid0.Coords) : Fin 3 → Nat :=
  let arg0 : BitVec 32 := BitVec.ofNat 32 (i 0).val
  let c0_i32_635 : BitVec 32 := 0#32
  let v1083 : BitVec 32 := Scalar.addi arg0 c0_i32_635
  let c1_i32_636 : BitVec 32 := 1#32
  let v1084 : BitVec 32 := Scalar.remsi v1083 c1_i32_636
  let v1085 : Index := Scalar.indexCast v1084
  let c0_637 : Index := 0#32
  let c1664_638 : Index := 1664#32
  ![v1085.toNat, 0, 1664]
def k0_off15 (i : grid0.Coords) : Fin 3 → Nat :=
  let arg0 : BitVec 32 := BitVec.ofNat 32 (i 0).val
  let c0_i32_681 : BitVec 32 := 0#32
  let v1161 : BitVec 32 := Scalar.addi arg0 c0_i32_681
  let c1_i32_682 : BitVec 32 := 1#32
  let v1162 : BitVec 32 := Scalar.remsi v1161 c1_i32_682
  let v1163 : Index := Scalar.indexCast v1162
  let c0_683 : Index := 0#32
  let c1792_684 : Index := 1792#32
  ![v1163.toNat, 0, 1792]
def k0_off16 (i : grid0.Coords) : Fin 3 → Nat :=
  let arg0 : BitVec 32 := BitVec.ofNat 32 (i 0).val
  let c0_i32_727 : BitVec 32 := 0#32
  let v1239 : BitVec 32 := Scalar.addi arg0 c0_i32_727
  let c1_i32_728 : BitVec 32 := 1#32
  let v1240 : BitVec 32 := Scalar.remsi v1239 c1_i32_728
  let v1241 : Index := Scalar.indexCast v1240
  let c0_729 : Index := 0#32
  let c1920_730 : Index := 1920#32
  ![v1241.toNat, 0, 1920]
def k0_cond3 (i : grid0.Coords) : BitVec 1 :=
  let arg0 : BitVec 32 := BitVec.ofNat 32 (i 0).val
  let c64_i32_2 : BitVec 32 := 64#32
  let v6 : BitVec 1 := Scalar.cmpi .sge arg0 c64_i32_2
  let v7 : BitVec 32 := Scalar.extui v6
  let c0_i32_3 : BitVec 32 := 0#32
  let v8 : BitVec 1 := Scalar.cmpi .ne v7 c0_i32_3
  v8

def k0_off17 (i : grid0.Coords) : Fin 3 → Nat :=
  let arg0 : BitVec 32 := BitVec.ofNat 32 (i 0).val
  let c0_i32_4 : BitVec 32 := 0#32
  let v9 : BitVec 32 := Scalar.addi arg0 c0_i32_4
  let c1_i32 : BitVec 32 := 1#32
  let v10 : BitVec 32 := Scalar.remsi v9 c1_i32
  let v11 : Index := Scalar.indexCast v10
  let c0 : Index := 0#32
  let c0_5 : Index := 0#32
  ![v11.toNat, 0, 0]
def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.subi v0 c0_i32
  let c0_i32_0 : BitVec 32 := 0#32
  let v2 : BitVec 32 := Scalar.maxsi v1 c0_i32_0
  let c1_i32 : BitVec 32 := 1#32
  let c0_i32_1 : BitVec 32 := 0#32
  ![v2.toNat, c1_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let v1 : BitVec 32 := Scalar.subi v0 c0_i32
  let c0_i32_0 : BitVec 32 := 0#32
  let v2 : BitVec 32 := Scalar.maxsi v1 c0_i32_0
  let c2_i32 : BitVec 32 := 2#32
  let c0_i32_1 : BitVec 32 := 0#32
  ![v2.toNat, c2_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16x1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S8192x6144 : Shape := ⟨2, ![8192, 6144]⟩
abbrev S8192x2048 : Shape := ⟨2, ![8192, 2048]⟩
abbrev S8192x128 : Shape := ⟨2, ![8192, 128]⟩
abbrev S_ : Shape := ⟨0, ![]⟩
abbrev S1 : Shape := ⟨1, ![1]⟩
abbrev S16 : Shape := ⟨1, ![16]⟩
abbrev S8192x16 : Shape := ⟨2, ![8192, 16]⟩
abbrev S512x16x16x1 : Shape := ⟨4, ![512, 16, 16, 1]⟩
abbrev S16x16x512x1 : Shape := ⟨4, ![16, 16, 512, 1]⟩
abbrev S16x16x4x128x1 : Shape := ⟨5, ![16, 16, 4, 128, 1]⟩
abbrev S512x16x16x128 : Shape := ⟨4, ![512, 16, 16, 128]⟩
abbrev S16x16x512x128 : Shape := ⟨4, ![16, 16, 512, 128]⟩
abbrev S16x16x4x128x128 : Shape := ⟨5, ![16, 16, 4, 128, 128]⟩
abbrev S16x16x1x128x128 : Shape := ⟨5, ![16, 16, 1, 128, 128]⟩
abbrev S16x16x3x128x128 : Shape := ⟨5, ![16, 16, 3, 128, 128]⟩
abbrev S16x16x4x256x128 : Shape := ⟨5, ![16, 16, 4, 256, 128]⟩
abbrev S16x16x4x128x256 : Shape := ⟨5, ![16, 16, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S16x1x1x1 : Shape := ⟨4, ![16, 1, 1, 1]⟩
abbrev S1x1x128x256 : Shape := ⟨4, ![1, 1, 128, 256]⟩
abbrev S16x1x128x256 : Shape := ⟨4, ![16, 1, 128, 256]⟩
abbrev S1x16x1x128x256 : Shape := ⟨5, ![1, 16, 1, 128, 256]⟩
abbrev S16x16x4x128 : Shape := ⟨4, ![16, 16, 4, 128]⟩
abbrev S16x4x128x16x128 : Shape := ⟨5, ![16, 4, 128, 16, 128]⟩

abbrev nBuf : Space → Nat
  | .hbm => 187
  | .vmem => 0
  | .smem => 0
  | _ => 0

abbrev hbmTy0_0 (i : Nat) : BufTy := match i % 128 with
  | 0 => ⟨S8192x6144, .bf16⟩
  | 1 => ⟨S8192x2048, .bf16⟩
  | 2 => ⟨S8192x128, .f32⟩
  | 3 => ⟨S8192x128, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S1, .f32⟩
  | 21 => ⟨S1, .f32⟩
  | 22 => ⟨S1, .f32⟩
  | 23 => ⟨S1, .f32⟩
  | 24 => ⟨S1, .f32⟩
  | 25 => ⟨S1, .f32⟩
  | 26 => ⟨S1, .f32⟩
  | 27 => ⟨S1, .f32⟩
  | 28 => ⟨S1, .f32⟩
  | 29 => ⟨S1, .f32⟩
  | 30 => ⟨S1, .f32⟩
  | 31 => ⟨S1, .f32⟩
  | 32 => ⟨S1, .f32⟩
  | 33 => ⟨S1, .f32⟩
  | 34 => ⟨S1, .f32⟩
  | 35 => ⟨S1, .f32⟩
  | 36 => ⟨S16, .f32⟩
  | 37 => ⟨S8192x16, .f32⟩
  | 38 => ⟨S512x16x16x1, .f32⟩
  | 39 => ⟨S16x16x512x1, .f32⟩
  | 40 => ⟨S16x16x4x128x1, .f32⟩
  | 41 => ⟨S8192x2048, .bf16⟩
  | 42 => ⟨S8192x2048, .bf16⟩
  | 43 => ⟨S8192x2048, .bf16⟩
  | 44 => ⟨S8192x2048, .f32⟩
  | 45 => ⟨S512x16x16x128, .f32⟩
  | 46 => ⟨S16x16x512x128, .f32⟩
  | 47 => ⟨S16x16x4x128x128, .f32⟩
  | 48 => ⟨S8192x2048, .f32⟩
  | 49 => ⟨S512x16x16x128, .f32⟩
  | 50 => ⟨S16x16x512x128, .f32⟩
  | 51 => ⟨S16x16x4x128x128, .f32⟩
  | 52 => ⟨S8192x2048, .f32⟩
  | 53 => ⟨S512x16x16x128, .f32⟩
  | 54 => ⟨S16x16x512x128, .f32⟩
  | 55 => ⟨S16x16x4x128x128, .f32⟩
  | 56 => ⟨S8192x2048, .f32⟩
  | 57 => ⟨S512x16x16x128, .f32⟩
  | 58 => ⟨S16x16x512x128, .f32⟩
  | 59 => ⟨S16x16x4x128x128, .f32⟩
  | 60 => ⟨S8192x16, .f32⟩
  | 61 => ⟨S512x16x16x1, .f32⟩
  | 62 => ⟨S16x16x512x1, .f32⟩
  | 63 => ⟨S16x16x4x128x1, .f32⟩
  | 64 => ⟨S16x16x4x128x1, .f32⟩
  | 65 => ⟨S16x16x1x128x128, .f32⟩
  | 66 => ⟨S_, .f32⟩
  | 67 => ⟨S16x16x1x128x128, .f32⟩
  | 68 => ⟨S16x16x3x128x128, .f32⟩
  | 69 => ⟨S16x16x4x128x128, .f32⟩
  | 70 => ⟨S_, .f32⟩
  | 71 => ⟨S16x16x1x128x128, .f32⟩
  | 72 => ⟨S16x16x4x256x128, .f32⟩
  | 73 => ⟨S16x16x4x128x256, .f32⟩
  | 74 => ⟨S_, .f32⟩
  | 75 => ⟨S16x16x4x128x256, .f32⟩
  | 76 => ⟨S16x16x4x128x256, .f32⟩
  | 77 => ⟨S128, .i32⟩
  | 78 => ⟨S128x1, .i32⟩
  | 79 => ⟨S256, .i32⟩
  | 80 => ⟨S1x256, .i32⟩
  | 81 => ⟨S128x256, .i32⟩
  | 82 => ⟨S128x256, .i32⟩
  | 83 => ⟨S128x256, .i32⟩
  | 84 => ⟨S_, .i32⟩
  | 85 => ⟨S128x256, .i32⟩
  | 86 => ⟨S128x256, .i32⟩
  | 87 => ⟨S4, .i32⟩
  | 88 => ⟨S4x1x1, .i32⟩
  | 89 => ⟨S_, .i32⟩
  | 90 => ⟨S4x1x1, .i32⟩
  | 91 => ⟨S4x1x1, .i32⟩
  | 92 => ⟨S_, .i32⟩
  | 93 => ⟨S4x1x1, .i32⟩
  | 94 => ⟨S4x1x1, .i32⟩
  | 95 => ⟨S1x1x256, .i32⟩
  | 96 => ⟨S4x1x256, .i32⟩
  | 97 => ⟨S4x1x256, .i32⟩
  | 98 => ⟨S4x1x256, .i32⟩
  | 99 => ⟨S_, .i32⟩
  | 100 => ⟨S128x256, .i32⟩
  | 101 => ⟨S128x256, .i1⟩
  | 102 => ⟨S_, .i32⟩
  | 103 => ⟨S128x256, .i32⟩
  | 104 => ⟨S128x256, .i1⟩
  | 105 => ⟨S128x256, .i1⟩
  | 106 => ⟨S_, .i32⟩
  | 107 => ⟨S4x1x256, .i32⟩
  | 108 => ⟨S4x1x256, .i1⟩
  | 109 => ⟨S1x128x256, .i1⟩
  | 110 => ⟨S4x128x256, .i1⟩
  | 111 => ⟨S4x128x256, .i1⟩
  | 112 => ⟨S4x128x256, .i1⟩
  | 113 => ⟨S16x1x1x1, .f32⟩
  | 114 => ⟨S16x1x1x1, .f32⟩
  | 115 => ⟨S_, .i32⟩
  | 116 => ⟨S128x256, .i32⟩
  | 117 => ⟨S128x256, .i32⟩
  | 118 => ⟨S128x256, .f32⟩
  | 119 => ⟨S1x1x128x256, .f32⟩
  | 120 => ⟨S16x1x128x256, .f32⟩
  | 121 => ⟨S16x1x128x256, .f32⟩
  | 122 => ⟨S16x1x128x256, .f32⟩
  | 123 => ⟨S1x16x1x128x256, .f32⟩
  | 124 => ⟨S16x16x4x128x256, .f32⟩
  | 125 => ⟨S16x16x4x128x256, .f32⟩
  | 126 => ⟨S_, .f32⟩
  | 127 => ⟨S_, .f32⟩
  | _ => ⟨S8192x6144, .bf16⟩

abbrev hbmTy0_1 (i : Nat) : BufTy := match i % 128 with
  | 0 => ⟨S16x16x4x128x256, .i1⟩
  | 1 => ⟨S16x16x4x128x256, .f32⟩
  | 2 => ⟨S16x16x4x128x256, .f32⟩
  | 3 => ⟨S_, .f32⟩
  | 4 => ⟨S16x16x4x128x256, .f32⟩
  | 5 => ⟨S16x16x4x128x256, .f32⟩
  | 6 => ⟨S16x16x4x128x256, .f32⟩
  | 7 => ⟨S16x16x4x128x256, .f32⟩
  | 8 => ⟨S16x16x1x128x128, .f32⟩
  | 9 => ⟨S_, .f32⟩
  | 10 => ⟨S16x16x1x128x128, .f32⟩
  | 11 => ⟨S16x16x3x128x128, .f32⟩
  | 12 => ⟨S16x16x4x128x128, .f32⟩
  | 13 => ⟨S_, .f32⟩
  | 14 => ⟨S16x16x1x128x128, .f32⟩
  | 15 => ⟨S16x16x4x256x128, .f32⟩
  | 16 => ⟨S16x16x4x128x128, .f32⟩
  | 17 => ⟨S_, .f32⟩
  | 18 => ⟨S16x16x4x128, .f32⟩
  | 19 => ⟨S16x16x4x128x1, .f32⟩
  | 20 => ⟨S_, .f32⟩
  | 21 => ⟨S16x16x4x128, .f32⟩
  | 22 => ⟨S16x16x4x128x256, .f32⟩
  | 23 => ⟨S16x16x4x128x256, .f32⟩
  | 24 => ⟨S16x16x4x256x128, .f32⟩
  | 25 => ⟨S16x16x4x128x256, .f32⟩
  | 26 => ⟨S16x16x4x128x256, .f32⟩
  | 27 => ⟨S16x16x4x128x128, .f32⟩
  | 28 => ⟨S16x16x4x128x128, .f32⟩
  | 29 => ⟨S16x16x1x128x128, .f32⟩
  | 30 => ⟨S16x16x3x128x128, .f32⟩
  | 31 => ⟨S_, .f32⟩
  | 32 => ⟨S16x16x4x128x128, .f32⟩
  | 33 => ⟨S16x16x4x128x128, .f32⟩
  | 34 => ⟨S16x16x4x128x256, .f32⟩
  | 35 => ⟨S_, .f32⟩
  | 36 => ⟨S16x16x4x128x256, .f32⟩
  | 37 => ⟨S16x16x4x128x256, .f32⟩
  | 38 => ⟨S_, .f32⟩
  | 39 => ⟨S16x16x4x128x256, .f32⟩
  | 40 => ⟨S16x16x4x128x256, .f32⟩
  | 41 => ⟨S16x16x4x256x128, .f32⟩
  | 42 => ⟨S16x16x4x128x128, .f32⟩
  | 43 => ⟨S16x16x4x128x128, .f32⟩
  | 44 => ⟨S16x16x4x128x128, .f32⟩
  | 45 => ⟨S16x16x1x128x128, .f32⟩
  | 46 => ⟨S16x16x3x128x128, .f32⟩
  | 47 => ⟨S_, .f32⟩
  | 48 => ⟨S16x16x4x128x128, .f32⟩
  | 49 => ⟨S16x16x4x128x128, .f32⟩
  | 50 => ⟨S16x4x128x16x128, .f32⟩
  | 51 => ⟨S8192x2048, .f32⟩
  | 52 => ⟨S8192x2048, .bf16⟩
  | 53 => ⟨S16x4x128x16x128, .f32⟩
  | 54 => ⟨S8192x2048, .f32⟩
  | 55 => ⟨S8192x2048, .bf16⟩
  | 56 => ⟨S16x4x128x16x128, .f32⟩
  | 57 => ⟨S8192x2048, .f32⟩
  | 58 => ⟨S8192x2048, .bf16⟩
  | _ => ⟨S8192x6144, .bf16⟩

abbrev hbmTy (i : Nat) : BufTy := match i / 128 with
  | 0 => hbmTy0_0 i
  | 1 => hbmTy0_1 i
  | _ => ⟨S8192x6144, .bf16⟩

abbrev bufTy : (tb : Table) → Fin (tcTables nBuf tb) → BufTy
  | .hbm, ⟨i, _⟩ => hbmTy i
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_cst_1 : Ref sig .tc := ⟨.hbm, 6, rfl⟩
abbrev main_cst_2 : Ref sig .tc := ⟨.hbm, 7, rfl⟩
abbrev main_cst_3 : Ref sig .tc := ⟨.hbm, 8, rfl⟩
abbrev main_cst_4 : Ref sig .tc := ⟨.hbm, 9, rfl⟩
abbrev main_cst_5 : Ref sig .tc := ⟨.hbm, 10, rfl⟩
abbrev main_cst_6 : Ref sig .tc := ⟨.hbm, 11, rfl⟩
abbrev main_cst_7 : Ref sig .tc := ⟨.hbm, 12, rfl⟩
abbrev main_cst_8 : Ref sig .tc := ⟨.hbm, 13, rfl⟩
abbrev main_cst_9 : Ref sig .tc := ⟨.hbm, 14, rfl⟩
abbrev main_cst_10 : Ref sig .tc := ⟨.hbm, 15, rfl⟩
abbrev main_cst_11 : Ref sig .tc := ⟨.hbm, 16, rfl⟩
abbrev main_cst_12 : Ref sig .tc := ⟨.hbm, 17, rfl⟩
abbrev main_cst_13 : Ref sig .tc := ⟨.hbm, 18, rfl⟩
abbrev main_cst_14 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_16 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_18 : Ref sig .tc := ⟨.hbm, 89, rfl⟩
abbrev main_v65 : Ref sig .tc := ⟨.hbm, 90, rfl⟩
abbrev main_v66 : Ref sig .tc := ⟨.hbm, 91, rfl⟩
abbrev main_c_19 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_20 : Ref sig .tc := ⟨.hbm, 99, rfl⟩
abbrev main_v73 : Ref sig .tc := ⟨.hbm, 100, rfl⟩
abbrev main_v74 : Ref sig .tc := ⟨.hbm, 101, rfl⟩
abbrev main_c_21 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_c_22 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_23 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_24 : Ref sig .tc := ⟨.hbm, 126, rfl⟩
abbrev main_call0_v0 : Ref sig .tc := ⟨.hbm, 127, rfl⟩
abbrev main_v96_1 : Ref sig .tc := ⟨.hbm, 128, rfl⟩
abbrev main_call0_v2 : Ref sig .tc := ⟨.hbm, 129, rfl⟩
abbrev main_v96_0 : Ref sig .tc := ⟨.hbm, 130, rfl⟩
abbrev main_call0_cst : Ref sig .tc := ⟨.hbm, 131, rfl⟩
abbrev main_v96_2 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_25 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_26 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_27 : Ref sig .tc := ⟨.hbm, 145, rfl⟩
abbrev main_v107 : Ref sig .tc := ⟨.hbm, 146, rfl⟩
abbrev main_v108 : Ref sig .tc := ⟨.hbm, 147, rfl⟩
abbrev main_cst_28 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_29 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_call1_cst : Ref sig .tc := ⟨.hbm, 163, rfl⟩
abbrev main_call1_v0 : Ref sig .tc := ⟨.hbm, 164, rfl⟩
abbrev main_v122 : Ref sig .tc := ⟨.hbm, 165, rfl⟩
abbrev main_cst_30 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_31 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩

abbrev nD : Nat := 1
abbrev τ : Topo := Topo.v7x

variable {F : FTy → Type} [FloatOps F]
-- ==== Kernel2.lean ====
abbrev S22592x2048 : Shape := ⟨2, ![22592, 2048]⟩
abbrev S8192x22528 : Shape := ⟨2, ![8192, 22528]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S22592x2048, .bf16⟩
  | .hbm, ⟨1, _⟩ => ⟨S8192x22528, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S22592x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 22], ![false, false, false]⟩

def k0_cond3 (i : grid0.Coords) : BitVec 1 :=
  let arg2 : BitVec 32 := BitVec.ofNat 32 (i 2).val
  let c21_i32_3 : BitVec 32 := 21#32
  let v8 : BitVec 1 := Scalar.cmpi .eq arg2 c21_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S22592x2048 : Shape := ⟨2, ![22592, 2048]⟩
abbrev S8192x22528 : Shape := ⟨2, ![8192, 22528]⟩
abbrev S_ : Shape := ⟨0, ![]⟩
abbrev S8192x2048 : Shape := ⟨2, ![8192, 2048]⟩
abbrev S22528x2048 : Shape := ⟨2, ![22528, 2048]⟩
abbrev S2048x22528 : Shape := ⟨2, ![2048, 22528]⟩

abbrev nBuf : Space → Nat
  | .hbm => 10
  | .vmem => 0
  | .smem => 0
  | _ => 0

abbrev bufTy : (tb : Table) → Fin (tcTables nBuf tb) → BufTy
  | .hbm, ⟨0, _⟩ => ⟨S22592x2048, .bf16⟩
  | .hbm, ⟨1, _⟩ => ⟨S8192x22528, .bf16⟩
  | .hbm, ⟨2, _⟩ => ⟨S_, .f32⟩
  | .hbm, ⟨3, _⟩ => ⟨S8192x2048, .f32⟩
  | .hbm, ⟨4, _⟩ => ⟨S22528x2048, .bf16⟩
  | .hbm, ⟨5, _⟩ => ⟨S22528x2048, .f32⟩
  | .hbm, ⟨6, _⟩ => ⟨S2048x22528, .f32⟩
  | .hbm, ⟨7, _⟩ => ⟨S8192x22528, .f32⟩
  | .hbm, ⟨8, _⟩ => ⟨S8192x22528, .f32⟩
  | .hbm, ⟨9, _⟩ => ⟨S8192x2048, .f32⟩
  | _, _ => ⟨S22592x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel3.lean ====
abbrev S8192x2048 : Shape := ⟨2, ![8192, 2048]⟩
abbrev S8192x22528 : Shape := ⟨2, ![8192, 22528]⟩
abbrev S22528x2048 : Shape := ⟨2, ![22528, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x22528, .bf16⟩
  | .hbm, ⟨2, _⟩ => ⟨S22528x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![22, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S8192x22528 : Shape := ⟨2, ![8192, 22528]⟩
abbrev S_ : Shape := ⟨0, ![]⟩
abbrev S22528x2048 : Shape := ⟨2, ![22528, 2048]⟩
abbrev S2048x22528 : Shape := ⟨2, ![2048, 22528]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x22528, .bf16⟩
  | .hbm, ⟨2, _⟩ => ⟨S_, .f32⟩
  | .hbm, ⟨3, _⟩ => ⟨S22528x2048, .f32⟩
  | .hbm, ⟨4, _⟩ => ⟨S8192x2048, .f32⟩
  | .hbm, ⟨5, _⟩ => ⟨S2048x22528, .f32⟩
  | .hbm, ⟨6, _⟩ => ⟨S8192x22528, .f32⟩
  | .hbm, ⟨7, _⟩ => ⟨S8192x22528, .f32⟩
  | .hbm, ⟨8, _⟩ => ⟨S22528x2048, .f32⟩
  | .hbm, ⟨9, _⟩ => ⟨S2048x22528, .f32⟩
  | .hbm, ⟨10, _⟩ => ⟨S22528x2048, .f32⟩
  | .hbm, ⟨11, _⟩ => ⟨S22528x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S22592x2048 : Shape := ⟨2, ![22592, 2048]⟩
abbrev S8192x22528 : Shape := ⟨2, ![8192, 22528]⟩
abbrev S1024x2048 : Shape := ⟨2, ![1024, 2048]⟩
abbrev S2048x2048 : Shape := ⟨2, ![2048, 2048]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x22528, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2048 : Shape := ⟨2, ![8192, 2048]⟩
abbrev S22592x2048 : Shape := ⟨2, ![22592, 2048]⟩
abbrev S22528x2048 : Shape := ⟨2, ![22528, 2048]⟩
abbrev S2048x22528 : Shape := ⟨2, ![2048, 22528]⟩
abbrev S8192x22528 : Shape := ⟨2, ![8192, 22528]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S22592x2048, .bf16⟩
  | .hbm, ⟨2, _⟩ => ⟨S8192x2048, .f32⟩
  | .hbm, ⟨3, _⟩ => ⟨S22528x2048, .bf16⟩
  | .hbm, ⟨4, _⟩ => ⟨S22528x2048, .f32⟩
  | .hbm, ⟨5, _⟩ => ⟨S2048x22528, .f32⟩
  | .hbm, ⟨6, _⟩ => ⟨S8192x22528, .f32⟩
  | .hbm, ⟨7, _⟩ => ⟨S8192x22528, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8192x22528 : Shape := ⟨2, ![8192, 22528]⟩
abbrev S8192x2048 : Shape := ⟨2, ![8192, 2048]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x22528, .bf16⟩
  | .hbm, ⟨1, _⟩ => ⟨S8192x2048, .bf16⟩
  | .hbm, ⟨2, _⟩ => ⟨S8192x2048, .bf16⟩
  | .hbm, ⟨3, _⟩ => ⟨S8192x22528, .bf16⟩
  | .hbm, ⟨4, _⟩ => ⟨S8192x22528, .bf16⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x22528 : Shape := ⟨2, ![8192, 22528]⟩
abbrev S8192x2048 : Shape := ⟨2, ![8192, 2048]⟩
abbrev S_ : Shape := ⟨0, ![]⟩
abbrev S8192x20480 : Shape := ⟨2, ![8192, 20480]⟩

abbrev nBuf : Space → Nat
  | .hbm => 28
  | .vmem => 0
  | .smem => 0
  | _ => 0

abbrev bufTy : (tb : Table) → Fin (tcTables nBuf tb) → BufTy
  | .hbm, ⟨0, _⟩ => ⟨S8192x22528, .bf16⟩
  | .hbm, ⟨1, _⟩ => ⟨S8192x2048, .bf16⟩
  | .hbm, ⟨2, _⟩ => ⟨S8192x2048, .bf16⟩
  | .hbm, ⟨3, _⟩ => ⟨S8192x22528, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x20480, .bf16⟩
  | .hbm, ⟨25, _⟩ => ⟨S8192x2048, .bf16⟩
  | .hbm, ⟨26, _⟩ => ⟨S8192x22528, .bf16⟩
  | .hbm, ⟨27, _⟩ => ⟨S8192x2048, .bf16⟩
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel6.lean ====
abbrev S4096x2048 : Shape := ⟨2, ![4096, 2048]⟩
abbrev S8192x2048 : Shape := ⟨2, ![8192, 2048]⟩
abbrev S8192x4096 : Shape := ⟨2, ![8192, 4096]⟩
abbrev S1024x2048 : Shape := ⟨2, ![1024, 2048]⟩
abbrev S2048x2048 : Shape := ⟨2, ![2048, 2048]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S8x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S8192x2048 : Shape := ⟨2, ![8192, 2048]⟩
abbrev S_ : Shape := ⟨0, ![]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8192x2048, .bf16⟩
  | .hbm, ⟨2, _⟩ => ⟨S_, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x4096 : Shape := ⟨2, ![8192, 4096]⟩
abbrev S8192x2048 : Shape := ⟨2, ![8192, 2048]⟩
abbrev S4096x2048 : Shape := ⟨2, ![4096, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x4096 : Shape := ⟨2, ![8192, 4096]⟩
abbrev S8192x2048 : Shape := ⟨2, ![8192, 2048]⟩
abbrev S_ : Shape := ⟨0, ![]⟩
abbrev S4096x2048 : Shape := ⟨2, ![4096, 2048]⟩
abbrev S2048x4096 : Shape := ⟨2, ![2048, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .bf16⟩
  | .hbm, ⟨2, _⟩ => ⟨S_, .f32⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x2048, .f32⟩
  | .hbm, ⟨7, _⟩ => ⟨S2048x4096, .f32⟩
  | .hbm, ⟨8, _⟩ => ⟨S4096x2048, .f32⟩
  | .hbm, ⟨9, _⟩ => ⟨S4096x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x2048 : Shape := ⟨2, ![2048, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x4096, .f32⟩
  | .hbm, ⟨3, _⟩ => ⟨S4096x2048, .f32⟩
  | .hbm, ⟨4, _⟩ => ⟨S8192x2048, .f32⟩
  | .hbm, ⟨5, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S2048x2048 : Shape := ⟨2, ![2048, 2048]⟩
abbrev S8192x2048 : Shape := ⟨2, ![8192, 2048]⟩
abbrev S1024x2048 : Shape := ⟨2, ![1024, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S8192x2048 : Shape := ⟨2, ![8192, 2048]⟩
abbrev S2048x2048 : Shape := ⟨2, ![2048, 2048]⟩
abbrev S1024x2048 : Shape := ⟨2, ![1024, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 49
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel14.lean ====
abbrev S2048x2048 : Shape := ⟨2, ![2048, 2048]⟩
abbrev S8192x2048 : Shape := ⟨2, ![8192, 2048]⟩
abbrev S1024x2048 : Shape := ⟨2, ![1024, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | .local _ .vmem, ⟨5, _⟩ => ⟨S8x128, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel15.lean ====
abbrev S8192x2048 : Shape := ⟨2, ![8192, 2048]⟩
abbrev S2048x2048 : Shape := ⟨2, ![2048, 2048]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S2048 : Shape := ⟨1, ![2048]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x128, .f32⟩
  | .hbm, ⟨8, _⟩ => ⟨S1x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x128, .f32⟩
  | .local _ .vmem, ⟨13, _⟩ => ⟨S1x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference16Ideal.lean ====
abbrev S8192x2048 : Shape := ⟨2, ![8192, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x2048, .f32⟩
  | .hbm, ⟨62, _⟩ => ⟨S8192x2048, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S8192x2048, .bf16⟩
  | .hbm, ⟨75, _⟩ => ⟨S1x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel17.lean ====
abbrev S8192x128 : Shape := ⟨2, ![8192, 128]⟩
abbrev S8192x2048 : Shape := ⟨2, ![8192, 2048]⟩
abbrev S128x2048 : Shape := ⟨2, ![128, 2048]⟩
abbrev S1024x128 : Shape := ⟨2, ![1024, 128]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x128, .bf16⟩
  | .hbm, ⟨1, _⟩ => ⟨S8192x2048, .bf16⟩
  | .hbm, ⟨2, _⟩ => ⟨S128x2048, .bf16⟩
  | .local _ .vmem, ⟨0, _⟩ => ⟨S1024x128, .bf16⟩
  | .local _ .vmem, ⟨1, _⟩ => ⟨S1024x128, .bf16⟩
  | .local _ .vmem, ⟨2, _⟩ => ⟨S1024x2048, .bf16⟩
  | .local _ .vmem, ⟨3, _⟩ => ⟨S1024x2048, .bf16⟩
  | .local _ .vmem, ⟨4, _⟩ => ⟨S128x2048, .bf16⟩
  | .local _ .vmem, ⟨5, _⟩ => ⟨S128x2048, .f32⟩
  | _, _ => ⟨S8192x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S8192x128 : Shape := ⟨2, ![8192, 128]⟩
abbrev S8192x2048 : Shape := ⟨2, ![8192, 2048]⟩
abbrev S_ : Shape := ⟨0, ![]⟩
abbrev S128x2048 : Shape := ⟨2, ![128, 2048]⟩
abbrev S2048x128 : Shape := ⟨2, ![2048, 128]⟩

abbrev nBuf : Space → Nat
  | .hbm => 12
  | .vmem => 0
  | .smem => 0
  | _ => 0

abbrev bufTy : (tb : Table) → Fin (tcTables nBuf tb) → BufTy
  | .hbm, ⟨0, _⟩ => ⟨S8192x128, .bf16⟩
  | .hbm, ⟨1, _⟩ => ⟨S8192x2048, .bf16⟩
  | .hbm, ⟨2, _⟩ => ⟨S_, .f32⟩
  | .hbm, ⟨3, _⟩ => ⟨S128x2048, .f32⟩
  | .hbm, ⟨4, _⟩ => ⟨S8192x2048, .f32⟩
  | .hbm, ⟨5, _⟩ => ⟨S2048x128, .f32⟩
  | .hbm, ⟨6, _⟩ => ⟨S8192x128, .f32⟩
  | .hbm, ⟨7, _⟩ => ⟨S8192x128, .f32⟩
  | .hbm, ⟨8, _⟩ => ⟨S128x2048, .f32⟩
  | .hbm, ⟨9, _⟩ => ⟨S2048x128, .f32⟩
  | .hbm, ⟨10, _⟩ => ⟨S128x2048, .f32⟩
  | .hbm, ⟨11, _⟩ => ⟨S128x2048, .bf16⟩
  | _, _ => ⟨S8192x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel18.lean ====
abbrev S128x2048 : Shape := ⟨2, ![128, 2048]⟩
abbrev S8192x128 : Shape := ⟨2, ![8192, 128]⟩
abbrev S8192x2048 : Shape := ⟨2, ![8192, 2048]⟩
abbrev S1024x128 : Shape := ⟨2, ![1024, 128]⟩
abbrev S1024x2048 : Shape := ⟨2, ![1024, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x2048, .bf16⟩
  | .hbm, ⟨1, _⟩ => ⟨S8192x128, .bf16⟩
  | .hbm, ⟨2, _⟩ => ⟨S8192x2048, .f32⟩
  | .local _ .vmem, ⟨0, _⟩ => ⟨S1024x128, .bf16⟩
  | .local _ .vmem, ⟨1, _⟩ => ⟨S1024x128, .bf16⟩
  | .local _ .vmem, ⟨2, _⟩ => ⟨S128x2048, .bf16⟩
  | .local _ .vmem, ⟨3, _⟩ => ⟨S1024x2048, .f32⟩
  | .local _ .vmem, ⟨4, _⟩ => ⟨S1024x2048, .f32⟩
  | .local _ .vmem, ⟨5, _⟩ => ⟨S8x128, .f32⟩
  | _, _ => ⟨S128x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S128x2048 : Shape := ⟨2, ![128, 2048]⟩
abbrev S8192x128 : Shape := ⟨2, ![8192, 128]⟩
abbrev S_ : Shape := ⟨0, ![]⟩
abbrev S8192x2048 : Shape := ⟨2, ![8192, 2048]⟩
abbrev S2048x128 : Shape := ⟨2, ![2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S128x2048, .bf16⟩
  | .hbm, ⟨1, _⟩ => ⟨S8192x128, .bf16⟩
  | .hbm, ⟨2, _⟩ => ⟨S_, .f32⟩
  | .hbm, ⟨3, _⟩ => ⟨S8192x2048, .f32⟩
  | .hbm, ⟨4, _⟩ => ⟨S128x2048, .f32⟩
  | .hbm, ⟨5, _⟩ => ⟨S2048x128, .f32⟩
  | .hbm, ⟨6, _⟩ => ⟨S8192x128, .f32⟩
  | .hbm, ⟨7, _⟩ => ⟨S8192x128, .f32⟩
  | .hbm, ⟨8, _⟩ => ⟨S8192x2048, .f32⟩
  | _, _ => ⟨S128x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S8192x2048 : Shape := ⟨2, ![8192, 2048]⟩
abbrev S128x2048 : Shape := ⟨2, ![128, 2048]⟩
abbrev S8192x128 : Shape := ⟨2, ![8192, 128]⟩
abbrev S1024x2048 : Shape := ⟨2, ![1024, 2048]⟩
abbrev S1024x128 : Shape := ⟨2, ![1024, 128]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x128, .f32⟩
  | .local _ .vmem, ⟨0, _⟩ => ⟨S1024x2048, .bf16⟩
  | .local _ .vmem, ⟨1, _⟩ => ⟨S1024x2048, .bf16⟩
  | .local _ .vmem, ⟨2, _⟩ => ⟨S128x2048, .bf16⟩
  | .local _ .vmem, ⟨3, _⟩ => ⟨S1024x128, .f32⟩
  | .local _ .vmem, ⟨4, _⟩ => ⟨S1024x128, .f32⟩
  | .local _ .vmem, ⟨5, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S128x2048 : Shape := ⟨2, ![128, 2048]⟩
abbrev S2048x128 : Shape := ⟨2, ![2048, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S128x2048, .bf16⟩
  | .hbm, ⟨2, _⟩ => ⟨S8192x2048, .f32⟩
  | .hbm, ⟨3, _⟩ => ⟨S128x2048, .f32⟩
  | .hbm, ⟨4, _⟩ => ⟨S2048x128, .f32⟩
  | .hbm, ⟨5, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S8192x22528 : Shape := ⟨2, ![8192, 22528]⟩
abbrev S8192x2048 : Shape := ⟨2, ![8192, 2048]⟩
abbrev S512x2048 : Shape := ⟨2, ![512, 2048]⟩

abbrev nBuf : Space → Nat
  | .hbm => 6
  | .vmem => 10
  | .smem => 0
  | _ => 0

abbrev bufTy : (tb : Table) → Fin (tcTables nBuf tb) → BufTy
  | .hbm, ⟨0, _⟩ => ⟨S8192x22528, .bf16⟩
  | .hbm, ⟨1, _⟩ => ⟨S8192x2048, .bf16⟩
  | .hbm, ⟨2, _⟩ => ⟨S8192x2048, .bf16⟩
  | .hbm, ⟨3, _⟩ => ⟨S8192x22528, .bf16⟩
  | .hbm, ⟨4, _⟩ => ⟨S8192x22528, .bf16⟩
  | .hbm, ⟨5, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference20Ideal.lean ====
abbrev S8192x22528 : Shape := ⟨2, ![8192, 22528]⟩
abbrev S8192x2048 : Shape := ⟨2, ![8192, 2048]⟩
abbrev S_ : Shape := ⟨0, ![]⟩
abbrev S8192x18432 : Shape := ⟨2, ![8192, 18432]⟩

abbrev nBuf : Space → Nat
  | .hbm => 29
  | .vmem => 0
  | .smem => 0
  | _ => 0

abbrev bufTy : (tb : Table) → Fin (tcTables nBuf tb) → BufTy
  | .hbm, ⟨0, _⟩ => ⟨S8192x22528, .bf16⟩
  | .hbm, ⟨1, _⟩ => ⟨S8192x2048, .bf16⟩
  | .hbm, ⟨2, _⟩ => ⟨S8192x2048, .bf16⟩
  | .hbm, ⟨3, _⟩ => ⟨S8192x22528, .bf16⟩
  | .hbm, ⟨4, _⟩ => ⟨S8192x2048, .bf16⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x18432, .bf16⟩
  | .hbm, ⟨25, _⟩ => ⟨S8192x2048, .bf16⟩
  | .hbm, ⟨26, _⟩ => ⟨S8192x2048, .bf16⟩
  | .hbm, ⟨27, _⟩ => ⟨S8192x22528, .bf16⟩
  | .hbm, ⟨28, _⟩ => ⟨S8192x2048, .bf16⟩
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Kernel21.lean ====
abbrev S8192x22528 : Shape := ⟨2, ![8192, 22528]⟩
abbrev S8192x2048 : Shape := ⟨2, ![8192, 2048]⟩
abbrev S512x2048 : Shape := ⟨2, ![512, 2048]⟩

abbrev nBuf : Space → Nat
  | .hbm => 4
  | .vmem => 10
  | .smem => 0
  | _ => 0

abbrev bufTy : (tb : Table) → Fin (tcTables nBuf tb) → BufTy
  | .hbm, ⟨0, _⟩ => ⟨S8192x22528, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | _, _ => ⟨S8192x22528, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference21Ideal.lean ====
abbrev S8192x22528 : Shape := ⟨2, ![8192, 22528]⟩
abbrev S8192x2048 : Shape := ⟨2, ![8192, 2048]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x22528, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .bf16⟩
  | _, _ => ⟨S8192x22528, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.FarBase.lean ====
module

public import proofs.«01_k».proof.Proof.Gen.KernelIdeal.Skeleton
public import proofs.«01_k».proof.Proof.Gen.KernelIdeal.Frame

@[expose] public section

set_option maxRecDepth 16384

noncomputable section

namespace Cert.KernelIdeal.Far

open Idealize.ShloMosaic Idealize.ShloMosaic.TcCoe Idealize.ShloMosaic.Tactic
open Cert.KernelIdeal.Gen

/-- The body's first conditional: the first grid point. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 := by decide +kernel

/-- The body's second conditional: a grid point that has a block of queries. -/
abbrev hasBlock (i : grid0.Coords) : Prop := k0_cond2 i = 1#1

theorem hasBlock_iff : ∀ t : Fin cfg0.N, hasBlock (grid0.coords t) ↔ t.val < 64 := by decide +kernel

/-- The body's third conditional: the last grid point. -/
abbrev atLast (i : grid0.Coords) : Prop := k0_cond3 i = 1#1

theorem atLast_iff : ∀ t : Fin cfg0.N, atLast (grid0.coords t) ↔ t.val = 64 := by decide +kernel

end Cert.KernelIdeal.Far

end
-- ==== Proof.FarRunA.lean ====
module

public import proofs.«01_k».proof.Proof.FarBase

@[expose] public section

set_option maxRecDepth 16384

noncomputable section

namespace Cert.KernelIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- The body at the first grid point: the two carried buffers are cleared, then every head's gradients are computed. What it leaves in each buffer it
    stores into is a list of pieces, the last store first; the run of the body finds the lists. -/
def runA (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S16x1x128 .f32) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S1x128x2048 .f32) (harg15 : arg15.IsWhole) (arg16 : Memref sig .tc .vmem S1x128x2048 .f32) (harg16 : arg16.IsWhole)
    (hc0 : atFirst i) (hc1 : hasBlock i) (hc2 : ¬atLast i)
    (x0 : Vec F S128x2048 .bf16) (x1 : Vec F S128x2048 .bf16) (x2 : Vec F S128x2048 .bf16) (x3 : Vec F S128x2048 .bf16) (x4 : Vec F S128x2048 .bf16) (x5 : Vec F S128x2048 .bf16) (x6 : Vec F S128x128 .f32) (x7 : Vec F S128x128 .f32) (x8 : Vec F S128x256 .f32) (x9 : Vec F S128x256 .f32) (x10 : Vec F S16x1x128 .f32) :
    Σ' (L11 : List (View.Piece (Elt F) S128x2048 .bf16)), Σ' (L12 : List (View.Piece (Elt F) S128x2048 .bf16)), Σ' (L13 : List (View.Piece (Elt F) S128x2048 .bf16)), Σ' (LS0 : List (View.Piece (Elt F) S1x128x2048 .f32)), { LS1 : List (View.Piece (Elt F) S1x128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_attn_bwd_far i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_attn_bwd_far_eq_skeleton]; unfold cc0_attn_bwd_far_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]; · iexists _; iexact HS0
    iexists _; iexact HS1

end Cert.KernelIdeal.Far

end
-- ==== Proof.FarRunB.lean ====
module

public import proofs.«01_k».proof.Proof.FarRunA

@[expose] public section

set_option maxRecDepth 16384

noncomputable section

namespace Cert.KernelIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- The body at a middle grid point: every head's gradients are computed, over the carried buffers `xs0` and `xs1`. What it leaves in each buffer it
    stores into is a list of pieces, the last store first; the run of the body finds the lists. -/
def runB (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S16x1x128 .f32) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S1x128x2048 .f32) (harg15 : arg15.IsWhole) (arg16 : Memref sig .tc .vmem S1x128x2048 .f32) (harg16 : arg16.IsWhole)
    (hc0 : ¬atFirst i) (hc1 : hasBlock i) (hc2 : ¬atLast i)
    (x0 : Vec F S128x2048 .bf16) (x1 : Vec F S128x2048 .bf16) (x2 : Vec F S128x2048 .bf16) (x3 : Vec F S128x2048 .bf16) (x4 : Vec F S128x2048 .bf16) (x5 : Vec F S128x2048 .bf16) (x6 : Vec F S128x128 .f32) (x7 : Vec F S128x128 .f32) (x8 : Vec F S128x256 .f32) (x9 : Vec F S128x256 .f32) (x10 : Vec F S16x1x128 .f32) (xs0 : Vec F S1x128x2048 .f32) (xs1 : Vec F S1x128x2048 .f32) :
    Σ' (L11 : List (View.Piece (Elt F) S128x2048 .bf16)), Σ' (L12 : List (View.Piece (Elt F) S128x2048 .bf16)), Σ' (L13 : List (View.Piece (Elt F) S128x2048 .bf16)), Σ' (LS0 : List (View.Piece (Elt F) S1x128x2048 .f32)), { LS1 : List (View.Piece (Elt F) S1x128x2048 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare xs0 ∗ owns (c : Thread nD τ) arg16 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ f, arg16.view.loc (c : Thread nD τ) ↦[arg16.view.set]{fullShare} arg16.view.writes (Elt F) f LS1)) -∗ K ⟨⟩))
          ⊢ wp frame (wpE (defs₀ (F := F)) Variants.none c none) E (cc0_attn_bwd_far i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, ?_, ?_, ?_, fun E K => ?run⟩
  case run =>
    simp only [cc0_attn_bwd_far_eq_skeleton]; unfold cc0_attn_bwd_far_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]; · iexists _; iexact H11
    isplitl [H12]; · iexists _; iexact H12
    isplitl [H13]; · iexists _; iexact H13
    isplitl [HS0]; · iexists _; iexact HS0
    iexists _; iexact HS1

end Cert.KernelIdeal.Far

end
-- ==== Proof.FarRunC.lean ====
module

public import proofs.«01_k».proof.Proof.FarRunB

@[expose] public section

set_option maxRecDepth 16384

noncomputable section

namespace Cert.KernelIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

set_option maxHeartbeats 8000000 in
/-- The body at the last grid point: the carried buffers are written out; the block of query gradients stays as it was (`y`). What it leaves in each buffer it
    stores into is a list of pieces, the last store first; the run of the body finds the lists. -/
def runC (c : Dev nD) (i : grid0.Coords) (arg1 : Memref sig .tc .vmem S128x2048 .bf16) (harg1 : arg1.IsWhole) (arg2 : Memref sig .tc .vmem S128x2048 .bf16) (harg2 : arg2.IsWhole) (arg3 : Memref sig .tc .vmem S128x2048 .bf16) (harg3 : arg3.IsWhole) (arg4 : Memref sig .tc .vmem S128x2048 .bf16) (harg4 : arg4.IsWhole) (arg5 : Memref sig .tc .vmem S128x2048 .bf16) (harg5 : arg5.IsWhole) (arg6 : Memref sig .tc .vmem S128x2048 .bf16) (harg6 : arg6.IsWhole) (arg7 : Memref sig .tc .vmem S128x128 .f32) (harg7 : arg7.IsWhole) (arg8 : Memref sig .tc .vmem S128x128 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S16x1x128 .f32) (harg11 : arg11.IsWhole) (arg12 : Memref sig .tc .vmem S128x2048 .bf16) (harg12 : arg12.IsWhole) (arg13 : Memref sig .tc .vmem S128x2048 .bf16) (harg13 : arg13.IsWhole) (arg14 : Memref sig .tc .vmem S128x2048 .bf16) (harg14 : arg14.IsWhole) (arg15 : Memref sig .tc .vmem S1x128x2048 .f32) (harg15 : arg15.IsWhole) (arg16 : Memref sig .tc .vmem S1x128x2048 .f32) (harg16 : arg16.IsWhole)
    (hc0 : ¬atFirst i) (hc1 : ¬hasBlock i) (hc2 : atLast i)
    (x0 : Vec F S128x2048 .bf16) (x1 : Vec F S128x2048 .bf16) (x2 : Vec F S128x2048 .bf16) (x3 : Vec F S128x2048 .bf16) (x4 : Vec F S128x2048 .bf16) (x5 : Vec F S128x2048 .bf16) (x6 : Vec F S128x128 .f32) (x7 : Vec F S128x128 .f32) (x8 : Vec F S128x256 .f32) (x9 : Vec F S128x256 .f32) (x10 : Vec F S16x1x128 .f32) (y : Vec F S128x2048 .bf16) (xs0 : Vec F S1x128x2048 .f32) (xs1 : Vec F S1x128x2048 .f32) :
    Σ' (L12 : List (View.Piece (Elt F) S128x2048 .bf16)), { L13 : List (View.Piece (Elt F) S128x2048 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare y ∗ (∃ d, owns (c : Thread nD τ) arg13 fullShare d) ∗ (∃ d, owns (c : Thread nD τ) arg14 fullShare d) ∗ owns (c : Thread nD τ) arg15 fullShare xs0 ∗ owns (c : Thread nD τ) arg16 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare y ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13) ∗ owns (c : Thread nD τ) arg15 fullShare xs0 ∗ owns (c : Thread nD τ) arg16 fullShare xs1) -∗ K ⟨⟩))
          ⊢ wp frame (wpE (defs₀ (F := F)) Variants.none c none) E (cc0_attn_bwd_far i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_attn_bwd_far_eq_skeleton]; unfold cc0_attn_bwd_far_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg15.eq_unread hfs0; obtain rfl := harg16.eq_unread hfs1
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    isplitl [H13]; · iexists _; iexact H13
    isplitl [HS0]
    · iexists _; isplitr; · ipureintro; exact harg15.read_unread _
      iexact HS0
    iexists _; isplitr; · ipureintro; exact harg16.read_unread _
    iexact HS1

end Cert.KernelIdeal.Far

end
-- ==== Proof.FarHeads.lean ====
module

public import proofs.«01_k».proof.Proof.FarBase
public import Idealize.ShloMosaic.Lib.Writes

@[expose] public section

set_option maxRecDepth 16384

noncomputable section

namespace Cert.KernelIdeal.Far

open Idealize.ShloMosaic Idealize.ShloMosaic.TcCoe Idealize.ShloMosaic.Tactic
open Cert.KernelIdeal.Gen

variable {F : FTy → Type} [FloatOps F] [Named F]

/-! ## What the body computes for one head

The body treats its sixteen heads alike: it reads 128 columns of every block, works on them, and stores 128 columns. -/

theorem headFits : ∀ (h : Fin 16) (a : Fin 2), (![0, 128 * h.val] : Fin 2 → Nat) a + S128x128.size a ≤ S128x2048.size a := by
  decide

theorem slopeFits : ∀ (h : Fin 16) (a : Fin 3), (![h.val, 0, 0] : Fin 3 → Nat) a + S1x1x128.size a ≤ S16x1x128.size a := by
  decide

theorem columnSlices : ∀ h : Fin 16, S128x128.Slices ![0, h.val] S128x1 := by decide

/-- Head `h`'s 128 columns of a block. -/
def headRect (h : Fin 16) : Rect S128x2048 := Rect.unit ![0, 128 * h.val] S128x128.size (headFits h)

/-- Head `h`'s row of the slopes. -/
def slopeRect (h : Fin 16) : Rect S16x1x128 := Rect.unit ![h.val, 0, 0] S1x1x128.size (slopeFits h)

/-- Where the body keeps head `h`'s columns of a carried buffer, as it computes the place. -/
def carryOff (i : grid0.Coords) (h : Fin 16) : Fin 3 → Nat :=
  (![k0_off1 i, k0_off2 i, k0_off3 i, k0_off4 i, k0_off5 i, k0_off6 i, k0_off7 i, k0_off8 i, k0_off9 i, k0_off10 i, k0_off11 i,
    k0_off12 i, k0_off13 i, k0_off14 i, k0_off15 i, k0_off16 i] : Fin 16 → Fin 3 → Nat) h

theorem carryOff_eq : ∀ (i : grid0.Coords) (h : Fin 16), carryOff i h = ![0, 0, 128 * h.val] := by decide +kernel

theorem carryFits (i : grid0.Coords) (h : Fin 16) (a : Fin 3) : carryOff i h a + S1x128x128.size a ≤ S1x128x2048.size a := by
  rw [carryOff_eq]
  exact (by decide : ∀ (h : Fin 16) (a : Fin 3), (![0, 0, 128 * h.val] : Fin 3 → Nat) a + S1x128x128.size a ≤ S1x128x2048.size a) h a

def carryRect (i : grid0.Coords) (h : Fin 16) : Rect S1x128x2048 := Rect.unit (carryOff i h) S1x128x128.size (carryFits i h)

/-- What the body loads for one head, and the parts all heads share: the mask with the log-multiplicities `bias`, the
    distances `dist`, the log-sums `lse` and the products `delta` of the block's rows. -/
structure Loads (F : FTy → Type) [FloatOps F] where
  q : Vec F S128x128 .bf16
  kPrev : Vec F S128x128 .bf16
  kOwn : Vec F S128x128 .bf16
  vPrev : Vec F S128x128 .bf16
  vOwn : Vec F S128x128 .bf16
  dout : Vec F S128x128 .bf16
  slope : Vec F S1x1x128 .f32

/-- The mask with the log-multiplicities, at a grid point. -/
def biasAt (i : grid0.Coords) (logn : Vec F S128x256 .f32) : FVec F S128x256 .f32 := k0_pay7 (BitVec.ofNat 32 (i 0).val) logn

/-- Two blocks of 128 rows, one above the other. -/
def stacked (a b : Vec F S128x128 .bf16) : FVec F S256x128 .bf16 := k0_pay10 a b

/-- Column `h` of the table of log-sums (or of products), for every key. -/
def spread (h : Fin 16) (t : Vec F S128x128 .f32) : FVec F S128x256 .f32 :=
  broadcastTo S128x256 (extractStridedSlice S128x1 ![0, h.val] (shapeCast S128x128 t shapeCasts_S128x128_S128x128) (columnSlices h))
    broadcasts_S128x1_S128x256

/-- The attention weights of the block's queries over the keys of its own block and the one before. -/
def weights (bias : FVec F S128x256 .f32) (dist : Vec F S128x256 .f32) (lse : Vec F S128x128 .f32) (h : Fin 16) (X : Loads F) :
    FVec F S128x256 .f32 :=
  exp (subf (addf (k0_pay12 X.kPrev X.kOwn X.q)
    (subf bias (mulf (broadcastTo S128x256 (k0_pay13 X.slope) broadcasts_S1x1_S128x256)
      (shapeCast S128x256 dist shapeCasts_S128x256_S128x256)))) (spread h lse))

/-- The gradient of the scores, times the scale. -/
def scoreGrad (bias : FVec F S128x256 .f32) (dist : Vec F S128x256 .f32) (lse delta : Vec F S128x128 .f32) (h : Fin 16)
    (X : Loads F) : FVec F S128x256 .bf16 :=
  truncf .bf16 (mulf (mulf (weights bias dist lse h X)
    (subf (matmul dot_S128x128_S256x128_S128x256_1_1_0_0_n_n none (shapeCast S128x128 X.dout shapeCasts_S128x128_S128x128)
      (stacked X.vPrev X.vOwn) (constant S128x256 .f32 0x00000000#32)) (spread h delta)))
    (broadcast S128x256 (Scalar.ofBits .f32 0x3DB504F3#32))) bitsLt_bf16_f32

/-- The gradient of the queries. -/
def queryGrad (bias : FVec F S128x256 .f32) (dist : Vec F S128x256 .f32) (lse delta : Vec F S128x128 .f32) (h : Fin 16)
    (X : Loads F) : FVec F S128x128 .bf16 :=
  truncf .bf16 (matmul dot_S128x256_S256x128_S128x128_1_0_0_1_n_n none (scoreGrad bias dist lse delta h X)
    (stacked X.kPrev X.kOwn) (constant S128x128 .f32 0x00000000#32)) bitsLt_bf16_f32

/-- What the block's queries add to the gradient of the keys of both blocks. -/
def keyGrad (bias : FVec F S128x256 .f32) (dist : Vec F S128x256 .f32) (lse delta : Vec F S128x128 .f32) (h : Fin 16)
    (X : Loads F) : FVec F S256x128 .f32 :=
  matmul dot_S128x256_S128x128_S256x128_0_0_1_1_n_n none (scoreGrad bias dist lse delta h X)
    (shapeCast S128x128 X.q shapeCasts_S128x128_S128x128) (constant S256x128 .f32 0x00000000#32)

/-- What the block's queries add to the gradient of the values of both blocks. -/
def valueGrad (bias : FVec F S128x256 .f32) (dist : Vec F S128x256 .f32) (lse : Vec F S128x128 .f32) (h : Fin 16)
    (X : Loads F) : FVec F S256x128 .f32 :=
  matmul dot_S128x256_S128x128_S256x128_0_0_1_1_n_n none (truncf .bf16 (weights bias dist lse h X) bitsLt_bf16_f32)
    (shapeCast S128x128 X.dout shapeCasts_S128x128_S128x128) (constant S256x128 .f32 0x00000000#32)

/-- The block before is finished: what was carried plus the upper half of what this block adds. -/
def finished (carried : Vec F S1x128x128 .f32) (w : FVec F S256x128 .f32) : FVec F S128x128 .bf16 := k0_pay21 w carried

/-- The lower half is carried on. -/
def carriedOn (w : FVec F S256x128 .f32) : FVec F S1x128x128 .f32 := k0_pay22 w

/-- The heads below `n`, the last first: the order in which stores are listed. -/
def headsBelow : Nat → List (Fin 16)
  | 0 => []
  | n + 1 => Fin.ofNat 16 n :: headsBelow n

/-- The stores of a block by the heads below `n`, the last first. -/
def headPieces {e : EltTy} (n : Nat) (w : Fin 16 → S128x128.Idx → Elt F e) : List (View.Piece (Elt F) S128x2048 e) :=
  (headsBelow n).map fun h => ⟨headRect h, w h⟩

/-- The stores of a carried buffer by the heads below `n`. -/
def carryPieces (i : grid0.Coords) (n : Nat) (w : Fin 16 → S1x128x128.Idx → Elt F .f32) : List (View.Piece (Elt F) S1x128x2048 .f32) :=
  (headsBelow n).map fun h => ⟨carryRect i h, w h⟩

/-- The whole of a carried buffer. -/
def wholeRect : Rect S1x128x2048 := Rect.unit ![0, 0, 0] S1x128x2048.size inb_S1x128x2048_S1x128x2048_0_0_0

/-! ## Blocks as a whole -/

/-- A block whose 128 columns of head `h` are `w h`. -/
def byHead {e : EltTy} (w : Fin 16 → S128x128.Idx → Elt F e) : Vec F S128x2048 e := fun y =>
  w ⟨(y 1).val / 128, Nat.div_lt_of_lt_mul (y 1).isLt⟩ fun | 0 => (y 0 : Fin 128) | 1 => (⟨(y 1).val % 128, Nat.mod_lt _ (by decide)⟩ : Fin 128)

/-- A carried buffer whose columns of head `h` are `w h`. -/
def byHeadCarry (w : Fin 16 → S1x128x128.Idx → Elt F .f32) : Vec F S1x128x2048 .f32 := fun y =>
  w ⟨(y 2).val / 128, Nat.div_lt_of_lt_mul (y 2).isLt⟩ fun | 0 => (y 0 : Fin 1) | 1 => (y 1 : Fin 128) | 2 => (⟨(y 2).val % 128, Nat.mod_lt _ (by decide)⟩ : Fin 128)

theorem mem_headsBelow : ∀ (n : Nat), n ≤ 16 → ∀ h : Fin 16, h ∈ headsBelow n ↔ h.val < n := by
  intro n
  induction n with
  | zero => intro _ h; simp [headsBelow]
  | succ n ih =>
    intro hn h
    rw [headsBelow, List.mem_cons, ih (by omega) h, Fin.ext_iff, Fin.val_ofNat, Nat.mod_eq_of_lt (by omega)]
    omega

theorem byHead_emb {e : EltTy} (w : Fin 16 → S128x128.Idx → Elt F e) (h : Fin 16) (x : S128x128.Idx) :
    byHead w ((headRect h).emb x) = w h x := by
  have h1 : (((headRect h).emb x) 1).val = 128 * h.val + (x 1).val := by
    show 128 * h.val + 1 * (x 1).val = _; omega
  have hx : (x 1).val < 128 := (x 1).isLt
  unfold byHead
  congr 1
  · exact Fin.ext (by show _ / 128 = h.val; rw [h1]; omega)
  · funext a
    match a with
    | 0 => exact Fin.ext (by show 0 + 1 * (x 0).val = _; omega)
    | 1 => exact Fin.ext (by show _ % 128 = (x 1).val; rw [h1]; omega)

theorem byHeadCarry_emb (i : grid0.Coords) (w : Fin 16 → S1x128x128.Idx → Elt F .f32) (h : Fin 16) (x : S1x128x128.Idx) :
    byHeadCarry w ((carryRect i h).emb x) = w h x := by
  have h0 : (((carryRect i h).emb x) 0).val = (x 0).val := by
    show carryOff i h 0 + 1 * (x 0).val = _; rw [carryOff_eq]; show 0 + 1 * _ = _; omega
  have h1 : (((carryRect i h).emb x) 1).val = (x 1).val := by
    show carryOff i h 1 + 1 * (x 1).val = _; rw [carryOff_eq]; show 0 + 1 * _ = _; omega
  have h2 : (((carryRect i h).emb x) 2).val = 128 * h.val + (x 2).val := by
    show carryOff i h 2 + 1 * (x 2).val = _; rw [carryOff_eq]; show 128 * h.val + 1 * _ = _; omega
  have hx : (x 2).val < 128 := (x 2).isLt
  unfold byHeadCarry
  congr 1
  · exact Fin.ext (by show _ / 128 = h.val; rw [h2]; omega)
  · funext a
    match a with
    | 0 => exact Fin.ext h0
    | 1 => exact Fin.ext h1
    | 2 => exact Fin.ext (by show _ % 128 = (x 2).val; rw [h2]; omega)

/-- Storing all heads leaves the block of all heads, whatever it held before. -/
theorem read_headPieces {e : EltTy} {sig : RefSig} {κ : Kind} {sp : Space} (v : View sig κ sp S128x2048 e)
    (f : v.ty.Contents (Elt F)) (w : Fin 16 → S128x128.Idx → Elt F e) :
    v.read (Elt F) (v.writes (Elt F) f (headPieces 16 w)) = byHead w := by
  funext y
  refine View.read_writes_apply_of_pieces v f (byHead w) (headPieces 16 w) ?_ y ?_
  · intro p hp x
    obtain ⟨h, -, rfl⟩ := List.mem_map.mp hp
    exact (byHead_emb w h x).symm
  · refine ⟨⟨headRect ⟨(y 1).val / 128, Nat.div_lt_of_lt_mul (y 1).isLt⟩, w _⟩,
      List.mem_map.mpr ⟨_, (mem_headsBelow 16 le_rfl _).mpr (Fin.isLt _), rfl⟩, ?_⟩
    refine (Rect.mem_set_unit (inb := headFits _)).mpr fun a => ?_
    match a with
    | 0 => exact ⟨Nat.zero_le _, by show (y 0).val < 0 + 128; have : (y 0).val < 128 := (y 0).isLt; omega⟩
    | 1 => exact ⟨by show 128 * ((y 1).val / 128) ≤ (y 1).val; omega, by show (y 1).val < 128 * ((y 1).val / 128) + 128; omega⟩

/-- Likewise for a carried buffer, over earlier stores. -/
theorem read_carryPieces {sig : RefSig} {κ : Kind} {sp : Space} (v : View sig κ sp S1x128x2048 .f32)
    (f : v.ty.Contents (Elt F)) (i : grid0.Coords) (w : Fin 16 → S1x128x128.Idx → Elt F .f32) :
    v.read (Elt F) (v.writes (Elt F) f (carryPieces i 16 w)) = byHeadCarry w := by
  funext y
  refine View.read_writes_apply_of_pieces v f (byHeadCarry w) (carryPieces i 16 w) ?_ y ?_
  · intro p hp x
    obtain ⟨h, -, rfl⟩ := List.mem_map.mp hp
    exact (byHeadCarry_emb i w h x).symm
  · refine ⟨⟨carryRect i ⟨(y 2).val / 128, Nat.div_lt_of_lt_mul (y 2).isLt⟩, w _⟩,
      List.mem_map.mpr ⟨_, (mem_headsBelow 16 le_rfl _).mpr (Fin.isLt _), rfl⟩, ?_⟩
    refine (Rect.mem_set_unit (inb := carryFits i _)).mpr fun a => ?_
    rw [carryOff_eq]
    match a with
    | 0 => exact ⟨Nat.zero_le _, by show (y 0).val < 0 + 1; have : (y 0).val < 1 := (y 0).isLt; omega⟩
    | 1 => exact ⟨Nat.zero_le _, by show (y 1).val < 0 + 128; have : (y 1).val < 128 := (y 1).isLt; omega⟩
    | 2 => exact ⟨by show 128 * ((y 2).val / 128) ≤ (y 2).val; omega, by show (y 2).val < 128 * ((y 2).val / 128) + 128; omega⟩

/-- A head's columns of a carried buffer, read after the stores of the heads before it over a fill of the whole buffer,
    are the fill's. -/
theorem readCov_carry {sig : RefSig} {κ : Kind} {sp : Space} (v : View sig κ sp S1x128x2048 .f32)
    (i : grid0.Coords) (w : Fin 16 → S1x128x128.Idx → Elt F .f32) (z : Vec F S1x128x2048 .f32) (h : Fin 16) :
    v.readCov (carryPieces i h.val w ++ [⟨wholeRect, z⟩]) (carryRect i h).toLoadRect = fun x => z ((carryRect i h).emb x) := by
  funext x
  show v.read (Elt F) (v.writes (Elt F) v.junk (carryPieces i h.val w ++ [⟨wholeRect, z⟩])) ((carryRect i h).emb x) = _
  rw [View.writes_append, View.read_writes_apply_of_forall_not_mem]
  · have he : wholeRect.emb ((carryRect i h).emb x) = (carryRect i h).emb x := by
      funext a
      match a with
      | 0 => exact Fin.ext (by show 0 + 1 * _ = _; omega)
      | 1 => exact Fin.ext (by show 0 + 1 * _ = _; omega)
      | 2 => exact Fin.ext (by show 0 + 1 * _ = _; omega)
    conv_lhs => rw [← he]
    exact View.read_writes_cons_emb v _ wholeRect z [] _
  · intro p hp hy
    obtain ⟨h', hh, rfl⟩ := List.mem_map.mp hp
    have hlt := (mem_headsBelow h.val (Nat.le_of_lt h.isLt) h').mp hh
    have h2 := ((Rect.mem_set_unit (inb := carryFits i h')).mp hy 2).2
    have e2 : (((carryRect i h).emb x) 2).val = 128 * h.val + (x 2).val := by
      show carryOff i h 2 + 1 * (x 2).val = _; rw [carryOff_eq]; show 128 * h.val + 1 * _ = _; omega
    rw [e2, carryOff_eq] at h2
    have h3 : 128 * h.val + (x 2).val < 128 * h'.val + 128 := h2
    omega

end Cert.KernelIdeal.Far

end
-- ==== Proof.FarStored.lean ====
module

public import proofs.«01_k».proof.Proof.FarRunC
public import proofs.«01_k».proof.Proof.FarHeads

@[expose] public section

set_option maxRecDepth 16384

noncomputable section

namespace Cert.KernelIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

variable (c : Dev nD) (i : grid0.Coords)
variable (arg1 : Memref sig .tc .vmem S128x2048 .bf16) (harg1 : arg1.IsWhole) (arg2 : Memref sig .tc .vmem S128x2048 .bf16)
  (harg2 : arg2.IsWhole) (arg3 : Memref sig .tc .vmem S128x2048 .bf16) (harg3 : arg3.IsWhole)
  (arg4 : Memref sig .tc .vmem S128x2048 .bf16) (harg4 : arg4.IsWhole) (arg5 : Memref sig .tc .vmem S128x2048 .bf16)
  (harg5 : arg5.IsWhole) (arg6 : Memref sig .tc .vmem S128x2048 .bf16) (harg6 : arg6.IsWhole)
  (arg7 : Memref sig .tc .vmem S128x128 .f32) (harg7 : arg7.IsWhole) (arg8 : Memref sig .tc .vmem S128x128 .f32)
  (harg8 : arg8.IsWhole) (arg9 : Memref sig .tc .vmem S128x256 .f32) (harg9 : arg9.IsWhole)
  (arg10 : Memref sig .tc .vmem S128x256 .f32) (harg10 : arg10.IsWhole) (arg11 : Memref sig .tc .vmem S16x1x128 .f32)
  (harg11 : arg11.IsWhole) (arg12 : Memref sig .tc .vmem S128x2048 .bf16) (harg12 : arg12.IsWhole)
  (arg13 : Memref sig .tc .vmem S128x2048 .bf16) (harg13 : arg13.IsWhole) (arg14 : Memref sig .tc .vmem S128x2048 .bf16)
  (harg14 : arg14.IsWhole) (arg15 : Memref sig .tc .vmem S1x128x2048 .f32) (harg15 : arg15.IsWhole)
  (arg16 : Memref sig .tc .vmem S1x128x2048 .f32) (harg16 : arg16.IsWhole)
variable (x0 x1 x2 x3 x4 x5 : Vec F S128x2048 .bf16) (x6 x7 : Vec F S128x128 .f32) (x8 x9 : Vec F S128x256 .f32)
  (x10 : Vec F S16x1x128 .f32) (xs0 xs1 : Vec F S1x128x2048 .f32)

/-! ## What the runs of the body stored, head by head -/

/-- What the body loads for head `h`. -/
def loaded (h : Fin 16) : Loads F where
  q := arg1.view.readAt (Elt F) (headRect h).toLoadRect (harg1.unread x0)
  kPrev := arg2.view.readAt (Elt F) (headRect h).toLoadRect (harg2.unread x1)
  kOwn := arg3.view.readAt (Elt F) (headRect h).toLoadRect (harg3.unread x2)
  vPrev := arg4.view.readAt (Elt F) (headRect h).toLoadRect (harg4.unread x3)
  vOwn := arg5.view.readAt (Elt F) (headRect h).toLoadRect (harg5.unread x4)
  dout := arg6.view.readAt (Elt F) (headRect h).toLoadRect (harg6.unread x5)
  slope := arg11.view.readAt (Elt F) (slopeRect h).toLoadRect (harg11.unread x10)

/-- The 128 × 128 tables, as loaded. -/
abbrev table (m : Memref sig .tc .vmem S128x128 .f32) (hm : m.IsWhole) (x : Vec F S128x128 .f32) : Vec F S128x128 .f32 :=
  m.view.readAt (Elt F) (Rect.unit (s := S128x128) ![0, 0] S128x128.size inb_S128x128_S128x128_0_0).toLoadRect (hm.unread x)

/-- The 128 × 256 tables, as loaded. -/
abbrev wideTable (m : Memref sig .tc .vmem S128x256 .f32) (hm : m.IsWhole) (x : Vec F S128x256 .f32) : Vec F S128x256 .f32 :=
  m.view.readAt (Elt F) (Rect.unit (s := S128x256) ![0, 0] S128x256.size inb_S128x256_S128x256_0_0).toLoadRect (hm.unread x)

theorem runA_dq (hc0 : atFirst i) (hc1 : hasBlock i) (hc2 : ¬atLast i) :
    (runA c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10).1 =
    headPieces 16 fun h => queryGrad (biasAt i (wideTable arg9 harg9 x8)) (wideTable arg10 harg10 x9) (table arg7 harg7 x6) (table arg8 harg8 x7) h
      (loaded arg1 harg1 arg2 harg2 arg3 harg3 arg4 harg4 arg5 harg5 arg6 harg6 arg11 harg11 x0 x1 x2 x3 x4 x5 x10 h) := by
  sl_kernel_rfl

theorem runA_dk (hc0 : atFirst i) (hc1 : hasBlock i) (hc2 : ¬atLast i) :
    (runA c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10).2.1 =
    headPieces 16 fun h => finished (arg15.view.readCov (carryPieces i h.val (fun h => carriedOn (keyGrad (biasAt i (wideTable arg9 harg9 x8)) (wideTable arg10 harg10 x9) (table arg7 harg7 x6) (table arg8 harg8 x7) h
      (loaded arg1 harg1 arg2 harg2 arg3 harg3 arg4 harg4 arg5 harg5 arg6 harg6 arg11 harg11 x0 x1 x2 x3 x4 x5 x10 h))) ++ [⟨wholeRect, k0_pay1⟩])
      (carryRect i h).toLoadRect)
      (keyGrad (biasAt i (wideTable arg9 harg9 x8)) (wideTable arg10 harg10 x9) (table arg7 harg7 x6) (table arg8 harg8 x7) h
      (loaded arg1 harg1 arg2 harg2 arg3 harg3 arg4 harg4 arg5 harg5 arg6 harg6 arg11 harg11 x0 x1 x2 x3 x4 x5 x10 h)) := by
  sl_kernel_rfl

theorem runA_dv (hc0 : atFirst i) (hc1 : hasBlock i) (hc2 : ¬atLast i) :
    (runA c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10).2.2.1 =
    headPieces 16 fun h => finished (arg16.view.readCov (carryPieces i h.val (fun h => carriedOn (valueGrad (biasAt i (wideTable arg9 harg9 x8)) (wideTable arg10 harg10 x9) (table arg7 harg7 x6) h
      (loaded arg1 harg1 arg2 harg2 arg3 harg3 arg4 harg4 arg5 harg5 arg6 harg6 arg11 harg11 x0 x1 x2 x3 x4 x5 x10 h))) ++ [⟨wholeRect, k0_pay2⟩])
      (carryRect i h).toLoadRect)
      (valueGrad (biasAt i (wideTable arg9 harg9 x8)) (wideTable arg10 harg10 x9) (table arg7 harg7 x6) h
      (loaded arg1 harg1 arg2 harg2 arg3 harg3 arg4 harg4 arg5 harg5 arg6 harg6 arg11 harg11 x0 x1 x2 x3 x4 x5 x10 h)) := by
  sl_kernel_rfl

theorem runA_ck (hc0 : atFirst i) (hc1 : hasBlock i) (hc2 : ¬atLast i) :
    (runA c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10).2.2.2.1 =
    carryPieces i 16 (fun h => carriedOn (keyGrad (biasAt i (wideTable arg9 harg9 x8)) (wideTable arg10 harg10 x9) (table arg7 harg7 x6) (table arg8 harg8 x7) h
      (loaded arg1 harg1 arg2 harg2 arg3 harg3 arg4 harg4 arg5 harg5 arg6 harg6 arg11 harg11 x0 x1 x2 x3 x4 x5 x10 h))) ++ [⟨wholeRect, k0_pay1⟩] := by
  sl_kernel_rfl

theorem runA_cv (hc0 : atFirst i) (hc1 : hasBlock i) (hc2 : ¬atLast i) :
    (runA c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10).2.2.2.2.1 =
    carryPieces i 16 (fun h => carriedOn (valueGrad (biasAt i (wideTable arg9 harg9 x8)) (wideTable arg10 harg10 x9) (table arg7 harg7 x6) h
      (loaded arg1 harg1 arg2 harg2 arg3 harg3 arg4 harg4 arg5 harg5 arg6 harg6 arg11 harg11 x0 x1 x2 x3 x4 x5 x10 h))) ++ [⟨wholeRect, k0_pay2⟩] := by
  sl_kernel_rfl

theorem runB_dq (hc0 : ¬atFirst i) (hc1 : hasBlock i) (hc2 : ¬atLast i) :
    (runB c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10 xs0 xs1).1 =
    headPieces 16 fun h => queryGrad (biasAt i (wideTable arg9 harg9 x8)) (wideTable arg10 harg10 x9) (table arg7 harg7 x6) (table arg8 harg8 x7) h
      (loaded arg1 harg1 arg2 harg2 arg3 harg3 arg4 harg4 arg5 harg5 arg6 harg6 arg11 harg11 x0 x1 x2 x3 x4 x5 x10 h) := by
  sl_kernel_rfl

theorem runB_dk (hc0 : ¬atFirst i) (hc1 : hasBlock i) (hc2 : ¬atLast i) :
    (runB c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10 xs0 xs1).2.1 =
    headPieces 16 fun h => finished (arg15.view.readAt (Elt F) (carryRect i h).toLoadRect (harg15.unread xs0))
      (keyGrad (biasAt i (wideTable arg9 harg9 x8)) (wideTable arg10 harg10 x9) (table arg7 harg7 x6) (table arg8 harg8 x7) h
      (loaded arg1 harg1 arg2 harg2 arg3 harg3 arg4 harg4 arg5 harg5 arg6 harg6 arg11 harg11 x0 x1 x2 x3 x4 x5 x10 h)) := by
  sl_kernel_rfl

theorem runB_dv (hc0 : ¬atFirst i) (hc1 : hasBlock i) (hc2 : ¬atLast i) :
    (runB c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10 xs0 xs1).2.2.1 =
    headPieces 16 fun h => finished (arg16.view.readAt (Elt F) (carryRect i h).toLoadRect (harg16.unread xs1))
      (valueGrad (biasAt i (wideTable arg9 harg9 x8)) (wideTable arg10 harg10 x9) (table arg7 harg7 x6) h
      (loaded arg1 harg1 arg2 harg2 arg3 harg3 arg4 harg4 arg5 harg5 arg6 harg6 arg11 harg11 x0 x1 x2 x3 x4 x5 x10 h)) := by
  sl_kernel_rfl

theorem runB_ck (hc0 : ¬atFirst i) (hc1 : hasBlock i) (hc2 : ¬atLast i) :
    (runB c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10 xs0 xs1).2.2.2.1 =
    carryPieces i 16 (fun h => carriedOn (keyGrad (biasAt i (wideTable arg9 harg9 x8)) (wideTable arg10 harg10 x9) (table arg7 harg7 x6) (table arg8 harg8 x7) h
      (loaded arg1 harg1 arg2 harg2 arg3 harg3 arg4 harg4 arg5 harg5 arg6 harg6 arg11 harg11 x0 x1 x2 x3 x4 x5 x10 h))) := by
  sl_kernel_rfl

theorem runB_cv (hc0 : ¬atFirst i) (hc1 : hasBlock i) (hc2 : ¬atLast i) :
    (runB c i arg1 harg1 arg2 harg2 arg3 harg3 arg4 harg4 arg5 harg5 arg6 harg6 arg7 harg7 arg8 harg8 arg9 harg9 arg10
      harg10 arg11 harg11 arg12 harg12 arg13 harg13 arg14 harg14 arg15 harg15 arg16 harg16 hc0 hc1 hc2 x0 x1 x2 x3 x4 x5 x6
      x7 x8 x9 x10 xs0 xs1).2.2.2.2.1 =
    carryPieces i 16 (fun h => carriedOn (valueGrad (biasAt i (wideTable arg9 harg9 x8)) (wideTable arg10 harg10 x9) (table arg7 harg7 x6) h
      (loaded arg1 harg1 arg2 harg2 arg3 harg3 arg4 harg4 arg5 harg5 arg6 harg6 arg11 harg11 x0 x1 x2 x3 x4 x5 x10 h))) := by
  sl_kernel_rfl

end Cert.KernelIdeal.Far

end
-- ==== Proof.FarRead.lean ====
module

public import proofs.«01_k».proof.Proof.FarStored
public import Idealize.ShloMosaic.Lib.WholeRead
public import Idealize.ShloMosaic.Lib.VecWindow

@[expose] public section

set_option maxRecDepth 16384

noncomputable section

namespace Cert.KernelIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

/-! ## What a grid point leaves, from the blocks it is given -/

/-- The blocks of one grid point: its queries, the keys and values of the block before and of its own, the cotangents,
    the log-sums, the products, the two tables over queries and keys, and the slopes of the heads. -/
structure Blocks (F : FTy → Type) [FloatOps F] where
  q : Vec F S128x2048 .bf16
  kPrev : Vec F S128x2048 .bf16
  kOwn : Vec F S128x2048 .bf16
  vPrev : Vec F S128x2048 .bf16
  vOwn : Vec F S128x2048 .bf16
  dout : Vec F S128x2048 .bf16
  lse : Vec F S128x128 .f32
  delta : Vec F S128x128 .f32
  logn : Vec F S128x256 .f32
  dist : Vec F S128x256 .f32
  slopes : Vec F S16x1x128 .f32

/-- One head's part of the blocks. -/
def Blocks.head (B : Blocks F) (h : Fin 16) : Loads F where
  q := fun x => B.q ((headRect h).emb x)
  kPrev := fun x => B.kPrev ((headRect h).emb x)
  kOwn := fun x => B.kOwn ((headRect h).emb x)
  vPrev := fun x => B.vPrev ((headRect h).emb x)
  vOwn := fun x => B.vOwn ((headRect h).emb x)
  dout := fun x => B.dout ((headRect h).emb x)
  slope := fun x => B.slopes ((slopeRect h).emb x)

/-- One head's part of the gradient of the queries. -/
def dqHead (i : grid0.Coords) (B : Blocks F) (h : Fin 16) : FVec F S128x128 .bf16 :=
  queryGrad (biasAt i B.logn) B.dist B.lse B.delta h (B.head h)

/-- What the grid point adds to one head's part of the gradient of the keys. -/
def dkHead (i : grid0.Coords) (B : Blocks F) (h : Fin 16) : FVec F S256x128 .f32 :=
  keyGrad (biasAt i B.logn) B.dist B.lse B.delta h (B.head h)

/-- What the grid point adds to one head's part of the gradient of the values. -/
def dvHead (i : grid0.Coords) (B : Blocks F) (h : Fin 16) : FVec F S256x128 .f32 :=
  valueGrad (biasAt i B.logn) B.dist B.lse h (B.head h)

/-- The gradient of the queries of the block. -/
def dqOf (i : grid0.Coords) (B : Blocks F) : Vec F S128x2048 .bf16 := byHead (dqHead i B)

/-- The gradient of the keys of the block before, over what was carried. -/
def dkOf (i : grid0.Coords) (B : Blocks F) (z : Vec F S1x128x2048 .f32) : Vec F S128x2048 .bf16 :=
  byHead fun h => finished (fun x => z ((carryRect i h).emb x)) (dkHead i B h)

/-- The gradient of the values of the block before, over what was carried. -/
def dvOf (i : grid0.Coords) (B : Blocks F) (z : Vec F S1x128x2048 .f32) : Vec F S128x2048 .bf16 :=
  byHead fun h => finished (fun x => z ((carryRect i h).emb x)) (dvHead i B h)

/-- What is carried on for the keys. -/
def ckOf (i : grid0.Coords) (B : Blocks F) : Vec F S1x128x2048 .f32 := byHeadCarry fun h => carriedOn (dkHead i B h)

/-- What is carried on for the values. -/
def cvOf (i : grid0.Coords) (B : Blocks F) : Vec F S1x128x2048 .f32 := byHeadCarry fun h => carriedOn (dvHead i B h)

/-- A buffer whose stores read as `X`, whatever it held before, holds `X`. -/
theorem owns_of_writes {s : Shape} {e : EltTy} (c : Dev nD) (m : Memref sig .tc .vmem s e) (L : List (View.Piece (Elt F) s e)) (X : Vec F s e)
    (hX : ∀ f, m.view.read (Elt F) (m.view.writes (Elt F) f L) = X) :
    iprop(∃ f, m.view.loc (c : Thread nD τ) ↦[m.view.set]{fullShare} m.view.writes (Elt F) f L) ⊢
      (owns (c : Thread nD τ) m fullShare X : sProp 𝕄) := by
  unfold owns
  iintro ⟨%f, H⟩
  iexists _
  isplitr
  · ipureintro; exact hX f
  iexact H

variable (c : Dev nD) (i : grid0.Coords)
variable (arg1 : Memref sig .tc .vmem S128x2048 .bf16) (harg1 : arg1.IsWhole)
  (arg2 : Memref sig .tc .vmem S128x2048 .bf16) (harg2 : arg2.IsWhole)
  (arg3 : Memref sig .tc .vmem S128x2048 .bf16) (harg3 : arg3.IsWhole)
  (arg4 : Memref sig .tc .vmem S128x2048 .bf16) (harg4 : arg4.IsWhole)
  (arg5 : Memref sig .tc .vmem S128x2048 .bf16) (harg5 : arg5.IsWhole)
  (arg6 : Memref sig .tc .vmem S128x2048 .bf16) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x256 .f32) (harg9 : arg9.IsWhole)
  (arg10 : Memref sig .tc .vmem S128x256 .f32) (harg10 : arg10.IsWhole)
  (arg11 : Memref sig .tc .vmem S16x1x128 .f32) (harg11 : arg11.IsWhole)
  (arg12 : Memref sig .tc .vmem S128x2048 .bf16) (harg12 : arg12.IsWhole)
  (arg13 : Memref sig .tc .vmem S128x2048 .bf16) (harg13 : arg13.IsWhole)
  (arg14 : Memref sig .tc .vmem S128x2048 .bf16) (harg14 : arg14.IsWhole)
  (arg15 : Memref sig .tc .vmem S1x128x2048 .f32) (harg15 : arg15.IsWhole)
  (arg16 : Memref sig .tc .vmem S1x128x2048 .f32) (harg16 : arg16.IsWhole)
variable (x0 x1 x2 x3 x4 x5 : Vec F S128x2048 .bf16) (x6 x7 : Vec F S128x128 .f32) (x8 x9 : Vec F S128x256 .f32)
  (x10 : Vec F S16x1x128 .f32) (y : Vec F S128x2048 .bf16) (xs0 xs1 : Vec F S1x128x2048 .f32)

theorem loaded_eq (h : Fin 16) :
    loaded arg1 harg1 arg2 harg2 arg3 harg3 arg4 harg4 arg5 harg5 arg6 harg6 arg11 harg11 x0 x1 x2 x3 x4 x5 x10 h =
      (⟨x0, x1, x2, x3, x4, x5, x6, x7, x8, x9, x10⟩ : Blocks F).head h := by
  unfold loaded Blocks.head
  congr 1 <;> funext x <;> exact Memref.IsWhole.readAt_unread _ _ _ _

theorem table_eq (m : Memref sig .tc .vmem S128x128 .f32) (hm : m.IsWhole) (x : Vec F S128x128 .f32) : table m hm x = x := by
  funext y
  refine (Memref.IsWhole.readAt_unread _ _ _ _).trans (congrArg x ?_)
  funext a
  match a with
  | 0 => exact Fin.ext (by show 0 + 1 * _ = _; omega)
  | 1 => exact Fin.ext (by show 0 + 1 * _ = _; omega)

theorem wideTable_eq (m : Memref sig .tc .vmem S128x256 .f32) (hm : m.IsWhole) (x : Vec F S128x256 .f32) : wideTable m hm x = x := by
  funext y
  refine (Memref.IsWhole.readAt_unread _ _ _ _).trans (congrArg x ?_)
  funext a
  match a with
  | 0 => exact Fin.ext (by show 0 + 1 * _ = _; omega)
  | 1 => exact Fin.ext (by show 0 + 1 * _ = _; omega)

theorem readAt_carry (m : Memref sig .tc .vmem S1x128x2048 .f32) (hm : m.IsWhole) (z : Vec F S1x128x2048 .f32) (h : Fin 16) :
    m.view.readAt (Elt F) (carryRect i h).toLoadRect (hm.unread z) = fun x => z ((carryRect i h).emb x) := by
  funext x
  exact Memref.IsWhole.readAt_unread _ _ _ _

theorem read_of_headPieces {s : Space} {v : View sig .tc s S128x2048 .bf16} {L : List (View.Piece (Elt F) S128x2048 .bf16)}
    {w w' : Fin 16 → S128x128.Idx → Elt F .bf16} (hL : L = headPieces 16 w) (hw : w = w') (f : v.ty.Contents (Elt F)) :
    v.read (Elt F) (v.writes (Elt F) f L) = byHead w' := by
  subst hL hw; exact read_headPieces v f w

theorem read_of_carryPieces {s : Space} {v : View sig .tc s S1x128x2048 .f32} {i : grid0.Coords}
    {L : List (View.Piece (Elt F) S1x128x2048 .f32)} {w w' : Fin 16 → S1x128x128.Idx → Elt F .f32}
    (hL : L = carryPieces i 16 w) (hw : w = w') (f : v.ty.Contents (Elt F)) :
    v.read (Elt F) (v.writes (Elt F) f L) = byHeadCarry w' := by
  subst hL hw; exact read_carryPieces v f i w

theorem read_of_carryPieces_over {s : Space} {v : View sig .tc s S1x128x2048 .f32} {i : grid0.Coords}
    {L L' : List (View.Piece (Elt F) S1x128x2048 .f32)} {w w' : Fin 16 → S1x128x128.Idx → Elt F .f32}
    (hL : L = carryPieces i 16 w ++ L') (hw : w = w') (f : v.ty.Contents (Elt F)) :
    v.read (Elt F) (v.writes (Elt F) f L) = byHeadCarry w' := by
  subst hL hw; rw [View.writes_append]; exact read_carryPieces v _ i w

/-- A block as a whole. -/
def wholeBlock : Rect S128x2048 := Rect.unit ![0, 0] S128x2048.size inb_S128x2048_S128x2048_0_0

theorem carryAllFits (i : grid0.Coords) (a : Fin 3) : k0_off17 i a + S1x128x2048.size a ≤ S1x128x2048.size a := by
  rw [k0_off17_eq]
  exact (by decide : ∀ a : Fin 3, (![0, 0, 0] : Fin 3 → Nat) a + S1x128x2048.size a ≤ S1x128x2048.size a) a

/-- A carried buffer as a whole, at the place the body computes. -/
def carryAll (i : grid0.Coords) : Rect S1x128x2048 := Rect.unit (k0_off17 i) S1x128x2048.size (carryAllFits i)

theorem readAt_carryAll (m : Memref sig .tc .vmem S1x128x2048 .f32) (hm : m.IsWhole) (z : Vec F S1x128x2048 .f32) :
    m.view.readAt (Elt F) (carryAll i).toLoadRect (hm.unread z) = z := by
  funext x
  refine (Memref.IsWhole.readAt_unread _ _ _ _).trans (congrArg z ?_)
  funext a
  have h : ∀ a, k0_off17 i a + 1 * (x a).val = (x a).val := fun a => by
    rw [k0_off17_eq, (by decide : ∀ a : Fin 3, (![0, 0, 0] : Fin 3 → Nat) a = 0) a]; omega
  exact Fin.ext (h a)

theorem read_wholeBlock (m : Memref sig .tc .vmem S128x2048 .bf16) (f : m.view.ty.Contents (Elt F)) (w : Vec F S128x2048 .bf16) :
    m.view.read (Elt F) (m.view.writes (Elt F) f [⟨wholeBlock, w⟩]) = w := by
  funext x
  have he : wholeBlock.emb x = x := by
    funext a
    match a with
    | 0 => exact Fin.ext (by show 0 + 1 * _ = _; omega)
    | 1 => exact Fin.ext (by show 0 + 1 * _ = _; omega)
  conv_lhs => rw [← he]
  exact View.read_writes_cons_emb m.view _ wholeBlock w [] _

theorem read_of_whole {m : Memref sig .tc .vmem S128x2048 .bf16} {L : List (View.Piece (Elt F) S128x2048 .bf16)}
    {w w' : Vec F S128x2048 .bf16} (hL : L = [⟨wholeBlock, w⟩]) (hw : w = w') (f : m.view.ty.Contents (Elt F)) :
    m.view.read (Elt F) (m.view.writes (Elt F) f L) = w' := by
  subst hL hw; exact read_wholeBlock m f w

theorem readA_dq (hc0 : atFirst i) (hc1 : hasBlock i) (hc2 : ¬atLast i) (f : arg12.view.ty.Contents (Elt F)) :
    arg12.view.read (Elt F) (arg12.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10).1) =
      dqOf i ⟨x0, x1, x2, x3, x4, x5, x6, x7, x8, x9, x10⟩ := by
  have e := runA_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2
  refine read_of_headPieces (w' := dqHead i ⟨x0, x1, x2, x3, x4, x5, x6, x7, x8, x9, x10⟩) e (funext fun h => ?_) f
  rw [loaded_eq, wideTable_eq, wideTable_eq, table_eq, table_eq]
  rfl

theorem readA_dk (hc0 : atFirst i) (hc1 : hasBlock i) (hc2 : ¬atLast i) (f : arg13.view.ty.Contents (Elt F)) :
    arg13.view.read (Elt F) (arg13.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10).2.1) =
      dkOf i ⟨x0, x1, x2, x3, x4, x5, x6, x7, x8, x9, x10⟩ k0_pay1 := by
  have e := runA_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2
  refine read_of_headPieces (w' := fun h => finished (fun x => k0_pay1 ((carryRect i h).emb x)) (dkHead i ⟨x0, x1, x2, x3, x4, x5, x6, x7, x8, x9, x10⟩ h)) e (funext fun h => ?_) f
  rw [readCov_carry, loaded_eq, wideTable_eq, wideTable_eq, table_eq, table_eq]
  rfl

theorem readA_dv (hc0 : atFirst i) (hc1 : hasBlock i) (hc2 : ¬atLast i) (f : arg14.view.ty.Contents (Elt F)) :
    arg14.view.read (Elt F) (arg14.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10).2.2.1) =
      dvOf i ⟨x0, x1, x2, x3, x4, x5, x6, x7, x8, x9, x10⟩ k0_pay2 := by
  have e := runA_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2
  refine read_of_headPieces (w' := fun h => finished (fun x => k0_pay2 ((carryRect i h).emb x)) (dvHead i ⟨x0, x1, x2, x3, x4, x5, x6, x7, x8, x9, x10⟩ h)) e (funext fun h => ?_) f
  rw [readCov_carry, loaded_eq, wideTable_eq, wideTable_eq, table_eq]
  rfl

theorem readA_ck (hc0 : atFirst i) (hc1 : hasBlock i) (hc2 : ¬atLast i) (f : arg15.view.ty.Contents (Elt F)) :
    arg15.view.read (Elt F) (arg15.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10).2.2.2.1) =
      ckOf i ⟨x0, x1, x2, x3, x4, x5, x6, x7, x8, x9, x10⟩ := by
  have e := runA_ck c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2
  refine read_of_carryPieces_over (w' := fun h => carriedOn (dkHead i ⟨x0, x1, x2, x3, x4, x5, x6, x7, x8, x9, x10⟩ h)) e (funext fun h => ?_) f
  rw [loaded_eq, wideTable_eq, wideTable_eq, table_eq, table_eq]
  rfl

theorem readA_cv (hc0 : atFirst i) (hc1 : hasBlock i) (hc2 : ¬atLast i) (f : arg16.view.ty.Contents (Elt F)) :
    arg16.view.read (Elt F) (arg16.view.writes (Elt F) f (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10).2.2.2.2.1) =
      cvOf i ⟨x0, x1, x2, x3, x4, x5, x6, x7, x8, x9, x10⟩ := by
  have e := runA_cv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2
  refine read_of_carryPieces_over (w' := fun h => carriedOn (dvHead i ⟨x0, x1, x2, x3, x4, x5, x6, x7, x8, x9, x10⟩ h)) e (funext fun h => ?_) f
  rw [loaded_eq, wideTable_eq, wideTable_eq, table_eq]
  rfl

theorem readB_dq (hc0 : ¬atFirst i) (hc1 : hasBlock i) (hc2 : ¬atLast i) (f : arg12.view.ty.Contents (Elt F)) :
    arg12.view.read (Elt F) (arg12.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1).1) =
      dqOf i ⟨x0, x1, x2, x3, x4, x5, x6, x7, x8, x9, x10⟩ := by
  have e := runB_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2
  refine read_of_headPieces (w' := dqHead i ⟨x0, x1, x2, x3, x4, x5, x6, x7, x8, x9, x10⟩) e (funext fun h => ?_) f
  rw [loaded_eq, wideTable_eq, wideTable_eq, table_eq, table_eq]
  rfl

theorem readB_dk (hc0 : ¬atFirst i) (hc1 : hasBlock i) (hc2 : ¬atLast i) (f : arg13.view.ty.Contents (Elt F)) :
    arg13.view.read (Elt F) (arg13.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1).2.1) =
      dkOf i ⟨x0, x1, x2, x3, x4, x5, x6, x7, x8, x9, x10⟩ xs0 := by
  have e := runB_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2
  refine read_of_headPieces (w' := fun h => finished (fun x => xs0 ((carryRect i h).emb x)) (dkHead i ⟨x0, x1, x2, x3, x4, x5, x6, x7, x8, x9, x10⟩ h)) e (funext fun h => ?_) f
  rw [readAt_carry, loaded_eq, wideTable_eq, wideTable_eq, table_eq, table_eq]
  rfl

theorem readB_dv (hc0 : ¬atFirst i) (hc1 : hasBlock i) (hc2 : ¬atLast i) (f : arg14.view.ty.Contents (Elt F)) :
    arg14.view.read (Elt F) (arg14.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1).2.2.1) =
      dvOf i ⟨x0, x1, x2, x3, x4, x5, x6, x7, x8, x9, x10⟩ xs1 := by
  have e := runB_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2
  refine read_of_headPieces (w' := fun h => finished (fun x => xs1 ((carryRect i h).emb x)) (dvHead i ⟨x0, x1, x2, x3, x4, x5, x6, x7, x8, x9, x10⟩ h)) e (funext fun h => ?_) f
  rw [readAt_carry, loaded_eq, wideTable_eq, wideTable_eq, table_eq]
  rfl

theorem readB_ck (hc0 : ¬atFirst i) (hc1 : hasBlock i) (hc2 : ¬atLast i) (f : arg15.view.ty.Contents (Elt F)) :
    arg15.view.read (Elt F) (arg15.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1).2.2.2.1) =
      ckOf i ⟨x0, x1, x2, x3, x4, x5, x6, x7, x8, x9, x10⟩ := by
  have e := runB_ck c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2
  refine read_of_carryPieces (w' := fun h => carriedOn (dkHead i ⟨x0, x1, x2, x3, x4, x5, x6, x7, x8, x9, x10⟩ h)) e (funext fun h => ?_) f
  rw [loaded_eq, wideTable_eq, wideTable_eq, table_eq, table_eq]
  rfl

theorem readB_cv (hc0 : ¬atFirst i) (hc1 : hasBlock i) (hc2 : ¬atLast i) (f : arg16.view.ty.Contents (Elt F)) :
    arg16.view.read (Elt F) (arg16.view.writes (Elt F) f (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1).2.2.2.2.1) =
      cvOf i ⟨x0, x1, x2, x3, x4, x5, x6, x7, x8, x9, x10⟩ := by
  have e := runB_cv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2
  refine read_of_carryPieces (w' := fun h => carriedOn (dvHead i ⟨x0, x1, x2, x3, x4, x5, x6, x7, x8, x9, x10⟩ h)) e (funext fun h => ?_) f
  rw [loaded_eq, wideTable_eq, wideTable_eq, table_eq]
  rfl

theorem runC_dk (hc0 : ¬atFirst i) (hc1 : ¬hasBlock i) (hc2 : atLast i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 y xs0 xs1).1 = [⟨wholeBlock, k0_pay5 (arg15.view.readAt (Elt F) (carryAll i).toLoadRect (harg15.unread xs0))⟩] := by
  sl_kernel_rfl

theorem readC_dk (hc0 : ¬atFirst i) (hc1 : ¬hasBlock i) (hc2 : atLast i) (f : arg13.view.ty.Contents (Elt F)) :
    arg13.view.read (Elt F) (arg13.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 y xs0 xs1).1) = k0_pay5 xs0 := by
  have e := runC_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y xs0 xs1 hc0 hc1 hc2
  exact read_of_whole e (congrArg k0_pay5 (readAt_carryAll i arg15 harg15 xs0)) f

theorem runC_dv (hc0 : ¬atFirst i) (hc1 : ¬hasBlock i) (hc2 : atLast i) :
    (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 y xs0 xs1).2.1 = [⟨wholeBlock, k0_pay6 (arg16.view.readAt (Elt F) (carryAll i).toLoadRect (harg16.unread xs1))⟩] := by
  sl_kernel_rfl

theorem readC_dv (hc0 : ¬atFirst i) (hc1 : ¬hasBlock i) (hc2 : atLast i) (f : arg14.view.ty.Contents (Elt F)) :
    arg14.view.read (Elt F) (arg14.view.writes (Elt F) f (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 y xs0 xs1).2.1) = k0_pay6 xs1 := by
  have e := runC_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y xs0 xs1 hc0 hc1 hc2
  exact read_of_whole e (congrArg k0_pay6 (readAt_carryAll i arg16 harg16 xs1)) f

end Cert.KernelIdeal.Far

end
-- ==== Proof.FarBody.lean ====
module

public import proofs.«01_k».proof.Proof.FarRead
public import Idealize.ShloMosaic.Lib.WholeRead
public import Idealize.ShloMosaic.Lib.VecWindow

@[expose] public section

set_option maxRecDepth 16384

noncomputable section

namespace Cert.KernelIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F] [Named F]

local notation "𝕄" => MT nD τ sig Unit (Elt F) ℕ (UR sig nD τ) ℕ

variable (c : Dev nD) (i : grid0.Coords)
variable (arg1 : Memref sig .tc .vmem S128x2048 .bf16) (harg1 : arg1.IsWhole)
  (arg2 : Memref sig .tc .vmem S128x2048 .bf16) (harg2 : arg2.IsWhole)
  (arg3 : Memref sig .tc .vmem S128x2048 .bf16) (harg3 : arg3.IsWhole)
  (arg4 : Memref sig .tc .vmem S128x2048 .bf16) (harg4 : arg4.IsWhole)
  (arg5 : Memref sig .tc .vmem S128x2048 .bf16) (harg5 : arg5.IsWhole)
  (arg6 : Memref sig .tc .vmem S128x2048 .bf16) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S128x256 .f32) (harg9 : arg9.IsWhole)
  (arg10 : Memref sig .tc .vmem S128x256 .f32) (harg10 : arg10.IsWhole)
  (arg11 : Memref sig .tc .vmem S16x1x128 .f32) (harg11 : arg11.IsWhole)
  (arg12 : Memref sig .tc .vmem S128x2048 .bf16) (harg12 : arg12.IsWhole)
  (arg13 : Memref sig .tc .vmem S128x2048 .bf16) (harg13 : arg13.IsWhole)
  (arg14 : Memref sig .tc .vmem S128x2048 .bf16) (harg14 : arg14.IsWhole)
  (arg15 : Memref sig .tc .vmem S1x128x2048 .f32) (harg15 : arg15.IsWhole)
  (arg16 : Memref sig .tc .vmem S1x128x2048 .f32) (harg16 : arg16.IsWhole)
variable (x0 x1 x2 x3 x4 x5 : Vec F S128x2048 .bf16) (x6 x7 : Vec F S128x128 .f32) (x8 x9 : Vec F S128x256 .f32)
  (x10 : Vec F S16x1x128 .f32) (y : Vec F S128x2048 .bf16) (xs0 xs1 : Vec F S1x128x2048 .f32)

/-! ## The body at a grid point -/

/-- The inputs of the body, as held before and after it. -/
def inputs : sProp 𝕄 :=
  iprop(owns (c : Thread nD τ) arg1 fullShare x0 ∗ owns (c : Thread nD τ) arg2 fullShare x1 ∗
        owns (c : Thread nD τ) arg3 fullShare x2 ∗ owns (c : Thread nD τ) arg4 fullShare x3 ∗
        owns (c : Thread nD τ) arg5 fullShare x4 ∗ owns (c : Thread nD τ) arg6 fullShare x5 ∗
        owns (c : Thread nD τ) arg7 fullShare x6 ∗ owns (c : Thread nD τ) arg8 fullShare x7 ∗
        owns (c : Thread nD τ) arg9 fullShare x8 ∗ owns (c : Thread nD τ) arg10 fullShare x9 ∗
        owns (c : Thread nD τ) arg11 fullShare x10)

/-- The body at the first grid point. -/
theorem bodyA (hc0 : atFirst i) (hc1 : hasBlock i) (hc2 : ¬atLast i) (E : Set ℕ) (K : PUnit → sProp 𝕄) :
    iprop(inputs c arg1 arg2 arg3 arg4 arg5 arg6 arg7 arg8 arg9 arg10 arg11 x0 x1 x2 x3 x4 x5 x6 x7 x8 x9 x10 ∗
      (∃ d, owns (c : Thread nD τ) arg12 fullShare d) ∗ (∃ d, owns (c : Thread nD τ) arg13 fullShare d) ∗
        (∃ d, owns (c : Thread nD τ) arg14 fullShare d) ∗ (∃ d, owns (c : Thread nD τ) arg15 fullShare d) ∗
        (∃ d, owns (c : Thread nD τ) arg16 fullShare d) ∗
      (iprop(inputs c arg1 arg2 arg3 arg4 arg5 arg6 arg7 arg8 arg9 arg10 arg11 x0 x1 x2 x3 x4 x5 x6 x7 x8 x9 x10 ∗
      owns (c : Thread nD τ) arg12 fullShare (dqOf i ⟨x0, x1, x2, x3, x4, x5, x6, x7, x8, x9, x10⟩) ∗
        owns (c : Thread nD τ) arg13 fullShare (dkOf i ⟨x0, x1, x2, x3, x4, x5, x6, x7, x8, x9, x10⟩ k0_pay1) ∗
        owns (c : Thread nD τ) arg14 fullShare (dvOf i ⟨x0, x1, x2, x3, x4, x5, x6, x7, x8, x9, x10⟩ k0_pay2) ∗
        owns (c : Thread nD τ) arg15 fullShare (ckOf i ⟨x0, x1, x2, x3, x4, x5, x6, x7, x8, x9, x10⟩) ∗
        owns (c : Thread nD τ) arg16 fullShare (cvOf i ⟨x0, x1, x2, x3, x4, x5, x6, x7, x8, x9, x10⟩)) -∗ K ⟨⟩))
    ⊢ wp frame (wpE (defs₀ (F := F)) Variants.none c none) E (cc0_attn_bwd_far i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold inputs
  iintro ⟨⟨H0, H1, H2, H3, H4, H5, H6, H7, H8, H9, H10⟩, H11, H12, H13, HS0, HS1, Hk⟩
  iapply (runA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10).2.2.2.2.2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  iapply Hk
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]
  · iapply (owns_of_writes c arg12 _ _ (fun f => readA_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2 f))
    iexact H11
  isplitl [H12]
  · iapply (owns_of_writes c arg13 _ _ (fun f => readA_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2 f))
    iexact H12
  isplitl [H13]
  · iapply (owns_of_writes c arg14 _ _ (fun f => readA_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2 f))
    iexact H13
  isplitl [HS0]
  · iapply (owns_of_writes c arg15 _ _ (fun f => readA_ck c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2 f))
    iexact HS0
  iapply (owns_of_writes c arg16 _ _ (fun f => readA_cv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 hc0 hc1 hc2 f))
  iexact HS1

/-- The body at a middle grid point. -/
theorem bodyB (hc0 : ¬atFirst i) (hc1 : hasBlock i) (hc2 : ¬atLast i) (E : Set ℕ) (K : PUnit → sProp 𝕄) :
    iprop(inputs c arg1 arg2 arg3 arg4 arg5 arg6 arg7 arg8 arg9 arg10 arg11 x0 x1 x2 x3 x4 x5 x6 x7 x8 x9 x10 ∗
      (∃ d, owns (c : Thread nD τ) arg12 fullShare d) ∗ (∃ d, owns (c : Thread nD τ) arg13 fullShare d) ∗
        (∃ d, owns (c : Thread nD τ) arg14 fullShare d) ∗ owns (c : Thread nD τ) arg15 fullShare xs0 ∗
        owns (c : Thread nD τ) arg16 fullShare xs1 ∗
      (iprop(inputs c arg1 arg2 arg3 arg4 arg5 arg6 arg7 arg8 arg9 arg10 arg11 x0 x1 x2 x3 x4 x5 x6 x7 x8 x9 x10 ∗
      owns (c : Thread nD τ) arg12 fullShare (dqOf i ⟨x0, x1, x2, x3, x4, x5, x6, x7, x8, x9, x10⟩) ∗
        owns (c : Thread nD τ) arg13 fullShare (dkOf i ⟨x0, x1, x2, x3, x4, x5, x6, x7, x8, x9, x10⟩ xs0) ∗
        owns (c : Thread nD τ) arg14 fullShare (dvOf i ⟨x0, x1, x2, x3, x4, x5, x6, x7, x8, x9, x10⟩ xs1) ∗
        owns (c : Thread nD τ) arg15 fullShare (ckOf i ⟨x0, x1, x2, x3, x4, x5, x6, x7, x8, x9, x10⟩) ∗
        owns (c : Thread nD τ) arg16 fullShare (cvOf i ⟨x0, x1, x2, x3, x4, x5, x6, x7, x8, x9, x10⟩)) -∗ K ⟨⟩))
    ⊢ wp frame (wpE (defs₀ (F := F)) Variants.none c none) E (cc0_attn_bwd_far i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold inputs
  iintro ⟨⟨H0, H1, H2, H3, H4, H5, H6, H7, H8, H9, H10⟩, H11, H12, H13, HS0, HS1, Hk⟩
  iapply (runB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 xs0 xs1).2.2.2.2.2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  iapply Hk
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]
  · iapply (owns_of_writes c arg12 _ _ (fun f => readB_dq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2 f))
    iexact H11
  isplitl [H12]
  · iapply (owns_of_writes c arg13 _ _ (fun f => readB_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2 f))
    iexact H12
  isplitl [H13]
  · iapply (owns_of_writes c arg14 _ _ (fun f => readB_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2 f))
    iexact H13
  isplitl [HS0]
  · iapply (owns_of_writes c arg15 _ _ (fun f => readB_ck c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2 f))
    iexact HS0
  iapply (owns_of_writes c arg16 _ _ (fun f => readB_cv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 xs0 xs1 hc0 hc1 hc2 f))
  iexact HS1

/-- The body at the last grid point. -/
theorem bodyC (hc0 : ¬atFirst i) (hc1 : ¬hasBlock i) (hc2 : atLast i) (E : Set ℕ) (K : PUnit → sProp 𝕄) :
    iprop(inputs c arg1 arg2 arg3 arg4 arg5 arg6 arg7 arg8 arg9 arg10 arg11 x0 x1 x2 x3 x4 x5 x6 x7 x8 x9 x10 ∗
      owns (c : Thread nD τ) arg12 fullShare y ∗ (∃ d, owns (c : Thread nD τ) arg13 fullShare d) ∗
        (∃ d, owns (c : Thread nD τ) arg14 fullShare d) ∗ owns (c : Thread nD τ) arg15 fullShare xs0 ∗
        owns (c : Thread nD τ) arg16 fullShare xs1 ∗
      (iprop(inputs c arg1 arg2 arg3 arg4 arg5 arg6 arg7 arg8 arg9 arg10 arg11 x0 x1 x2 x3 x4 x5 x6 x7 x8 x9 x10 ∗
      owns (c : Thread nD τ) arg12 fullShare y ∗ owns (c : Thread nD τ) arg13 fullShare (k0_pay5 xs0) ∗
        owns (c : Thread nD τ) arg14 fullShare (k0_pay6 xs1) ∗ owns (c : Thread nD τ) arg15 fullShare xs0 ∗
        owns (c : Thread nD τ) arg16 fullShare xs1) -∗ K ⟨⟩))
    ⊢ wp frame (wpE (defs₀ (F := F)) Variants.none c none) E (cc0_attn_bwd_far i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold inputs
  iintro ⟨⟨H0, H1, H2, H3, H4, H5, H6, H7, H8, H9, H10⟩, H11, H12, H13, HS0, HS1, Hk⟩
  iapply (runC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 hc2 x0 x1 x2 x3 x4 x5 x6 x7 x8 x9 x10 y xs0 xs1).2.2
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [HS0]; · iexact HS0
  isplitl [HS1]; · iexact HS1
  iintro ⟨H0, H1, H2, H3, H4, H5, H6, H7, H8, H9, H10, H11, H12, H13, HS0, HS1⟩
  iapply Hk
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]
  · iexact H11
  isplitl [H12]
  · iapply (owns_of_writes c arg13 _ _ (fun f => readC_dk c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y xs0 xs1 hc0 hc1 hc2 f))
    iexact H12
  isplitl [H13]
  · iapply (owns_of_writes c arg14 _ _ (fun f => readC_dv c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 y xs0 xs1 hc0 hc1 hc2 f))
    iexact H13
  isplitl [HS0]
  · iexact HS0
  iexact HS1

end Cert.KernelIdeal.Far

end
-- ==== Proof.FarFrame.lean ====
module

public import proofs.«01_k».proof.Proof.FarBody
public import Idealize.ShloMosaic.Lib.Claim

@[expose] public section

set_option maxRecDepth 16384

noncomputable section

namespace Cert.KernelIdeal.Far

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold, point by point

The grid has a point for every block of queries and one more. A point finishes the gradients of the keys and values of
the block before it; the last point only stores what was carried. -/

/-- The blocks a grid point is given. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t⟩

/-- The last grid point that has a block of queries, up to point `n`. -/
def capped (n : ℕ) : Fin cfg0.N := ⟨min n 63, lt_of_lt_of_eq (by omega : min n 63 < 65) N_0.symm⟩

theorem capped_of_lt (t : Fin cfg0.N) (h : t.val < 64) : capped t.val = t := Fin.ext (by show min _ _ = _; omega)

/-- The gradient of the queries, as the buffer holds it after a point. -/
def dqAt (c : Dev nD) (n : ℕ) : Vec F S128x2048 .bf16 := dqOf (grid0.coords (capped n)) (blocksAt m c (capped n))

/-- What is carried for the keys after a point. -/
def ckAt (c : Dev nD) (n : ℕ) : Vec F S1x128x2048 .f32 := ckOf (grid0.coords (capped n)) (blocksAt m c (capped n))

/-- What is carried for the values after a point. -/
def cvAt (c : Dev nD) (n : ℕ) : Vec F S1x128x2048 .f32 := cvOf (grid0.coords (capped n)) (blocksAt m c (capped n))

/-- The gradient of the keys that a point stores. -/
def dkAt (c : Dev nD) (t : Fin cfg0.N) : Vec F S128x2048 .bf16 :=
  if t.val < 64 then dkOf (grid0.coords t) (blocksAt m c t) (if t.val = 0 then k0_pay1 else ckAt m c (t.val - 1))
  else k0_pay5 (ckAt m c 63)

/-- The gradient of the values that a point stores. -/
def dvAt (c : Dev nD) (t : Fin cfg0.N) : Vec F S128x2048 .bf16 :=
  if t.val < 64 then dvOf (grid0.coords t) (blocksAt m c t) (if t.val = 0 then k0_pay2 else cvAt m c (t.val - 1))
  else k0_pay6 (cvAt m c 63)

/-- The two carried buffers. -/
abbrev carryK : Memref sig .tc .vmem S1x128x2048 .f32 := Memref.whole cc0_scratch0
abbrev carryV : Memref sig .tc .vmem S1x128x2048 .f32 := Memref.whole cc0_scratch1

/-- What the loop keeps between points: before the first nothing is known of the carried buffers; later they hold what
    the point before left. -/
def kept (c : Dev nD) : (n : ℕ) → n ≤ cfg0.N → sProp 𝕄
  | 0, _ => Pipeline.ΦA spec0 c
  | n + 1, _ => iprop(iprop(owns (c : Thread nD τ) carryK fullShare (ckAt m c n) ∗ owns (c : Thread nD τ) carryV fullShare (cvAt m c n))
      ∗ (∃ r, prngReg c r))

theorem kept_succ (c : Dev nD) (n : ℕ) (h : n + 1 ≤ cfg0.N) : kept m c (n + 1) h =
    iprop(iprop(owns (c : Thread nD τ) carryK fullShare (ckAt m c n) ∗ owns (c : Thread nD τ) carryV fullShare (cvAt m c n))
      ∗ (∃ r, prngReg c r)) := rfl

theorem kept_zero (c : Dev nD) (n : ℕ) (h : n ≤ cfg0.N) (hz : n = 0) : kept m c n h = Pipeline.ΦA spec0 c := by
  subst hz; rfl

theorem kept_pos (c : Dev nD) (n : ℕ) (h : n ≤ cfg0.N) (hz : n ≠ 0) : kept m c n h =
    iprop(iprop(owns (c : Thread nD τ) carryK fullShare (ckAt m c (n - 1)) ∗ owns (c : Thread nD τ) carryV fullShare (cvAt m c (n - 1)))
      ∗ (∃ r, prngReg c r)) := by
  cases n with
  | zero => exact absurd rfl hz
  | succ n => rfl

theorem start_eq (c : Dev nD) : (Pipeline.ΦA spec0 c : sProp 𝕄) =
    iprop(iprop((∃ d, owns (c : Thread nD τ) carryK fullShare d) ∗ (∃ d, owns (c : Thread nD τ) carryV fullShare d)) ∗ (∃ r, prngReg c r)) := by
  unfold Pipeline.ΦA; rw [scopedRest0_eq]; simp only [carryK, carryV, owns_whole]; try rfl

/-- The loop's data: the arrays as the loop finds them, and what each point leaves in every buffer. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => dqAt m c t.val
    | ⟨12, _⟩ => dkAt m c t
    | ⟨13, _⟩ => dvAt m c t
  Φ t := kept m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem inv_start (c : Dev nD) (t : Fin cfg0.N) : (dats m 0 c).Φ t.castSucc = kept m c t.val (Nat.le_of_lt t.isLt) := by
  dsimp only [dats]; exact Pipeline.Dat.Φ_castSucc (kept m c) t

theorem before_0 (c : Dev nD) (t : Fin cfg0.N) (d) : (dats m 0 c).before 0 t d = iblk m c 0 t :=
  before0_0_of m (dats m 0 c) (A_eq m c 0) (fun t => by dsimp only [dats]) t d
theorem before_1 (c : Dev nD) (t : Fin cfg0.N) (d) : (dats m 0 c).before 1 t d = iblk m c 1 t :=
  before0_1_of m (dats m 0 c) (A_eq m c 1) (fun t => by dsimp only [dats]) t d
theorem before_2 (c : Dev nD) (t : Fin cfg0.N) (d) : (dats m 0 c).before 2 t d = iblk m c 2 t :=
  before0_2_of m (dats m 0 c) (A_eq m c 2) (fun t => by dsimp only [dats]) t d
theorem before_3 (c : Dev nD) (t : Fin cfg0.N) (d) : (dats m 0 c).before 3 t d = iblk m c 3 t :=
  before0_3_of m (dats m 0 c) (A_eq m c 3) (fun t => by dsimp only [dats]) t d
theorem before_4 (c : Dev nD) (t : Fin cfg0.N) (d) : (dats m 0 c).before 4 t d = iblk m c 4 t :=
  before0_4_of m (dats m 0 c) (A_eq m c 4) (fun t => by dsimp only [dats]) t d
theorem before_5 (c : Dev nD) (t : Fin cfg0.N) (d) : (dats m 0 c).before 5 t d = iblk m c 5 t :=
  before0_5_of m (dats m 0 c) (A_eq m c 5) (fun t => by dsimp only [dats]) t d
theorem before_6 (c : Dev nD) (t : Fin cfg0.N) (d) : (dats m 0 c).before 6 t d = iblk m c 6 t :=
  before0_6_of m (dats m 0 c) (A_eq m c 6) (fun t => by dsimp only [dats]) t d
theorem before_7 (c : Dev nD) (t : Fin cfg0.N) (d) : (dats m 0 c).before 7 t d = iblk m c 7 t :=
  before0_7_of m (dats m 0 c) (A_eq m c 7) (fun t => by dsimp only [dats]) t d
theorem before_8 (c : Dev nD) (t : Fin cfg0.N) (d) : (dats m 0 c).before 8 t d = iblk m c 8 t :=
  before0_8_of m (dats m 0 c) (A_eq m c 8) (fun t => by dsimp only [dats]) t d
theorem before_9 (c : Dev nD) (t : Fin cfg0.N) (d) : (dats m 0 c).before 9 t d = iblk m c 9 t :=
  before0_9_of m (dats m 0 c) (A_eq m c 9) (fun t => by dsimp only [dats]) t d
theorem before_10 (c : Dev nD) (t : Fin cfg0.N) (d) : (dats m 0 c).before 10 t d = iblk m c 10 t :=
  before0_10_of m (dats m 0 c) (A_eq m c 10) (fun t => by dsimp only [dats]) t d

/-- A point either stores the gradient of the queries or writes the block back as it stands. -/
theorem settled_11 : ∀ t : Fin cfg0.N, cfg0.idle 11 (grid0.coords t) = false ∨ (cfg0.win 11).flush t = true := by decide +kernel

theorem busy_12 : ∀ t : Fin cfg0.N, cfg0.idle 12 (grid0.coords t) = false := by decide +kernel

theorem busy_13 : ∀ t : Fin cfg0.N, cfg0.idle 13 (grid0.coords t) = false := by decide +kernel

theorem unflushed_11 : ∀ t : Fin cfg0.N, t.val = 63 → (cfg0.win 11).flush t = false ∧ cfg0.idle 11 (grid0.coords t) = false := by
  decide +kernel

theorem leaves_11 (c : Dev nD) (t : Fin cfg0.N) :
    (dats m 0 c).leavesExact 11 t = owns (c : Thread nD τ) (st0_11 t) fullShare (dqAt m c t.val) := by
  have ha : (dats m 0 c).after 11 t = dqAt m c t.val := by dsimp only [dats]
  unfold Dat.leavesExact
  rw [← ha]
  rcases hi : cfg0.idle 11 (cfg0.grid.coords t) with _ | _
  · rfl
  · rcases settled_11 t with h | h
    · exact absurd (hi.symm.trans h) (by decide)
    · rw [h]

theorem leaves_12 (c : Dev nD) (t : Fin cfg0.N) :
    (dats m 0 c).leavesExact 12 t = owns (c : Thread nD τ) (st0_12 t) fullShare (dkAt m c t) := by
  have ha : (dats m 0 c).after 12 t = dkAt m c t := by dsimp only [dats]
  unfold Dat.leavesExact
  rw [← ha, busy_12 t]

theorem leaves_13 (c : Dev nD) (t : Fin cfg0.N) :
    (dats m 0 c).leavesExact 13 t = owns (c : Thread nD τ) (st0_13 t) fullShare (dvAt m c t) := by
  have ha : (dats m 0 c).after 13 t = dvAt m c t := by dsimp only [dats]
  unfold Dat.leavesExact
  rw [← ha, busy_13 t]

/-- At the last point the buffer of the gradient of the queries still holds what the point before left. -/
theorem before_11_last (c : Dev nD) (t : Fin cfg0.N) (ht : t.val = 64) (d) : (dats m 0 c).before 11 t d = dqAt m c t.val := by
  have h63 := unflushed_11 ⟨t.val - 1, Nat.lt_of_le_of_lt (Nat.sub_le _ _) t.isLt⟩ (by show t.val - 1 = 63; omega)
  rw [(dats m 0 c).before_of_pos 11 t (by omega) ((cfg0.win 11).fetch_out rfl t), h63.1, if_neg Bool.false_ne_true]
  unfold Dat.left
  rw [show cfg0.idle 11 (cfg0.grid.coords ⟨t.val - 1, Nat.lt_of_le_of_lt (Nat.sub_le _ _) t.isLt⟩) = false from h63.2]
  unfold Dat.kept
  dsimp only
  rw [Pipeline.fill_of_clip_none 11 _ (fun _ => rfl) d ((dats m 0 c).after 11 _), Window.fill_cut]
  have ha : (dats m 0 c).after 11 ⟨t.val - 1, Nat.lt_of_le_of_lt (Nat.sub_le _ _) t.isLt⟩ = dqAt m c (t.val - 1) := by dsimp only [dats]
  rw [ha]
  unfold dqAt
  rw [show capped (t.val - 1) = capped t.val from Fin.ext (by show min _ _ = min _ _; omega)]

/-- The inputs at a point. -/
abbrev inputsAt (c : Dev nD) (t : Fin cfg0.N) : sProp 𝕄 :=
  inputs c (st0_0 t) (st0_1 t) (st0_2 t) (st0_3 t) (st0_4 t) (st0_5 t) (st0_6 t) (st0_7 t) (st0_8 t) (st0_9 t) (st0_10 t)
    (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem leaves_0 (c : Dev nD) (t : Fin cfg0.N) :
    (dats m 0 c).leavesExact 0 t = owns (c : Thread nD τ) (st0_0 t) fullShare (iblk m c 0 t) := by
  unfold Dat.leavesExact
  rw [show cfg0.idle 0 (cfg0.grid.coords t) = false from rfl]
  dsimp only [dats]

theorem leaves_1 (c : Dev nD) (t : Fin cfg0.N) :
    (dats m 0 c).leavesExact 1 t = owns (c : Thread nD τ) (st0_1 t) fullShare (iblk m c 1 t) := by
  unfold Dat.leavesExact
  rw [show cfg0.idle 1 (cfg0.grid.coords t) = false from rfl]
  dsimp only [dats]

theorem leaves_2 (c : Dev nD) (t : Fin cfg0.N) :
    (dats m 0 c).leavesExact 2 t = owns (c : Thread nD τ) (st0_2 t) fullShare (iblk m c 2 t) := by
  unfold Dat.leavesExact
  rw [show cfg0.idle 2 (cfg0.grid.coords t) = false from rfl]
  dsimp only [dats]

theorem leaves_3 (c : Dev nD) (t : Fin cfg0.N) :
    (dats m 0 c).leavesExact 3 t = owns (c : Thread nD τ) (st0_3 t) fullShare (iblk m c 3 t) := by
  unfold Dat.leavesExact
  rw [show cfg0.idle 3 (cfg0.grid.coords t) = false from rfl]
  dsimp only [dats]

theorem leaves_4 (c : Dev nD) (t : Fin cfg0.N) :
    (dats m 0 c).leavesExact 4 t = owns (c : Thread nD τ) (st0_4 t) fullShare (iblk m c 4 t) := by
  unfold Dat.leavesExact
  rw [show cfg0.idle 4 (cfg0.grid.coords t) = false from rfl]
  dsimp only [dats]

theorem leaves_5 (c : Dev nD) (t : Fin cfg0.N) :
    (dats m 0 c).leavesExact 5 t = owns (c : Thread nD τ) (st0_5 t) fullShare (iblk m c 5 t) := by
  unfold Dat.leavesExact
  rw [show cfg0.idle 5 (cfg0.grid.coords t) = false from rfl]
  dsimp only [dats]

theorem leaves_6 (c : Dev nD) (t : Fin cfg0.N) :
    (dats m 0 c).leavesExact 6 t = owns (c : Thread nD τ) (st0_6 t) fullShare (iblk m c 6 t) := by
  unfold Dat.leavesExact
  rw [show cfg0.idle 6 (cfg0.grid.coords t) = false from rfl]
  dsimp only [dats]

theorem leaves_7 (c : Dev nD) (t : Fin cfg0.N) :
    (dats m 0 c).leavesExact 7 t = owns (c : Thread nD τ) (st0_7 t) fullShare (iblk m c 7 t) := by
  unfold Dat.leavesExact
  rw [show cfg0.idle 7 (cfg0.grid.coords t) = false from rfl]
  dsimp only [dats]

theorem leaves_8 (c : Dev nD) (t : Fin cfg0.N) :
    (dats m 0 c).leavesExact 8 t = owns (c : Thread nD τ) (st0_8 t) fullShare (iblk m c 8 t) := by
  unfold Dat.leavesExact
  rw [show cfg0.idle 8 (cfg0.grid.coords t) = false from rfl]
  dsimp only [dats]

theorem leaves_9 (c : Dev nD) (t : Fin cfg0.N) :
    (dats m 0 c).leavesExact 9 t = owns (c : Thread nD τ) (st0_9 t) fullShare (iblk m c 9 t) := by
  unfold Dat.leavesExact
  rw [show cfg0.idle 9 (cfg0.grid.coords t) = false from rfl]
  dsimp only [dats]

theorem leaves_10 (c : Dev nD) (t : Fin cfg0.N) :
    (dats m 0 c).leavesExact 10 t = owns (c : Thread nD τ) (st0_10 t) fullShare (iblk m c 10 t) := by
  unfold Dat.leavesExact
  rw [show cfg0.idle 10 (cfg0.grid.coords t) = false from rfl]
  dsimp only [dats]

/-- What the body is given at a point, -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it gives back. -/
def returned (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

/-- What is given, with the inputs together. -/
theorem given_inputs (c : Dev nD) (t : Fin cfg0.N) : given m c t ⊢
    iprop(kept m c t.val (Nat.le_of_lt t.isLt) ∗ (dats m 0 c).owesAt () t.castSucc ∗ inputsAt m c t
      ∗ (∃ d, owns (c : Thread nD τ) (st0_11 t) fullShare ((dats m 0 c).before 11 t d))
      ∗ (∃ d, owns (c : Thread nD τ) (st0_12 t) fullShare d) ∗ (∃ d, owns (c : Thread nD τ) (st0_13 t) fullShare d)) := by
  unfold given inputsAt inputs
  simp only [before_0, before_1, before_2, before_3, before_4, before_5, before_6, before_7, before_8, before_9, before_10, inv_start]
  iintro ⟨HΦ, Ho, ⟨%_d0, H0⟩, ⟨%_d1, H1⟩, ⟨%_d2, H2⟩, ⟨%_d3, H3⟩, ⟨%_d4, H4⟩, ⟨%_d5, H5⟩, ⟨%_d6, H6⟩, ⟨%_d7, H7⟩, ⟨%_d8, H8⟩, ⟨%_d9, H9⟩, ⟨%_d10, H10⟩, ⟨%_d11, H11⟩, ⟨%_d12, H12⟩, ⟨%_d13, H13⟩⟩
  isplitl [HΦ]; · iexact HΦ
  isplitl [Ho]; · iexact Ho
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexists _; iexact H11
  isplitl [H12]; · iexists _; iexact H12
  iexists _; iexact H13

/-- What is to be returned, with the inputs together. -/
theorem returned_inputs (c : Dev nD) (t : Fin cfg0.N) :
    iprop(kept m c (t.val + 1) t.isLt ∗ (dats m 0 c).owesAt () t.castSucc ∗ inputsAt m c t
      ∗ owns (c : Thread nD τ) (st0_11 t) fullShare (dqAt m c t.val)
      ∗ owns (c : Thread nD τ) (st0_12 t) fullShare (dkAt m c t) ∗ owns (c : Thread nD τ) (st0_13 t) fullShare (dvAt m c t))
    ⊢ returned m c t := by
  unfold returned inputsAt inputs
  rw [show (dats m 0 c).owesAt () t.succ = (dats m 0 c).owesAt () t.castSucc from rfl,
    show (dats m 0 c).Φ t.succ = kept m c (t.val + 1) t.isLt from rfl]
  rw [leaves_0, leaves_1, leaves_2, leaves_3, leaves_4, leaves_5, leaves_6, leaves_7, leaves_8, leaves_9, leaves_10, leaves_11, leaves_12, leaves_13]
  iintro ⟨HΦ, Ho, ⟨H0, H1, H2, H3, H4, H5, H6, H7, H8, H9, H10⟩, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body at any point, by the three cases of its conditionals. -/
theorem body_any (c : Dev nD) (t : Fin cfg0.N) :
    given m c t ⊢ wp frame (wpE (defs₀ (F := F)) Variants.none c none) Set.univ (bodyAt0 t) (fun _ => returned m c t) := by
  refine (given_inputs m c t).trans ?_
  unfold bodyAt0
  have hN : t.val < 65 := lt_of_lt_of_eq t.isLt (show cfg0.N = 65 from N_0)
  by_cases hl : t.val < 64
  · have hcap := capped_of_lt t hl
    have hc1 := (hasBlock_iff t).mpr hl
    have hc2 : ¬atLast (grid0.coords t) := fun h => by have := (atLast_iff t).mp h; omega
    have hdq : dqAt m c t.val = dqOf (grid0.coords t) (blocksAt m c t) := by unfold dqAt; rw [hcap]
    have hck : ckAt m c t.val = ckOf (grid0.coords t) (blocksAt m c t) := by unfold ckAt; rw [hcap]
    have hcv : cvAt m c t.val = cvOf (grid0.coords t) (blocksAt m c t) := by unfold cvAt; rw [hcap]
    by_cases h0 : t.val = 0
    · have hc0 := (atFirst_iff t).mpr h0
      have hdk : dkAt m c t = dkOf (grid0.coords t) (blocksAt m c t) k0_pay1 := by unfold dkAt; rw [if_pos hl, if_pos h0]
      have hdv : dvAt m c t = dvOf (grid0.coords t) (blocksAt m c t) k0_pay2 := by unfold dvAt; rw [if_pos hl, if_pos h0]
      rw [kept_zero m c _ _ h0, start_eq]
      iintro ⟨⟨⟨⟨%s0, HS0⟩, %s1, HS1⟩, Hg⟩, Ho, Hin, ⟨%_d11, H11⟩, ⟨%_d12, H12⟩, %_d13, H13⟩
      iapply (bodyA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) carryK (Memref.isWhole_whole _) carryV (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) hc0 hc1 hc2)
      isplitl [Hin]; · iexact Hin
      isplitl [H11]; · iexists _; iexact H11
      isplitl [H12]; · iexists _; iexact H12
      isplitl [H13]; · iexists _; iexact H13
      isplitl [HS0]; · iexists _; iexact HS0
      isplitl [HS1]; · iexists _; iexact HS1
      iintro ⟨Hin, H11, H12, H13, HS0, HS1⟩
      iapply (returned_inputs m c t)
      rw [kept_succ]
      isplitl [HS0 HS1 Hg]
      · isplitl [HS0 HS1]
        · isplitl [HS0]
          · rw [hck]; iexact HS0
          rw [hcv]; iexact HS1
        iexact Hg
      isplitl [Ho]; · iexact Ho
      isplitl [Hin]; · iexact Hin
      isplitl [H11]
      · rw [hdq]; iexact H11
      isplitl [H12]
      · rw [hdk]; iexact H12
      rw [hdv]; iexact H13
    · have hc0 : ¬atFirst (grid0.coords t) := fun h => h0 ((atFirst_iff t).mp h)
      have hdk : dkAt m c t = dkOf (grid0.coords t) (blocksAt m c t) (ckAt m c (t.val - 1)) := by
        unfold dkAt; rw [if_pos hl, if_neg h0]
      have hdv : dvAt m c t = dvOf (grid0.coords t) (blocksAt m c t) (cvAt m c (t.val - 1)) := by
        unfold dvAt; rw [if_pos hl, if_neg h0]
      rw [kept_pos m c _ _ h0]
      iintro ⟨⟨⟨HS0, HS1⟩, Hg⟩, Ho, Hin, ⟨%_d11, H11⟩, ⟨%_d12, H12⟩, %_d13, H13⟩
      iapply (bodyB c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) carryK (Memref.isWhole_whole _) carryV (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (ckAt m c (t.val - 1)) (cvAt m c (t.val - 1)) hc0 hc1 hc2)
      isplitl [Hin]; · iexact Hin
      isplitl [H11]; · iexists _; iexact H11
      isplitl [H12]; · iexists _; iexact H12
      isplitl [H13]; · iexists _; iexact H13
      isplitl [HS0]; · iexact HS0
      isplitl [HS1]; · iexact HS1
      iintro ⟨Hin, H11, H12, H13, HS0, HS1⟩
      iapply (returned_inputs m c t)
      rw [kept_succ]
      isplitl [HS0 HS1 Hg]
      · isplitl [HS0 HS1]
        · isplitl [HS0]
          · rw [hck]; iexact HS0
          rw [hcv]; iexact HS1
        iexact Hg
      isplitl [Ho]; · iexact Ho
      isplitl [Hin]; · iexact Hin
      isplitl [H11]
      · rw [hdq]; iexact H11
      isplitl [H12]
      · rw [hdk]; iexact H12
      rw [hdv]; iexact H13
  · have h64 : t.val = 64 := by omega
    have hc0 : ¬atFirst (grid0.coords t) := fun h => by have := (atFirst_iff t).mp h; omega
    have hc1 : ¬hasBlock (grid0.coords t) := fun h => hl ((hasBlock_iff t).mp h)
    have hc2 := (atLast_iff t).mpr h64
    have hcap : capped t.val = capped (t.val - 1) := Fin.ext (by show min _ _ = min _ _; omega)
    have hck : ckAt m c t.val = ckAt m c (t.val - 1) := by unfold ckAt; rw [hcap]
    have hcv : cvAt m c t.val = cvAt m c (t.val - 1) := by unfold cvAt; rw [hcap]
    have hdk : dkAt m c t = k0_pay5 (ckAt m c (t.val - 1)) := by unfold dkAt; rw [if_neg hl, h64]
    have hdv : dvAt m c t = k0_pay6 (cvAt m c (t.val - 1)) := by unfold dvAt; rw [if_neg hl, h64]
    rw [kept_pos m c _ _ (by omega)]
    simp only [before_11_last m c t h64]
    iintro ⟨⟨⟨HS0, HS1⟩, Hg⟩, Ho, Hin, ⟨%_d11, H11⟩, ⟨%_d12, H12⟩, %_d13, H13⟩
    iapply (bodyC c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) carryK (Memref.isWhole_whole _) carryV (Memref.isWhole_whole _)
        (iblk m c 0 t) (iblk m c 1 t) (iblk m c 2 t) (iblk m c 3 t) (iblk m c 4 t) (iblk m c 5 t) (iblk m c 6 t) (iblk m c 7 t) (iblk m c 8 t) (iblk m c 9 t) (iblk m c 10 t) (dqAt m c t.val) (ckAt m c (t.val - 1)) (cvAt m c (t.val - 1)) hc0 hc1 hc2)
    isplitl [Hin]; · iexact Hin
    isplitl [H11]; · iexact H11
    isplitl [H12]; · iexists _; iexact H12
    isplitl [H13]; · iexists _; iexact H13
    isplitl [HS0]; · iexact HS0
    isplitl [HS1]; · iexact HS1
    iintro ⟨Hin, H11, H12, H13, HS0, HS1⟩
    iapply (returned_inputs m c t)
    rw [kept_succ]
    isplitl [HS0 HS1 Hg]
    · isplitl [HS0 HS1]
      · isplitl [HS0]
        · rw [hck]; iexact HS0
        rw [hcv]; iexact HS1
      iexact Hg
    isplitl [Ho]; · iexact Ho
    isplitl [Hin]; · iexact Hin
    isplitl [H11]
    · iexact H11
    isplitl [H12]
    · rw [hdk]; iexact H12
    rw [hdv]; iexact H13

theorem body_row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, body_row]
  exact triple_restated (body_any m c t) rfl .rfl fun _ => .rfl

theorem enters (c : Dev nD) : Pipeline.ΦA spec0 c ⊢ (dats m 0 c).Φ 0 := by
  rw [show (dats m 0 c).Φ 0 = kept m c 0 (Nat.zero_le _) from rfl, kept_zero m c 0 _ rfl]
  try exact Idealize.SL.BI.Entails.refl _

/-- After the last point what the carried buffers hold is forgotten. -/
theorem ends (c : Dev nD) : (dats m 0 c).Φ (Fin.last cfg0.N) ⊢ Pipeline.ΦA spec0 c := by
  rw [show (dats m 0 c).Φ (Fin.last cfg0.N) = kept m c cfg0.N le_rfl from rfl,
    kept_pos m c _ _ (by have : cfg0.N = 65 := N_0; omega), start_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- The whole program runs to its end; every array the loop writes ends as the loop's data say, every other buffer as the
    loop found it, and every counter at zero. -/
theorem runs : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl) (howed := fun _ _ => rfl) (V := V m)
    (hmain := hmain m Variants.none) (hA := A_eq m) (hin := enters m) (hout := ends m)

/-- The frame: the arguments end as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (runs m ρ)))
    ((θ_run defs _ _).mono (fun _ h => h.2) (runs m ρ))

end Cert.KernelIdeal.Far

end
-- ==== Proof.WordBase.lean ====
module

public import proofs.«01_k».proof.Proof.Gen.Kernel.Skeleton
public import proofs.«01_k».proof.Proof.Gen.Kernel.Frame

@[expose] public section

set_option maxRecDepth 16384

noncomputable section

namespace Cert.Kernel.Far

open Idealize.ShloMosaic Idealize.ShloMosaic.TcCoe Idealize.ShloMosaic.Tactic
open Cert.Kernel.Gen

/-- The body's first conditional: the first grid point. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 := by decide +kernel

/-- The body's second conditional: a grid point that has a block of queries. -/
abbrev hasBlock (i : grid0.Coords) : Prop := k0_cond2 i = 1#1

theorem hasBlock_iff : ∀ t : Fin cfg0.N, hasBlock (grid0.coords t) ↔ t.val < 64 := by decide +kernel

/-- The body's third conditional: the last grid point. -/
abbrev atLast (i : grid0.Coords) : Prop := k0_cond3 i = 1#1

theorem atLast_iff : ∀ t : Fin cfg0.N, atLast (grid0.coords t) ↔ t.val = 64 := by decide +kernel

end Cert.Kernel.Far

end
-- ==== Proof.FarMath.lean ====
module

public import Idealize.ShloMosaic.Lib.Pointwise

/-!
# The gradient of the windowed attention, over the extended reals

One head and one residue class of rows: four blocks of 128 rows.  A row of block `i` sees the keys of its own block and of
the block before it, 256 of them, of which the window keeps those at most 128 rows back.
-/

@[expose] public section

noncomputable section

namespace Cert.Far

open Idealize.ShloMosaic

/-- Row `j` of block `i` sees key `k` of its window: not later, at most 128 rows back, and not before the first block. -/
def Seen (i : Fin 4) (j : Fin 128) (k : Fin 256) : Prop :=
  k.val ≤ j.val + 128 ∧ j.val ≤ k.val ∧ (i.val = 0 → 128 ≤ k.val)

instance (i : Fin 4) (j : Fin 128) (k : Fin 256) : Decidable (Seen i j k) := inferInstanceAs (Decidable (_ ∧ _ ∧ _))

/-- How many rows of the sequence lie between a row and a key of its window. -/
def gap (j : Fin 128) (k : Fin 256) : EReal := (((((j.val : ℤ) + 128 - k.val) * 16 : ℤ) : ℝ) : EReal)

/-- The keys (or values) in sight of block `i`: the block before, zero for the first, then its own. -/
def window (x : Fin 4 → Fin 128 → Fin 128 → EReal) (i : Fin 4) (k : Fin 256) (e : Fin 128) : EReal :=
  if h : k.val < 128 then
    if i.val < 1 then 0 else x ⟨i.val - 1, by omega⟩ ⟨k.val, h⟩ e
  else x i ⟨k.val - 128, by omega⟩ e

/-- The rows of one head and one residue class: queries, keys, values, cotangents, log-sums, products of the output with its
    cotangent, and the head's two constants. -/
structure Part where
  q : Fin 4 → Fin 128 → Fin 128 → EReal
  k : Fin 4 → Fin 128 → Fin 128 → EReal
  v : Fin 4 → Fin 128 → Fin 128 → EReal
  o : Fin 4 → Fin 128 → Fin 128 → EReal
  l : Fin 4 → Fin 128 → EReal
  d : Fin 4 → Fin 128 → EReal
  slope : EReal
  scale : EReal

variable (P : Part)

/-- The weight that row `j` of block `i` gives key `k` of its window. -/
def Part.weight (i : Fin 4) (j : Fin 128) (k : Fin 256) : EReal :=
  if Seen i j k then Ideal.exp ((∑ e, P.q i j e * window P.k i k e) * P.scale + -P.slope * gap j k - P.l i j) else 0

/-- The gradient of the score of row `j` and key `k`. -/
def Part.grad (i : Fin 4) (j : Fin 128) (k : Fin 256) : EReal :=
  if Seen i j k then P.weight i j k * (∑ e, P.o i j e * window P.v i k e - P.d i j) * P.scale else 0

/-- The gradient of the queries. -/
def Part.dq (i : Fin 4) (j e : Fin 128) : EReal := ∑ k, P.grad i j k * window P.k i k e

/-- What block `i` adds to the gradient of the key `k` of its window. -/
def Part.keyPart (i : Fin 4) (k : Fin 256) (e : Fin 128) : EReal := ∑ j, P.grad i j k * P.q i j e

/-- What block `i` adds to the gradient of the value `k` of its window. -/
def Part.valuePart (i : Fin 4) (k : Fin 256) (e : Fin 128) : EReal := ∑ j, P.weight i j k * P.o i j e

/-- The upper half of a window: the block's own rows. -/
def upper (j : Fin 128) : Fin 256 := ⟨128 + j.val, by omega⟩

/-- The lower half of a window: the rows of the block before. -/
def lower (j : Fin 128) : Fin 256 := ⟨j.val, by omega⟩

/-- What the rows of a block get from the windows of their own block and of the next. -/
def gather (part : Fin 4 → Fin 256 → Fin 128 → EReal) (i : Fin 4) (j e : Fin 128) : EReal :=
  part i (upper j) e + if h : i.val < 3 then part ⟨i.val + 1, by omega⟩ (lower j) e else 0

/-- The gradient of the keys. -/
def Part.dk (i : Fin 4) (j e : Fin 128) : EReal := gather P.keyPart i j e

/-- The gradient of the values. -/
def Part.dv (i : Fin 4) (j e : Fin 128) : EReal := gather P.valuePart i j e

theorem not_seen_first {i : Fin 4} (hi : i.val = 0) (j j' : Fin 128) : ¬ Seen i j (lower j') :=
  fun h => absurd (h.2.2 hi) (by show ¬ 128 ≤ j'.val; omega)

theorem Part.grad_of_not_seen {i : Fin 4} {j : Fin 128} {k : Fin 256} (h : ¬ Seen i j k) : P.grad i j k = 0 := if_neg h

theorem Part.weight_of_not_seen {i : Fin 4} {j : Fin 128} {k : Fin 256} (h : ¬ Seen i j k) : P.weight i j k = 0 := if_neg h

/-- The first block of a residue class gives nothing to rows before it. -/
theorem Part.keyPart_first {i : Fin 4} (hi : i.val = 0) (j e : Fin 128) : P.keyPart i (lower j) e = 0 :=
  Finset.sum_eq_zero fun j' _ => by rw [P.grad_of_not_seen (not_seen_first hi j' j), zero_mul]

theorem Part.valuePart_first {i : Fin 4} (hi : i.val = 0) (j e : Fin 128) : P.valuePart i (lower j) e = 0 :=
  Finset.sum_eq_zero fun j' _ => by rw [P.weight_of_not_seen (not_seen_first hi j' j), zero_mul]

/-- Row `j` of block `i` of residue class `r`, in the sequence. -/
def row (r : Fin 16) (i : Fin 4) (j : Fin 128) : Fin 8192 := ⟨(i.val * 128 + j.val) * 16 + r.val, by omega⟩

/-- Column `e` of head `h`. -/
def col (h : Fin 16) (e : Fin 128) : Fin 2048 := ⟨h.val * 128 + e.val, by omega⟩

/-- The rows of head `h` and residue class `r` of the sequence: of queries, keys and values side by side, of the cotangents,
    of the log-sums and of the products. -/
def partOf (qkv : Fin 8192 → Fin 6144 → EReal) (o : Fin 8192 → Fin 2048 → EReal) (l d : Fin 8192 → Fin 128 → EReal)
    (slope : Fin 16 → EReal) (scale : EReal) (r h : Fin 16) : Part where
  q i j e := qkv (row r i j) ⟨(col h e).val, by omega⟩
  k i j e := qkv (row r i j) ⟨2048 + (col h e).val, by omega⟩
  v i j e := qkv (row r i j) ⟨4096 + (col h e).val, by omega⟩
  o i j e := o (row r i j) (col h e)
  l i j := l (row r i j) ⟨h.val, by omega⟩
  d i j := d (row r i j) ⟨h.val, by omega⟩
  slope := slope h
  scale := scale

/-- The gradients of all heads and residue classes, the rows ordered by residue class. -/
def assembled (parts : Fin 16 → Fin 16 → Part) (grad : Part → Fin 4 → Fin 128 → Fin 128 → EReal) (n : Fin 8192) (x : Fin 2048) : EReal :=
  grad (parts ⟨n.val / 512, by omega⟩ ⟨x.val / 128, by omega⟩) ⟨n.val / 128 % 4, by omega⟩ ⟨n.val % 128, by omega⟩ ⟨x.val % 128, by omega⟩

theorem assembled_at (parts : Fin 16 → Fin 16 → Part) (grad : Part → Fin 4 → Fin 128 → Fin 128 → EReal) (r h : Fin 16) (i : Fin 4)
    (j e : Fin 128) (n : Fin 8192) (hn : n.val = (4 * r.val + i.val) * 128 + j.val) :
    assembled parts grad n (col h e) = grad (parts r h) i j e := by
  have h1 : (⟨n.val / 512, by omega⟩ : Fin 16) = r := Fin.ext (by show n.val / 512 = r.val; omega)
  have h2 : (⟨n.val / 128 % 4, by omega⟩ : Fin 4) = i := Fin.ext (by show n.val / 128 % 4 = i.val; omega)
  have h3 : (⟨n.val % 128, by omega⟩ : Fin 128) = j := Fin.ext (by show n.val % 128 = j.val; omega)
  have h4 : (⟨(col h e).val / 128, by omega⟩ : Fin 16) = h := Fin.ext (by show (h.val * 128 + e.val) / 128 = h.val; omega)
  have h5 : (⟨(col h e).val % 128, by omega⟩ : Fin 128) = e := Fin.ext (by show (h.val * 128 + e.val) % 128 = e.val; omega)
  unfold assembled
  rw [h1, h2, h3, h4, h5]

/-- Every column is a column of a head. -/
theorem col_of (x : Fin 2048) : ∃ h e, x = col h e :=
  ⟨⟨x.val / 128, by omega⟩, ⟨x.val % 128, by omega⟩, Fin.ext (by show x.val = x.val / 128 * 128 + x.val % 128; omega)⟩

/-- Every grid point but the last is a block of a residue class. -/
theorem point_of (t : ℕ) (ht : t < 64) : ∃ (r : Fin 16) (i : Fin 4), t = 4 * r.val + i.val :=
  ⟨⟨t / 4, by omega⟩, ⟨t % 4, by omega⟩, by show t = 4 * (t / 4) + t % 4; omega⟩

end Cert.Far

end
-- ==== Proof.FarEntry.lean ====
module

public import proofs.«01_k».proof.Proof.FarRead
public import proofs.«01_k».proof.Proof.FarMath

/-!
# One head of one grid point, read over the extended reals

The head's gradients at an index, given what its blocks hold: the rows of block `i` of a residue class.  The block before is
only asked for where the window sees it.
-/

@[expose] public section

set_option maxRecDepth 16384

noncomputable section

namespace Cert.KernelIdeal.Far

open Idealize.ShloMosaic Idealize.ShloMosaic.TcCoe Idealize.ShloMosaic.Tactic
open Cert.KernelIdeal.Gen
open Cert.Far (Part Seen gap window upper lower)

/-- One head's blocks at a grid point are the rows of block `i` of the part `P`. -/
structure Holds (P : Part) (i : Fin 4) (h : Fin 16) (bias : FVec Ideal S128x256 .f32) (dist : Vec Ideal S128x256 .f32)
    (lse delta : Vec Ideal S128x128 .f32) (X : Loads Ideal) : Prop where
  q : ∀ j e, X.q (ix2 j e) = P.q i j e
  kOwn : ∀ j e, X.kOwn (ix2 j e) = P.k i j e
  vOwn : ∀ j e, X.vOwn (ix2 j e) = P.v i j e
  kPrev : ∀ hi : 0 < i.val, ∀ j e, X.kPrev (ix2 j e) = P.k ⟨i.val - 1, by omega⟩ j e
  vPrev : ∀ hi : 0 < i.val, ∀ j e, X.vPrev (ix2 j e) = P.v ⟨i.val - 1, by omega⟩ j e
  dout : ∀ j e, X.dout (ix2 j e) = P.o i j e
  lse : ∀ j, lse (ix2 j ⟨h.val, by omega⟩) = P.l i j
  delta : ∀ j, delta (ix2 j ⟨h.val, by omega⟩) = P.d i j
  slope : X.slope (ix3 0 0 0) = P.slope
  scale : Ideal.ofBits .f32 0x3DB504F3#32 = P.scale
  bias : ∀ j k, bias (ix2 j k) = if Seen i j k then 0 else ⊥
  dist : ∀ j k, Seen i j k → dist (ix2 j k) = gap j k

theorem stacked_apply (a b : Vec Ideal S128x128 .bf16) (k : Fin 256) (e : Fin 128) : stacked a b (ix2 k e) =
    if h : k.val < 128 then a (ix2 ⟨k.val, h⟩ e) else b (ix2 ⟨k.val - 128, by omega⟩ e) := by
  unfold stacked k0_pay10
  pointwise

/-- Two blocks one over the other are the window, on the keys that some row sees. -/
theorem stacked_window (x : Fin 4 → Fin 128 → Fin 128 → EReal) {i : Fin 4} {a b : Vec Ideal S128x128 .bf16}
    (ha : ∀ hi : 0 < i.val, ∀ j e, a (ix2 j e) = x ⟨i.val - 1, by omega⟩ j e) (hb : ∀ j e, b (ix2 j e) = x i j e)
    {j : Fin 128} {k : Fin 256} (hs : Seen i j k) (e : Fin 128) : stacked a b (ix2 k e) = window x i k e := by
  rw [stacked_apply]
  unfold window
  by_cases hk : k.val < 128
  · have hi : ¬ i.val < 1 := fun hi => absurd (hs.2.2 (by omega)) (by omega)
    rw [dif_pos hk, dif_pos hk, if_neg hi]
    exact ha (by omega) _ _
  · rw [dif_neg hk, dif_neg hk]
    exact hb _ _

theorem spread_apply (h : Fin 16) (t : Vec Ideal S128x128 .f32) (j : Fin 128) (k : Fin 256) :
    spread h t (ix2 j k) = t (ix2 j ⟨h.val, by omega⟩) := by
  unfold spread
  pointwise

section
variable {P : Part} {i : Fin 4} {h : Fin 16} {bias : FVec Ideal S128x256 .f32} {dist : Vec Ideal S128x256 .f32}
  {lse delta : Vec Ideal S128x128 .f32} {X : Loads Ideal} (H : Holds P i h bias dist lse delta X)
include H

theorem weights_apply (j : Fin 128) (k : Fin 256) : weights bias dist lse h X (ix2 j k) = P.weight i j k := by
  have e : weights bias dist lse h X (ix2 j k) =
      Ideal.exp ((∑ e, X.q (ix2 j e) * stacked X.kPrev X.kOwn (ix2 k e)) * Ideal.ofBits .f32 0x3DB504F3#32
        + (bias (ix2 j k) - X.slope (ix3 0 0 0) * dist (ix2 j k)) - spread h lse (ix2 j k)) := by
    unfold weights k0_pay12 k0_pay13 stacked
    generalize spread h lse = sp
    generalize k0_pay10 X.kPrev X.kOwn = kw
    pointwise
  rw [e, H.bias, H.slope, H.scale, spread_apply, H.lse]
  unfold Part.weight
  by_cases hs : Seen i j k
  · rw [if_pos hs, if_pos hs, H.dist j k hs, sub_eq_add_neg (0 : EReal), zero_add, EReal.neg_mul]
    congr 4
    exact Finset.sum_congr rfl fun e _ => by rw [H.q, stacked_window P.k H.kPrev H.kOwn hs]
  · rw [if_neg hs, if_neg hs, EReal.bot_sub, EReal.add_bot, EReal.bot_sub, Ideal.exp_bot]

theorem scoreGrad_apply (j : Fin 128) (k : Fin 256) : scoreGrad bias dist lse delta h X (ix2 j k) = P.grad i j k := by
  have e : scoreGrad bias dist lse delta h X (ix2 j k) =
      weights bias dist lse h X (ix2 j k) * (∑ e, X.dout (ix2 j e) * stacked X.vPrev X.vOwn (ix2 k e) - spread h delta (ix2 j k))
        * Ideal.ofBits .f32 0x3DB504F3#32 := by
    unfold scoreGrad
    generalize spread h delta = sp
    generalize weights bias dist lse h X = w
    generalize stacked X.vPrev X.vOwn = vw
    pointwise
  rw [e, weights_apply H, spread_apply, H.delta, H.scale]
  unfold Part.grad
  by_cases hs : Seen i j k
  · rw [if_pos hs]
    congr 3
    exact Finset.sum_congr rfl fun e _ => by rw [H.dout, stacked_window P.v H.vPrev H.vOwn hs]
  · rw [if_neg hs, P.weight_of_not_seen hs, zero_mul, zero_mul]

theorem queryGrad_apply (j e : Fin 128) : queryGrad bias dist lse delta h X (ix2 j e) = P.dq i j e := by
  have eq : queryGrad bias dist lse delta h X (ix2 j e) =
      ∑ k, scoreGrad bias dist lse delta h X (ix2 j k) * stacked X.kPrev X.kOwn (ix2 k e) := by
    unfold queryGrad
    generalize scoreGrad bias dist lse delta h X = s
    generalize stacked X.kPrev X.kOwn = kw
    pointwise
  rw [eq]
  unfold Part.dq
  refine Finset.sum_congr rfl fun k _ => ?_
  rw [scoreGrad_apply H]
  by_cases hs : Seen i j k
  · rw [stacked_window P.k H.kPrev H.kOwn hs]
  · rw [P.grad_of_not_seen hs, zero_mul, zero_mul]

theorem keyGrad_apply (k : Fin 256) (e : Fin 128) : keyGrad bias dist lse delta h X (ix2 k e) = P.keyPart i k e := by
  have eq : keyGrad bias dist lse delta h X (ix2 k e) =
      ∑ j, scoreGrad bias dist lse delta h X (ix2 j k) * X.q (ix2 j e) := by
    unfold keyGrad
    generalize scoreGrad bias dist lse delta h X = s
    pointwise
  rw [eq]
  unfold Part.keyPart
  exact Finset.sum_congr rfl fun j _ => by rw [scoreGrad_apply H, H.q]

theorem valueGrad_apply (k : Fin 256) (e : Fin 128) : valueGrad bias dist lse h X (ix2 k e) = P.valuePart i k e := by
  have eq : valueGrad bias dist lse h X (ix2 k e) = ∑ j, weights bias dist lse h X (ix2 j k) * X.dout (ix2 j e) := by
    unfold valueGrad
    generalize weights bias dist lse h X = s
    pointwise
  rw [eq]
  unfold Part.valuePart
  exact Finset.sum_congr rfl fun j _ => by rw [weights_apply H, H.dout]
end

theorem finished_apply (v : Vec Ideal S1x128x128 .f32) (w : FVec Ideal S256x128 .f32) (j e : Fin 128) :
    finished v w (ix2 j e) = v (ix3 0 j e) + w (ix2 (lower j) e) := by
  unfold finished k0_pay21 lower
  pointwise

theorem carriedOn_apply (w : FVec Ideal S256x128 .f32) (j e : Fin 128) : carriedOn w (ix3 0 j e) = w (ix2 (upper j) e) := by
  unfold carriedOn k0_pay22 upper
  pointwise

theorem pay5_apply (v : Vec Ideal S1x128x2048 .f32) (j : Fin 128) (n : Fin 2048) : k0_pay5 v (ix2 j n) = v (ix3 0 j n) := by
  unfold k0_pay5
  pointwise

theorem pay6_apply (v : Vec Ideal S1x128x2048 .f32) (j : Fin 128) (n : Fin 2048) : k0_pay6 v (ix2 j n) = v (ix3 0 j n) := by
  unfold k0_pay6
  pointwise

end Cert.KernelIdeal.Far

end
-- ==== Proof.FarTables.lean ====
module

public import proofs.«01_k».proof.Proof.Gen.KernelIdeal.Frame
public import Idealize.ShloMosaic.Lib.StableHlo.ReadAt
public import Idealize.ShloMosaic.Lib.Pointwise

/-!
# What the host hands the kernel

The reordering by residue of the four arguments, and the tables of the window: the logarithm of how many heads of the window
see a pair (zero where one does, −∞ where none), the distances, and the slopes.
-/

@[expose] public section

set_option maxRecDepth 16384

noncomputable section

namespace Cert.KernelIdeal.Far

open Idealize.ShloMosaic Idealize.ShloMosaic.TcCoe Idealize.ShloMosaic.Tactic
open Cert.KernelIdeal.Gen

variable (m : (ℓ : Loc nD τ sig) → Buf (Elt Ideal) ℓ) (c : Dev nD)

theorem V_main_v2 (n : Fin 8192) (x : Fin 6144) : (V m c main_v2 : S8192x6144.Idx → Ideal .bf16) (ix2 n x) =
    (m ((c.tc : Thread nD τ).loc main_arg0) : S8192x6144.Idx → Ideal .bf16) (ix2 ⟨n.val % 512 * 16 + n.val / 512, by omega⟩ x) := by
  unfold V
  after_reads_at

theorem V_main_v5 (n : Fin 8192) (x : Fin 2048) : (V m c main_v5 : S8192x2048.Idx → Ideal .bf16) (ix2 n x) =
    (m ((c.tc : Thread nD τ).loc main_arg1) : S8192x2048.Idx → Ideal .bf16) (ix2 ⟨n.val % 512 * 16 + n.val / 512, by omega⟩ x) := by
  unfold V
  after_reads_at

theorem V_main_v8 (n : Fin 8192) (x : Fin 128) : (V m c main_v8 : S8192x128.Idx → Ideal .f32) (ix2 n x) =
    (m ((c.tc : Thread nD τ).loc main_arg2) : S8192x128.Idx → Ideal .f32) (ix2 ⟨n.val % 512 * 16 + n.val / 512, by omega⟩ x) := by
  unfold V
  after_reads_at

theorem V_main_v11 (n : Fin 8192) (x : Fin 128) : (V m c main_v11 : S8192x128.Idx → Ideal .f32) (ix2 n x) =
    (m ((c.tc : Thread nD τ).loc main_arg3) : S8192x128.Idx → Ideal .f32) (ix2 ⟨n.val % 512 * 16 + n.val / 512, by omega⟩ x) := by
  unfold V
  after_reads_at

/-- The distance of row `j` and key `k`, in rows of the residue class, as the words hold it. -/
theorem distance_word (j : Fin 128) (k : Fin 256) :
    IntOp.subi (IntOp.addi (BitVec.ofNat 32 j.val) 128#32) (BitVec.ofNat 32 k.val)
      = IntOp.subi (BitVec.ofNat 32 (j.val + 255 - k.val)) 127#32 := by
  show BitVec.ofNat 32 j.val + 128#32 - BitVec.ofNat 32 k.val = BitVec.ofNat 32 (j.val + 255 - k.val) - 127#32
  have := j.isLt
  have := k.isLt
  apply BitVec.eq_of_toNat_eq
  simp only [BitVec.toNat_sub, BitVec.toNat_add, BitVec.toNat_ofNat]
  omega

theorem V_main_v40 (j : Fin 128) (k : Fin 256) : (V m c main_v40 : S128x256.Idx → Ideal .f32) (ix2 j k) = if k.val ≤ j.val + 128 ∧ j.val ≤ k.val then (0 : EReal) else ⊥ := by
  unfold V
  after_reads_at
  generalize hw : IntOp.andi (IntOp.andi _ _) _ = w
  have hb : w = if k.val ≤ j.val + 128 ∧ j.val ≤ k.val then 1#1 else 0#1 := by
    rw [← hw]
    rw [distance_word]
    clear hw w
    have hd : j.val + 255 - k.val < 383 := by omega
    have hc : (k.val ≤ j.val + 128 ∧ j.val ≤ k.val) ↔ 127 ≤ j.val + 255 - k.val ∧ j.val + 255 - k.val ≤ 255 := by omega
    rw [if_congr hc rfl rfl]
    generalize j.val + 255 - k.val = d at hd
    clear hc
    revert d
    decide +kernel
  rw [hb]
  by_cases h : k.val ≤ j.val + 128 ∧ j.val ≤ k.val
  · rw [if_pos h, if_pos h]
    clear hw
    have h1 : FloatOps.uitofp (F := Ideal) .f32 1#1 = (1 : EReal) := by
      show (((1 : ℕ) : ℝ) : EReal) = 1
      norm_num
    rw [h1, if_pos zero_lt_one, max_self]
    show Ideal.log ((1 : ℝ) : EReal) = 0
    show (if (1 : ℝ) ≤ 0 then ⊥ else (Real.log 1 : EReal)) = 0
    rw [if_neg (by norm_num), Real.log_one]
    rfl
  · rw [if_neg h, if_neg h]
    clear hw
    have h0 : FloatOps.uitofp (F := Ideal) .f32 0#1 = (0 : EReal) := by
      show (((0 : ℕ) : ℝ) : EReal) = 0
      norm_num
    rw [h0, if_neg (lt_irrefl _)]
    show Ideal.ofBits .f32 0xFF800000#32 = ⊥
    simp [Ideal.ofBits, Ideal.ieee]
theorem V_main_v43 (j : Fin 128) (k : Fin 256) (hs : k.val ≤ j.val + 128) : (V m c main_v43 : S128x256.Idx → Ideal .f32) (ix2 j k) = (((((j.val : ℤ) + 128 - k.val) * 16 : ℤ) : ℝ) : EReal) := by
  unfold V
  after_reads_at
  generalize hw : IntOp.maxsi _ _ = w
  have hb : w.toInt = ((j.val : ℤ) + 128 - k.val) * 16 := by
    rw [← hw]
    rw [distance_word]
    clear hw w
    have hd : j.val + 255 - k.val < 383 := by omega
    have hl : 127 ≤ j.val + 255 - k.val := by omega
    have hc : ((j.val : ℤ) + 128 - k.val) * 16 = (((j.val + 255 - k.val : ℕ) : ℤ) - 127) * 16 := by omega
    rw [hc]
    generalize j.val + 255 - k.val = d at hd hl
    clear hc
    revert d
    decide +kernel
  show ((w.toInt : ℝ) : EReal) = _
  rw [hb]

theorem V_main_v45 (h : Fin 16) (x : Fin 128) : (V m c main_v45 : S16x1x128.Idx → Ideal .f32) (ix3 h 0 x) = Ideal.ofBits FTy.f32 (lit0 h) := by
  unfold V
  after_reads_at
  fin_cases h <;> rfl

end Cert.KernelIdeal.Far
-- ==== Proof.FarBlocks.lean ====
module

public import proofs.«01_k».proof.Proof.FarFrame
public import proofs.«01_k».proof.Proof.FarEntry
public import proofs.«01_k».proof.Proof.FarTables

/-!
# The blocks of a grid point are the rows of a block of a residue class

Grid point `4 r + i` takes block `i` of residue class `r`.
-/

@[expose] public section

set_option maxRecDepth 16384

noncomputable section

namespace Cert.KernelIdeal.Far

open Idealize.ShloMosaic Idealize.ShloMosaic.TcCoe Idealize.ShloMosaic.Tactic
open Cert.KernelIdeal.Gen
open Cert.Far (Part Seen gap partOf row col)

variable (m : (ℓ : Loc nD τ sig) → Buf (Elt Ideal) ℓ) (c : Dev nD)

/-- The slope of a head. -/
def slopeOf (h : Fin 16) : EReal := Ideal.ofBits .f32 (lit0 h)

/-- The rows of head `h` and residue class `r` of the arguments. -/
def argPart (r h : Fin 16) : Part :=
  partOf (fun n x => (m ((c.tc : Thread nD τ).loc main_arg0) : S8192x6144.Idx → Ideal .bf16) (ix2 n x))
    (fun n x => (m ((c.tc : Thread nD τ).loc main_arg1) : S8192x2048.Idx → Ideal .bf16) (ix2 n x))
    (fun n x => (m ((c.tc : Thread nD τ).loc main_arg2) : S8192x128.Idx → Ideal .f32) (ix2 n x))
    (fun n x => (m ((c.tc : Thread nD τ).loc main_arg3) : S8192x128.Idx → Ideal .f32) (ix2 n x))
    slopeOf (Ideal.ofBits .f32 0x3DB504F3#32) r h

/-- An element of a block, in its array. -/
theorem emb_at (w : Pipeline.Window sig grid0) (t : Fin grid0.N) (y : (w.xblock (grid0.coords t)).Idx) (x : w.shape.Idx)
    (hk : w.kind = .blocked) (h : ∀ a, (x a : ℕ) = w.index t a * w.size a + y a) : (w.rect t).emb y = x :=
  funext fun a => Fin.ext ((w.rect_emb_val t y a hk).trans (h a).symm)

theorem coords_val : ∀ t : Fin grid0.N, (grid0.coords t 0).val = t.val := by decide +kernel

/-! ### Which block each window is on at a grid point -/

theorem index_0 : ∀ t : Fin grid0.N, t.val < 64 → win0_0.index t = ![t.val, 0] := by decide +kernel
theorem index_1 : ∀ t : Fin grid0.N, t.val < 64 → win0_1.index t = ![t.val - 1, 1] := by decide +kernel
theorem index_2 : ∀ t : Fin grid0.N, t.val < 64 → win0_2.index t = ![t.val, 1] := by decide +kernel
theorem index_3 : ∀ t : Fin grid0.N, t.val < 64 → win0_3.index t = ![t.val - 1, 2] := by decide +kernel
theorem index_4 : ∀ t : Fin grid0.N, t.val < 64 → win0_4.index t = ![t.val, 2] := by decide +kernel
theorem index_5 : ∀ t : Fin grid0.N, t.val < 64 → win0_5.index t = ![t.val, 0] := by decide +kernel
theorem index_6 : ∀ t : Fin grid0.N, t.val < 64 → win0_6.index t = ![t.val, 0] := by decide +kernel
theorem index_7 : ∀ t : Fin grid0.N, t.val < 64 → win0_7.index t = ![t.val, 0] := by decide +kernel
theorem index_8 : ∀ t : Fin grid0.N, win0_8.index t = ![0, 0] := by decide +kernel
theorem index_9 : ∀ t : Fin grid0.N, win0_9.index t = ![0, 0] := by decide +kernel
theorem index_10 : ∀ t : Fin grid0.N, win0_10.index t = ![0, 0, 0] := by decide +kernel

/-! ### The blocks, in their arrays -/

section
variable (t : Fin cfg0.N) (ht : t.val < 64) (j : Fin 128)
include ht

theorem block_q (x : Fin 2048) : (blocksAt m c t).q (ix2 j x) =
    (V m c main_v2 : S8192x6144.Idx → Ideal .bf16) (ix2 ⟨t.val * 128 + j.val, by omega⟩ ⟨0 + x.val, by omega⟩) := by
  refine congrArg (V m c main_v2 : S8192x6144.Idx → Ideal .bf16) (emb_at win0_0 t (ix2 j x) (ix2 _ _) rfl fun a => ?_)
  rw [index_0 t ht]
  match a with
  | 0 => rfl
  | 1 => show 0 + x.val = 0 * 2048 + x.val; omega

theorem block_kPrev (x : Fin 2048) : (blocksAt m c t).kPrev (ix2 j x) =
    (V m c main_v2 : S8192x6144.Idx → Ideal .bf16) (ix2 ⟨(t.val - 1) * 128 + j.val, by omega⟩ ⟨2048 + x.val, by omega⟩) := by
  refine congrArg (V m c main_v2 : S8192x6144.Idx → Ideal .bf16) (emb_at win0_1 t (ix2 j x) (ix2 _ _) rfl fun a => ?_)
  rw [index_1 t ht]
  match a with
  | 0 => rfl
  | 1 => show 2048 + x.val = 1 * 2048 + x.val; omega

theorem block_kOwn (x : Fin 2048) : (blocksAt m c t).kOwn (ix2 j x) =
    (V m c main_v2 : S8192x6144.Idx → Ideal .bf16) (ix2 ⟨t.val * 128 + j.val, by omega⟩ ⟨2048 + x.val, by omega⟩) := by
  refine congrArg (V m c main_v2 : S8192x6144.Idx → Ideal .bf16) (emb_at win0_2 t (ix2 j x) (ix2 _ _) rfl fun a => ?_)
  rw [index_2 t ht]
  match a with
  | 0 => rfl
  | 1 => show 2048 + x.val = 1 * 2048 + x.val; omega

theorem block_vPrev (x : Fin 2048) : (blocksAt m c t).vPrev (ix2 j x) =
    (V m c main_v2 : S8192x6144.Idx → Ideal .bf16) (ix2 ⟨(t.val - 1) * 128 + j.val, by omega⟩ ⟨4096 + x.val, by omega⟩) := by
  refine congrArg (V m c main_v2 : S8192x6144.Idx → Ideal .bf16) (emb_at win0_3 t (ix2 j x) (ix2 _ _) rfl fun a => ?_)
  rw [index_3 t ht]
  match a with
  | 0 => rfl
  | 1 => show 4096 + x.val = 2 * 2048 + x.val; omega

theorem block_vOwn (x : Fin 2048) : (blocksAt m c t).vOwn (ix2 j x) =
    (V m c main_v2 : S8192x6144.Idx → Ideal .bf16) (ix2 ⟨t.val * 128 + j.val, by omega⟩ ⟨4096 + x.val, by omega⟩) := by
  refine congrArg (V m c main_v2 : S8192x6144.Idx → Ideal .bf16) (emb_at win0_4 t (ix2 j x) (ix2 _ _) rfl fun a => ?_)
  rw [index_4 t ht]
  match a with
  | 0 => rfl
  | 1 => show 4096 + x.val = 2 * 2048 + x.val; omega

theorem block_dout (x : Fin 2048) : (blocksAt m c t).dout (ix2 j x) =
    (V m c main_v5 : S8192x2048.Idx → Ideal .bf16) (ix2 ⟨t.val * 128 + j.val, by omega⟩ x) := by
  refine congrArg (V m c main_v5 : S8192x2048.Idx → Ideal .bf16) (emb_at win0_5 t (ix2 j x) (ix2 _ _) rfl fun a => ?_)
  rw [index_5 t ht]
  match a with
  | 0 => rfl
  | 1 => show x.val = 0 * 2048 + x.val; omega

theorem block_lse (x : Fin 128) : (blocksAt m c t).lse (ix2 j x) =
    (V m c main_v8 : S8192x128.Idx → Ideal .f32) (ix2 ⟨t.val * 128 + j.val, by omega⟩ x) := by
  refine congrArg (V m c main_v8 : S8192x128.Idx → Ideal .f32) (emb_at win0_6 t (ix2 j x) (ix2 _ _) rfl fun a => ?_)
  rw [index_6 t ht]
  match a with
  | 0 => rfl
  | 1 => show x.val = 0 * 128 + x.val; omega

theorem block_delta (x : Fin 128) : (blocksAt m c t).delta (ix2 j x) =
    (V m c main_v11 : S8192x128.Idx → Ideal .f32) (ix2 ⟨t.val * 128 + j.val, by omega⟩ x) := by
  refine congrArg (V m c main_v11 : S8192x128.Idx → Ideal .f32) (emb_at win0_7 t (ix2 j x) (ix2 _ _) rfl fun a => ?_)
  rw [index_7 t ht]
  match a with
  | 0 => rfl
  | 1 => show x.val = 0 * 128 + x.val; omega

end

theorem block_logn (t : Fin cfg0.N) : (blocksAt m c t).logn = (V m c main_v40 : S128x256.Idx → Ideal .f32) := by
  funext y
  refine congrArg (V m c main_v40 : S128x256.Idx → Ideal .f32) (emb_at win0_8 t y y rfl fun a => ?_)
  rw [index_8 t]
  match a with
  | 0 => show (y 0).val = 0 * 128 + (y 0).val; omega
  | 1 => show (y 1).val = 0 * 256 + (y 1).val; omega

theorem block_dist (t : Fin cfg0.N) : (blocksAt m c t).dist = (V m c main_v43 : S128x256.Idx → Ideal .f32) := by
  funext y
  refine congrArg (V m c main_v43 : S128x256.Idx → Ideal .f32) (emb_at win0_9 t y y rfl fun a => ?_)
  rw [index_9 t]
  match a with
  | 0 => show (y 0).val = 0 * 128 + (y 0).val; omega
  | 1 => show (y 1).val = 0 * 256 + (y 1).val; omega

theorem block_slopes (t : Fin cfg0.N) : (blocksAt m c t).slopes = (V m c main_v45 : S16x1x128.Idx → Ideal .f32) := by
  funext y
  refine congrArg (V m c main_v45 : S16x1x128.Idx → Ideal .f32) (emb_at win0_10 t y y rfl fun a => ?_)
  rw [index_10 t]
  match a with
  | 0 => show (y 0).val = 0 * 16 + (y 0).val; omega
  | 1 => show (y 1).val = 0 * 1 + (y 1).val; omega
  | 2 => show (y 2).val = 0 * 128 + (y 2).val; omega

/-! ### The mask of a grid point -/

theorem first_word : ∀ t : Fin 64, Scalar.subi (128#32) (Scalar.remsi (Scalar.muli (BitVec.ofNat 32 t.val) 128#32) 512#32)
    = IntOp.subi 128#32 (BitVec.ofNat 32 (t.val % 4 * 128)) := by decide +kernel

theorem first_mask : ∀ (i : Fin 4) (k : Fin 256),
    IntOp.cmpi .sge (BitVec.ofNat 32 k.val) (IntOp.subi 128#32 (BitVec.ofNat 32 (i.val * 128)))
      = if i.val = 0 → 128 ≤ k.val then 1#1 else 0#1 := by decide +kernel

theorem bias_eq (t : Fin cfg0.N) (ht : t.val < 64) {i : Fin 4} (hi : t.val % 4 = i.val) (w : Vec Ideal S128x256 .f32) (j : Fin 128)
    (k : Fin 256) : biasAt (grid0.coords t) w (ix2 j k) = if i.val = 0 → 128 ≤ k.val then w (ix2 j k) else (⊥ : EReal) := by
  have e : biasAt (grid0.coords t) w (ix2 j k) = Scalar.select
      (IntOp.cmpi .sge (BitVec.ofNat 32 k.val)
        (Scalar.subi (128#32) (Scalar.remsi (Scalar.muli (BitVec.ofNat 32 (grid0.coords t 0).val) 128#32) 512#32)))
      (w (ix2 j k)) (Named.named (F := Ideal) (φ := .f32) κ "mask" 0xF149F2CA#32) := by
    unfold biasAt k0_pay7
    pointwise
  rw [e, coords_val, first_word ⟨t.val, ht⟩, show (⟨t.val, ht⟩ : Fin 64).val = t.val from rfl, hi, first_mask]
  by_cases h : i.val = 0 → 128 ≤ k.val
  · rw [if_pos h, if_pos h]; rfl
  · rw [if_neg h, if_neg h]; rfl

end Cert.KernelIdeal.Far

end
-- ==== Proof.FarHolds.lean ====
module

public import proofs.«01_k».proof.Proof.FarBlocks

/-!
# One head of a grid point holds the rows of a block of a residue class
-/

@[expose] public section

set_option maxRecDepth 16384

noncomputable section

namespace Cert.KernelIdeal.Far

open Idealize.ShloMosaic Idealize.ShloMosaic.TcCoe Idealize.ShloMosaic.Tactic
open Cert.KernelIdeal.Gen
open Cert.Far (Part Seen gap partOf row col)

variable (m : (ℓ : Loc nD τ sig) → Buf (Elt Ideal) ℓ) (c : Dev nD)

/-! ### One head of a grid point -/

/-- The reordered row, at the place of the sequence it comes from. -/
theorem reordered {r : Fin 16} {i : Fin 4} {n : ℕ} (hn : n = 4 * r.val + i.val) (j : Fin 128) (h : n * 128 + j.val < 8192) :
    (⟨(⟨n * 128 + j.val, h⟩ : Fin 8192).val % 512 * 16 + (⟨n * 128 + j.val, h⟩ : Fin 8192).val / 512, by
      have := (⟨n * 128 + j.val, h⟩ : Fin 8192).isLt; omega⟩ : Fin 8192) = row r i j :=
  Fin.ext (by show (n * 128 + j.val) % 512 * 16 + (n * 128 + j.val) / 512 = (i.val * 128 + j.val) * 16 + r.val; omega)

theorem head_emb (h : Fin 16) (j e : Fin 128) : (headRect h).emb (ix2 j e) = ix2 j (col h e) :=
  funext fun a => Fin.ext (by
    match a with
    | 0 => show 0 + 1 * j.val = j.val; omega
    | 1 => show 128 * h.val + 1 * e.val = h.val * 128 + e.val; omega)

theorem slope_emb (h : Fin 16) : (slopeRect h).emb (ix3 0 0 0) = ix3 h 0 0 :=
  funext fun a => Fin.ext (by
    match a with
    | 0 => show h.val + 1 * 0 = h.val; omega
    | 1 => rfl
    | 2 => rfl)

section
variable {t : Fin cfg0.N} {r : Fin 16} {i : Fin 4} (hn : t.val = 4 * r.val + i.val) (h : Fin 16) (j e : Fin 128)
include hn

theorem held_q : ((blocksAt m c t).head h).q (ix2 j e) = (argPart m c r h).q i j e := by
  refine (congrArg (blocksAt m c t).q (head_emb h j e)).trans ?_
  refine (block_q m c t (by omega) j (col h e)).trans ?_
  refine (V_main_v2 m c _ _).trans (congrArg (m ((c.tc : Thread nD τ).loc main_arg0)) ?_)
  exact congrArg₂ ix2 (reordered hn j _) (Fin.ext (Nat.zero_add _))

theorem held_kOwn : ((blocksAt m c t).head h).kOwn (ix2 j e) = (argPart m c r h).k i j e := by
  refine (congrArg (blocksAt m c t).kOwn (head_emb h j e)).trans ?_
  refine (block_kOwn m c t (by omega) j (col h e)).trans ?_
  refine (V_main_v2 m c _ _).trans (congrArg (m ((c.tc : Thread nD τ).loc main_arg0)) ?_)
  exact congrArg₂ ix2 (reordered hn j _) (Fin.ext rfl)

theorem held_vOwn : ((blocksAt m c t).head h).vOwn (ix2 j e) = (argPart m c r h).v i j e := by
  refine (congrArg (blocksAt m c t).vOwn (head_emb h j e)).trans ?_
  refine (block_vOwn m c t (by omega) j (col h e)).trans ?_
  refine (V_main_v2 m c _ _).trans (congrArg (m ((c.tc : Thread nD τ).loc main_arg0)) ?_)
  exact congrArg₂ ix2 (reordered hn j _) (Fin.ext rfl)

theorem held_dout : ((blocksAt m c t).head h).dout (ix2 j e) = (argPart m c r h).o i j e := by
  refine (congrArg (blocksAt m c t).dout (head_emb h j e)).trans ?_
  refine (block_dout m c t (by omega) j (col h e)).trans ?_
  refine (V_main_v5 m c _ _).trans (congrArg (m ((c.tc : Thread nD τ).loc main_arg1)) ?_)
  exact congrArg₂ ix2 (reordered hn j _) (Fin.ext rfl)

theorem held_kPrev (hi : 0 < i.val) : ((blocksAt m c t).head h).kPrev (ix2 j e) = (argPart m c r h).k ⟨i.val - 1, by omega⟩ j e := by
  refine (congrArg (blocksAt m c t).kPrev (head_emb h j e)).trans ?_
  refine (block_kPrev m c t (by omega) j (col h e)).trans ?_
  refine (V_main_v2 m c _ _).trans (congrArg (m ((c.tc : Thread nD τ).loc main_arg0)) ?_)
  exact congrArg₂ ix2 (reordered (i := ⟨i.val - 1, by omega⟩) (by show _ = 4 * r.val + (i.val - 1); omega) j _) (Fin.ext rfl)

theorem held_vPrev (hi : 0 < i.val) : ((blocksAt m c t).head h).vPrev (ix2 j e) = (argPart m c r h).v ⟨i.val - 1, by omega⟩ j e := by
  refine (congrArg (blocksAt m c t).vPrev (head_emb h j e)).trans ?_
  refine (block_vPrev m c t (by omega) j (col h e)).trans ?_
  refine (V_main_v2 m c _ _).trans (congrArg (m ((c.tc : Thread nD τ).loc main_arg0)) ?_)
  exact congrArg₂ ix2 (reordered (i := ⟨i.val - 1, by omega⟩) (by show _ = 4 * r.val + (i.val - 1); omega) j _) (Fin.ext rfl)

theorem held_lse : (blocksAt m c t).lse (ix2 j ⟨h.val, by omega⟩) = (argPart m c r h).l i j := by
  refine (block_lse m c t (by omega) j _).trans ?_
  refine (V_main_v8 m c _ _).trans (congrArg (m ((c.tc : Thread nD τ).loc main_arg2)) ?_)
  exact congrArg₂ ix2 (reordered hn j _) rfl

theorem held_delta : (blocksAt m c t).delta (ix2 j ⟨h.val, by omega⟩) = (argPart m c r h).d i j := by
  refine (block_delta m c t (by omega) j _).trans ?_
  refine (V_main_v11 m c _ _).trans (congrArg (m ((c.tc : Thread nD τ).loc main_arg3)) ?_)
  exact congrArg₂ ix2 (reordered hn j _) rfl

theorem held_bias (k : Fin 256) :
    biasAt (grid0.coords t) (blocksAt m c t).logn (ix2 j k) = if Seen i j k then (0 : EReal) else ⊥ := by
  rw [bias_eq t (by omega) (i := i) (by omega), block_logn, V_main_v40]
  by_cases h1 : i.val = 0 → 128 ≤ k.val
  · rw [if_pos h1]
    exact if_congr ⟨fun h => ⟨h.1, h.2, h1⟩, fun h => ⟨h.1, h.2.1⟩⟩ rfl rfl
  · rw [if_neg h1, if_neg fun hs : Seen i j k => h1 hs.2.2]
end

theorem held_slope (t : Fin cfg0.N) (r h : Fin 16) : ((blocksAt m c t).head h).slope (ix3 0 0 0) = (argPart m c r h).slope := by
  refine (congrArg (blocksAt m c t).slopes (slope_emb h)).trans ?_
  rw [block_slopes]
  exact V_main_v45 m c h 0

theorem held_dist (t : Fin cfg0.N) {i : Fin 4} (j : Fin 128) (k : Fin 256) (hs : Seen i j k) :
    (blocksAt m c t).dist (ix2 j k) = gap j k := by
  rw [block_dist]
  exact V_main_v43 m c j k hs.1

theorem holds {t : Fin cfg0.N} {r : Fin 16} {i : Fin 4} (hn : t.val = 4 * r.val + i.val) (h : Fin 16) :
    Holds (argPart m c r h) i h (biasAt (grid0.coords t) (blocksAt m c t).logn) (blocksAt m c t).dist (blocksAt m c t).lse
      (blocksAt m c t).delta ((blocksAt m c t).head h) where
  q := held_q m c hn h
  kOwn := held_kOwn m c hn h
  vOwn := held_vOwn m c hn h
  kPrev hi j e := held_kPrev m c hn h j e hi
  vPrev hi j e := held_vPrev m c hn h j e hi
  dout := held_dout m c hn h
  lse := held_lse m c hn h
  delta := held_delta m c hn h
  slope := held_slope m c t r h
  scale := rfl
  bias j k := held_bias m c hn j k
  dist j k hs := held_dist m c t j k hs

end Cert.KernelIdeal.Far

end
-- ==== Proof.FarArrays.lean ====
module

public import proofs.«01_k».proof.Proof.FarHolds

/-!
# The three arrays the kernel leaves
-/

@[expose] public section

set_option maxRecDepth 16384

noncomputable section

namespace Cert.KernelIdeal.Far

open Idealize.ShloMosaic Idealize.ShloMosaic.TcCoe Idealize.ShloMosaic.Tactic
open Cert.KernelIdeal.Gen
open Cert.Far

variable (m : (ℓ : Loc nD τ sig) → Buf (Elt Ideal) ℓ) (c : Dev nD)

/-! ### What each grid point leaves -/

theorem carry_emb (p : grid0.Coords) (h : Fin 16) (j e : Fin 128) : (carryRect p h).emb (ix3 0 j e) = ix3 0 j (col h e) :=
  funext fun a => Fin.ext (by
    match a with
    | 0 => show carryOff p h 0 + 1 * 0 = 0; rw [carryOff_eq]; rfl
    | 1 => show carryOff p h 1 + 1 * j.val = j.val; rw [carryOff_eq]; show 0 + 1 * j.val = j.val; omega
    | 2 => show carryOff p h 2 + 1 * e.val = h.val * 128 + e.val; rw [carryOff_eq]; show 128 * h.val + 1 * e.val = _; omega)

section
variable {n : ℕ} {r : Fin 16} {i : Fin 4} (hn : n = 4 * r.val + i.val) (h : Fin 16) (j e : Fin 128)
include hn

theorem capped_val : (capped n).val = n := by show min n 63 = n; omega

theorem dqAt_apply : dqAt m c n (ix2 j (col h e)) = (argPart m c r h).dq i j e := by
  unfold dqAt dqOf
  rw [← head_emb, byHead_emb]
  exact queryGrad_apply (holds m c (by rw [capped_val hn]; exact hn) h) j e

theorem dkHead_apply (k : Fin 256) :
    dkHead (grid0.coords (capped n)) (blocksAt m c (capped n)) h (ix2 k e) = (argPart m c r h).keyPart i k e :=
  keyGrad_apply (holds m c (by rw [capped_val hn]; exact hn) h) k e

theorem dvHead_apply (k : Fin 256) :
    dvHead (grid0.coords (capped n)) (blocksAt m c (capped n)) h (ix2 k e) = (argPart m c r h).valuePart i k e :=
  valueGrad_apply (holds m c (by rw [capped_val hn]; exact hn) h) k e

theorem ckAt_apply : ckAt m c n (ix3 0 j (col h e)) = (argPart m c r h).keyPart i (upper j) e := by
  unfold ckAt ckOf
  rw [← carry_emb (grid0.coords (capped n)) h j e, byHeadCarry_emb, carriedOn_apply]
  exact dkHead_apply m c hn h e (upper j)

theorem cvAt_apply : cvAt m c n (ix3 0 j (col h e)) = (argPart m c r h).valuePart i (upper j) e := by
  unfold cvAt cvOf
  rw [← carry_emb (grid0.coords (capped n)) h j e, byHeadCarry_emb, carriedOn_apply]
  exact dvHead_apply m c hn h e (upper j)
end

/-- What the point after block `i` of class `r` leaves of the block's gradient, from what the block and the next block give. -/
theorem handed {part : Fin 16 → Fin 4 → Fin 256 → Fin 128 → EReal} (first : ∀ r i j e, i.val = 0 → part r i (lower j) e = 0)
    {t : ℕ} (ht : t < 64) {r r' : Fin 16} {i i' : Fin 4} (hn : t = 4 * r.val + i.val + 1) (hn' : t = 4 * r'.val + i'.val) (j e : Fin 128) :
    part r i (upper j) e + part r' i' (lower j) e = gather (part r) i j e := by
  unfold gather
  by_cases h : i.val < 3
  · rw [dif_pos h]
    have hr : r' = r := Fin.ext (by omega)
    have hi : i' = ⟨i.val + 1, by omega⟩ := Fin.ext (by show i'.val = i.val + 1; omega)
    rw [hr, hi]
  · rw [dif_neg h, first r' i' j e (by omega)]

section
variable (t : Fin cfg0.N) {r : Fin 16} {i : Fin 4} (hn : t.val = 4 * r.val + i.val + 1) (h : Fin 16) (j e : Fin 128)
include hn

theorem dkAt_apply : dkAt m c t (ix2 j (col h e)) = (argPart m c r h).dk i j e := by
  have ht0 : ¬ t.val = 0 := by omega
  have hc : t.val - 1 = 4 * r.val + i.val := by omega
  unfold dkAt Part.dk
  by_cases ht : t.val < 64
  · obtain ⟨r', i', hn'⟩ := point_of t.val ht
    rw [if_pos ht, if_neg ht0]
    unfold dkOf
    rw [← head_emb, byHead_emb, finished_apply, carry_emb, ckAt_apply m c hc]
    refine Eq.trans ?_ (handed (part := fun r => (argPart m c r h).keyPart) (fun r i j e hi => Part.keyPart_first _ hi j e) ht hn hn' j e)
    exact congrArg _ (keyGrad_apply (holds m c hn' h) (lower j) e)
  · have htN : t.val < 65 := t.isLt
    rw [if_neg ht, pay5_apply, ckAt_apply m c (r := r) (i := i) (by omega)]
    unfold gather
    rw [dif_neg (by omega), add_zero]

theorem dvAt_apply : dvAt m c t (ix2 j (col h e)) = (argPart m c r h).dv i j e := by
  have ht0 : ¬ t.val = 0 := by omega
  have hc : t.val - 1 = 4 * r.val + i.val := by omega
  unfold dvAt Part.dv
  by_cases ht : t.val < 64
  · obtain ⟨r', i', hn'⟩ := point_of t.val ht
    rw [if_pos ht, if_neg ht0]
    unfold dvOf
    rw [← head_emb, byHead_emb, finished_apply, carry_emb, cvAt_apply m c hc]
    refine Eq.trans ?_ (handed (part := fun r => (argPart m c r h).valuePart) (fun r i j e hi => Part.valuePart_first _ hi j e) ht hn hn' j e)
    exact congrArg _ (valueGrad_apply (holds m c hn' h) (lower j) e)
  · have htN : t.val < 65 := t.isLt
    rw [if_neg ht, pay6_apply, cvAt_apply m c (r := r) (i := i) (by omega)]
    unfold gather
    rw [dif_neg (by omega), add_zero]
end

/-! ### The arrays after the last grid point -/

/-- A gradient of all heads and residue classes of the arguments. -/
def gradArray (grad : Part → Fin 4 → Fin 128 → Fin 128 → EReal) : S8192x2048.Idx → EReal := fun y =>
  assembled (argPart m c) grad (y 0) (y 1)

theorem flush_11 : ∀ t : Fin cfg0.N, (cfg0.win 11).flush t = true ↔ t.val ≠ 63 := by decide +kernel
theorem flush_12 : ∀ t : Fin cfg0.N, (cfg0.win 12).flush t = true ↔ t.val ≠ 0 := by decide +kernel
theorem flush_13 : ∀ t : Fin cfg0.N, (cfg0.win 13).flush t = true ↔ t.val ≠ 0 := by decide +kernel
theorem index_11 : ∀ t : Fin grid0.N, win0_11.index t = ![min t.val 63, 0] := by decide +kernel
theorem index_12 : ∀ t : Fin grid0.N, win0_12.index t = ![t.val - 1, 0] := by decide +kernel
theorem index_13 : ∀ t : Fin grid0.N, win0_13.index t = ![t.val - 1, 0] := by decide +kernel

theorem emb_11 (t : Fin cfg0.N) (j : Fin 128) (x : Fin 2048) :
    (win0_11.rect t).emb (ix2 j x) = ix2 (⟨(min t.val 63) * 128 + j.val, by omega⟩ : Fin 8192) x :=
  emb_at win0_11 t (ix2 j x) (ix2 (⟨(min t.val 63) * 128 + j.val, by omega⟩ : Fin 8192) x) rfl fun a => by
    rw [index_11 t]
    match a with
    | 0 => rfl
    | 1 => show x.val = 0 * 2048 + x.val; omega

theorem emb_12 (t : Fin cfg0.N) (j : Fin 128) (x : Fin 2048) :
    (win0_12.rect t).emb (ix2 j x) = ix2 (⟨(t.val - 1) * 128 + j.val, by have : t.val < 65 := t.isLt; omega⟩ : Fin 8192) x :=
  emb_at win0_12 t (ix2 j x) (ix2 (⟨(t.val - 1) * 128 + j.val, by have : t.val < 65 := t.isLt; omega⟩ : Fin 8192) x) rfl fun a => by
    rw [index_12 t]
    match a with
    | 0 => rfl
    | 1 => show x.val = 0 * 2048 + x.val; omega

theorem emb_13 (t : Fin cfg0.N) (j : Fin 128) (x : Fin 2048) :
    (win0_13.rect t).emb (ix2 j x) = ix2 (⟨(t.val - 1) * 128 + j.val, by have : t.val < 65 := t.isLt; omega⟩ : Fin 8192) x :=
  emb_at win0_13 t (ix2 j x) (ix2 (⟨(t.val - 1) * 128 + j.val, by have : t.val < 65 := t.isLt; omega⟩ : Fin 8192) x) rfl fun a => by
    rw [index_13 t]
    match a with
    | 0 => rfl
    | 1 => show x.val = 0 * 2048 + x.val; omega

theorem dq_point (t : Fin cfg0.N) (j : Fin 128) (x : Fin 2048) :
    dqAt m c t.val (ix2 j x) = gradArray m c Part.dq (ix2 (⟨min t.val 63 * 128 + j.val, by omega⟩ : Fin 8192) x) := by
  obtain ⟨h, e, rfl⟩ := col_of x
  obtain ⟨r, i, hn⟩ := point_of (min t.val 63) (by omega)
  have hc : dqAt m c t.val = dqAt m c (min t.val 63) := by
    unfold dqAt
    rw [show capped (min t.val 63) = capped t.val from Fin.ext (by show min (min t.val 63) 63 = min t.val 63; omega)]
  rw [hc, dqAt_apply m c hn]
  exact (assembled_at (argPart m c) Part.dq r h i j e _ (by show min t.val 63 * 128 + j.val = _; rw [hn])).symm

theorem dk_point (t : Fin cfg0.N) (ht : t.val ≠ 0) (j : Fin 128) (x : Fin 2048) :
    dkAt m c t (ix2 j x) = gradArray m c Part.dk (ix2 (⟨(t.val - 1) * 128 + j.val, by have : t.val < 65 := t.isLt; omega⟩ : Fin 8192) x) := by
  have hN : t.val < 65 := t.isLt
  obtain ⟨h, e, rfl⟩ := col_of x
  obtain ⟨r, i, hn⟩ := point_of (t.val - 1) (by omega)
  rw [dkAt_apply m c t (r := r) (i := i) (by omega)]
  exact (assembled_at (argPart m c) Part.dk r h i j e _ (by show (t.val - 1) * 128 + j.val = _; rw [hn])).symm

theorem dv_point (t : Fin cfg0.N) (ht : t.val ≠ 0) (j : Fin 128) (x : Fin 2048) :
    dvAt m c t (ix2 j x) = gradArray m c Part.dv (ix2 (⟨(t.val - 1) * 128 + j.val, by have : t.val < 65 := t.isLt; omega⟩ : Fin 8192) x) := by
  have hN : t.val < 65 := t.isLt
  obtain ⟨h, e, rfl⟩ := col_of x
  obtain ⟨r, i, hn⟩ := point_of (t.val - 1) (by omega)
  rw [dvAt_apply m c t (r := r) (i := i) (by omega)]
  exact (assembled_at (argPart m c) Part.dv r h i j e _ (by show (t.val - 1) * 128 + j.val = _; rw [hn])).symm

/-- An index of a block by its two components. -/
theorem block_index (y : S128x2048.Idx) : ∃ (j : Fin 128) (x : Fin 2048), y = ix2 j x :=
  ⟨y 0, y 1, funext fun a => by
    match a with
    | 0 => rfl
    | 1 => rfl⟩

/-- A row of the arrays lies in the block of its 128 rows. -/
theorem row_block (y : S8192x2048.Idx) : ∃ (n : Fin 64) (j : Fin 128) (x : Fin 2048), y = ix2 (⟨n.val * 128 + j.val, by omega⟩ : Fin 8192) x :=
  have hy : (y 0).val < 8192 := (y 0).isLt
  ⟨⟨(y 0).val / 128, by omega⟩, ⟨(y 0).val % 128, by omega⟩, y 1, funext fun a => by
    match a with
    | 0 => exact Fin.ext (by show (y 0).val = (y 0).val / 128 * 128 + (y 0).val % 128; omega)
    | 1 => rfl⟩

theorem dq_array : (dats m 0 c).arrAt 11 cfg0.N = gradArray m c Part.dq := by
  refine Pipeline.Dat.arrAt_eq_of_cover (dats m 0 c) 11 (gradArray m c Part.dq) (fun t ht => funext fun y => ?_) fun y => ?_
  · obtain ⟨j, x, hy⟩ := block_index y
    have hp := dq_point m c t j x
    rw [← emb_11 t j x, ← hy] at hp
    exact hp
  · obtain ⟨n, j, x, rfl⟩ := row_block y
    by_cases hn : n.val = 63
    · refine ⟨⟨64, by decide⟩, (flush_11 _).mpr (by decide), ?_⟩
      have hy : ix2 (⟨n.val * 128 + j.val, by omega⟩ : Fin 8192) x = (win0_11.rect ⟨64, by decide⟩).emb (ix2 j x) := by
        rw [emb_11]
        exact congrArg (fun a : Fin 8192 => (ix2 a x : S8192x2048.Idx)) (Fin.ext (by show n.val * 128 + j.val = min 64 63 * 128 + j.val; omega))
      rw [hy]
      exact View.emb_mem_set _ _
    · refine ⟨⟨n.val, by show n.val < 65; omega⟩, (flush_11 _).mpr hn, ?_⟩
      have hy : ix2 (⟨n.val * 128 + j.val, by omega⟩ : Fin 8192) x = (win0_11.rect ⟨n.val, by show n.val < 65; omega⟩).emb (ix2 j x) := by
        rw [emb_11]
        exact congrArg (fun a : Fin 8192 => (ix2 a x : S8192x2048.Idx)) (Fin.ext (by show n.val * 128 + j.val = min n.val 63 * 128 + j.val; omega))
      rw [hy]
      exact View.emb_mem_set _ _

theorem dk_array : (dats m 0 c).arrAt 12 cfg0.N = gradArray m c Part.dk := by
  refine Pipeline.Dat.arrAt_eq_of_cover (dats m 0 c) 12 (gradArray m c Part.dk) (fun t ht => funext fun y => ?_) fun y => ?_
  · obtain ⟨j, x, hy⟩ := block_index y
    have hp := dk_point m c t ((flush_12 t).mp ht) j x
    rw [← emb_12 t j x, ← hy] at hp
    exact hp
  · obtain ⟨n, j, x, rfl⟩ := row_block y
    refine ⟨⟨n.val + 1, by show n.val + 1 < 65; omega⟩, (flush_12 _).mpr (by show n.val + 1 ≠ 0; omega), ?_⟩
    have hy : ix2 (⟨n.val * 128 + j.val, by omega⟩ : Fin 8192) x = (win0_12.rect ⟨n.val + 1, by show n.val + 1 < 65; omega⟩).emb (ix2 j x) := by
      rw [emb_12]
      exact congrArg (fun a : Fin 8192 => (ix2 a x : S8192x2048.Idx)) (Fin.ext (by show n.val * 128 + j.val = (n.val + 1 - 1) * 128 + j.val; omega))
    rw [hy]
    exact View.emb_mem_set _ _

theorem dv_array : (dats m 0 c).arrAt 13 cfg0.N = gradArray m c Part.dv := by
  refine Pipeline.Dat.arrAt_eq_of_cover (dats m 0 c) 13 (gradArray m c Part.dv) (fun t ht => funext fun y => ?_) fun y => ?_
  · obtain ⟨j, x, hy⟩ := block_index y
    have hp := dv_point m c t ((flush_13 t).mp ht) j x
    rw [← emb_13 t j x, ← hy] at hp
    exact hp
  · obtain ⟨n, j, x, rfl⟩ := row_block y
    refine ⟨⟨n.val + 1, by show n.val + 1 < 65; omega⟩, (flush_13 _).mpr (by show n.val + 1 ≠ 0; omega), ?_⟩
    have hy : ix2 (⟨n.val * 128 + j.val, by omega⟩ : Fin 8192) x = (win0_13.rect ⟨n.val + 1, by show n.val + 1 < 65; omega⟩).emb (ix2 j x) := by
      rw [emb_13]
      exact congrArg (fun a : Fin 8192 => (ix2 a x : S8192x2048.Idx)) (Fin.ext (by show n.val * 128 + j.val = (n.val + 1 - 1) * 128 + j.val; omega))
    rw [hy]
    exact View.emb_mem_set _ _

end Cert.KernelIdeal.Far
-- ==== Proof.FarReference.lean ====
module

public import proofs.«01_k».proof.Proof.Gen.ReferenceIdeal.Read
public import proofs.«01_k».proof.Proof.FarMath
public import Idealize.ShloMosaic.Lib.Pointwise

/-!
# The reference read at an index

Its arrays are indexed by residue class, head, block, row of the block and a last axis; an array of keys in sight has 256
rows, the block before and the block itself.
-/

@[expose] public section

set_option maxRecDepth 16384

noncomputable section

namespace Cert.ReferenceIdeal.Far

open Idealize.ShloMosaic Idealize.ShloMosaic.TcCoe Idealize.ShloMosaic.Tactic
open Cert.ReferenceIdeal.Read Cert.Far

variable (x0 : (⟨S8192x6144, .bf16⟩ : BufTy).Contents (Elt Ideal)) (x1 : (⟨S8192x2048, .bf16⟩ : BufTy).Contents (Elt Ideal)) (x2 x3 : (⟨S8192x128, .f32⟩ : BufTy).Contents (Elt Ideal))

/-- The slope of a head, as the reference states it. -/
def slopeAt (h : Fin 16) : EReal := val_main_v16 (F := Ideal) (ix1 h)

/-- The rows of head `h` and residue class `r` of the arguments. -/
def part (r h : Fin 16) : Part :=
  partOf (fun n x => x0 (ix2 n x)) (fun n x => x1 (ix2 n x)) (fun n x => x2 (ix2 n x)) (fun n x => x3 (ix2 n x)) slopeAt
    (Ideal.ofBits .f32 0x3DB504F3#32) r h

theorem zero_word : Ideal.ofBits .f32 0x00000000#32 = 0 := by simp [Ideal.ofBits, Ideal.ieee]

/-! ### The words of the mask and of the distance -/

theorem distance_word (j : Fin 128) (k : Fin 256) :
    IntOp.addi (IntOp.subi (BitVec.ofNat 32 j.val) (BitVec.ofNat 32 k.val)) 128#32
      = IntOp.subi (BitVec.ofNat 32 (j.val + 255 - k.val)) 127#32 := by
  show BitVec.ofNat 32 j.val - BitVec.ofNat 32 k.val + 128#32 = BitVec.ofNat 32 (j.val + 255 - k.val) - 127#32
  have := j.isLt
  have := k.isLt
  apply BitVec.eq_of_toNat_eq
  simp only [BitVec.toNat_sub, BitVec.toNat_add, BitVec.toNat_ofNat]
  omega

theorem near_word : ∀ d : ℕ, d < 383 → IntOp.andi (IntOp.cmpi .sge (IntOp.subi (BitVec.ofNat 32 d) 127#32) 0#32)
      (IntOp.cmpi .sle (IntOp.subi (BitVec.ofNat 32 d) 127#32) 128#32) = if 127 ≤ d ∧ d ≤ 255 then 1#1 else 0#1 := by
  decide +kernel

theorem inside_word : ∀ (i : Fin 4) (k : Fin 256), IntOp.cmpi .sge (IntOp.addi (IntOp.subi (IntOp.muli (BitVec.ofNat 32 i.val) 128#32) 128#32)
      (BitVec.ofNat 32 k.val)) 0#32 = if i.val = 0 → 128 ≤ k.val then 1#1 else 0#1 := by
  decide +kernel

theorem and_word {p q : Prop} [Decidable p] [Decidable q] :
    IntOp.andi (if p then 1#1 else 0#1) (if q then 1#1 else 0#1) = if p ∧ q then 1#1 else 0#1 := by
  by_cases hp : p <;> by_cases hq : q <;> simp only [hp, hq, and_self, and_true, and_false, if_true, if_false] <;> rfl

theorem rows_word : ∀ d : ℕ, d < 383 → (IntOp.muli (IntOp.subi (BitVec.ofNat 32 d) 127#32) 16#32).toInt = ((d : ℤ) - 127) * 16 := by
  decide +kernel

section
variable (r h : Fin 16) (i : Fin 4) (j e : Fin 128) (k : Fin 256)

theorem q_apply : val_main_v27 x0 (ix5 r h i j e) = (part x0 x1 x2 x3 r h).q i j e := by
  unfold val_main_v27 val_main_v26 val_main_v25 val_main_v24 val_main_v21
  pointwise
  rfl

theorem k_apply : val_main_v31 x0 (ix5 r h i j e) = (part x0 x1 x2 x3 r h).k i j e := by
  unfold val_main_v31 val_main_v30 val_main_v29 val_main_v28 val_main_v22
  pointwise
  rfl

theorem v_apply : val_main_v35 x0 (ix5 r h i j e) = (part x0 x1 x2 x3 r h).v i j e := by
  unfold val_main_v35 val_main_v34 val_main_v33 val_main_v32 val_main_v23
  pointwise
  rfl

theorem o_apply : val_main_v39 x1 (ix5 r h i j e) = (part x0 x1 x2 x3 r h).o i j e := by
  unfold val_main_v39 val_main_v38 val_main_v37 val_main_v36
  pointwise
  rfl

theorem l_apply : val_main_v20 x2 (ix5 r h i j 0) = (part x0 x1 x2 x3 r h).l i j := by
  unfold val_main_v20 val_main_v19 val_main_v18 val_main_v17
  pointwise
  rfl

theorem d_apply : val_main_v109 x3 (ix4 r h i j) = -(part x0 x1 x2 x3 r h).d i j := by
  unfold val_main_v109 val_main_v44 val_main_v43 val_main_v42 val_main_v41 val_main_v40
  pointwise
  show val_main_cst_28 (F := Ideal) _ + ∑ _ : Fin 1, -(part x0 x1 x2 x3 r h).d i j = _
  rw [Fin.sum_univ_one, show val_main_cst_28 (F := Ideal) (Shape.Idx.first Gen.h_S_) = (0 : EReal) from zero_word, zero_add]

theorem keys_apply : val_main_v50 x0 (ix5 r h i k e) = window (part x0 x1 x2 x3 r h).k i k e := by
  unfold val_main_v50 val_main_v48 val_main_v47
  pointwise
  unfold window
  by_cases hk : k.val < 128
  · rw [dif_pos hk, dif_pos hk]
    by_cases hi : i.val < 1
    · rw [dif_pos hi, if_pos hi]
      exact zero_word
    · rw [dif_neg hi, if_neg hi]
      exact k_apply x0 x1 x2 x3 r h _ _ e
  · rw [dif_neg hk, dif_neg hk]
    exact k_apply x0 x1 x2 x3 r h _ _ e

theorem values_apply : val_main_v105 x0 (ix5 r h i k e) = window (part x0 x1 x2 x3 r h).v i k e := by
  unfold val_main_v105 val_main_v103 val_main_v102
  pointwise
  unfold window
  by_cases hk : k.val < 128
  · rw [dif_pos hk, dif_pos hk]
    by_cases hi : i.val < 1
    · rw [dif_pos hi, if_pos hi]
      exact zero_word
    · rw [dif_neg hi, if_neg hi]
      exact v_apply x0 x1 x2 x3 r h _ _ e
  · rw [dif_neg hk, dif_neg hk]
    exact v_apply x0 x1 x2 x3 r h _ _ e

theorem seen_apply : val_main_v83 (F := Ideal) (ix3 i j k) = if Seen i j k then 1#1 else 0#1 := by
  unfold val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_c val_main_c_18 val_main_c_19 val_main_c_20 val_main_c_21 val_main_c_22
  pointwise
  rw [distance_word, near_word _ (by omega), inside_word, and_word]
  refine if_congr ?_ rfl rfl
  unfold Seen
  constructor
  · rintro ⟨⟨h1, h2⟩, h3⟩
    exact ⟨by omega, by omega, h3⟩
  · rintro ⟨h1, h2, h3⟩
    exact ⟨⟨by omega, by omega⟩, h3⟩

theorem gap_apply : val_main_v88 (F := Ideal) (ix2 j k) = gap j k := by
  unfold val_main_v88 val_main_v87 val_main_v86 val_main_v62 val_main_v61 val_main_v60 val_main_v59 val_main_v58 val_main_v57 val_main_v56 val_main_v55 val_main_v54 val_main_c val_main_c_23
  pointwise
  rw [distance_word]
  show ((BitVec.toInt _ : ℝ) : EReal) = _
  rw [rows_word _ (by omega)]
  unfold gap
  rw [show ((j.val + 255 - k.val : ℕ) : ℤ) - 127 = (j.val : ℤ) + 128 - k.val by omega]

theorem score_apply : val_main_v95 x0 (ix5 r h i j k)
    = (∑ e, (part x0 x1 x2 x3 r h).q i j e * window (part x0 x1 x2 x3 r h).k i k e) * (part x0 x1 x2 x3 r h).scale
      + -(part x0 x1 x2 x3 r h).slope * gap j k := by
  unfold val_main_v95 val_main_v94 val_main_v93 val_main_v92 val_main_v91 val_main_v90 val_main_v89 val_main_v85 val_main_v84 val_main_v53 val_main_v52 val_main_cst_17 val_main_v51
  pointwise
  rw [gap_apply]
  refine congrArg₂ (· + ·) (congrArg (· * _) (Finset.sum_congr rfl fun e _ => ?_)) rfl
  rw [q_apply x0 x1 x2 x3, keys_apply x0 x1 x2 x3]

theorem weight_apply : val_main_v99 x0 x2 (ix5 r h i j k) = (part x0 x1 x2 x3 r h).weight i j k := by
  unfold val_main_v99 val_main_v98 val_main_v97 val_main_v96_0 val_main_call0_v2 val_main_call0_v0 val_main_v96_1 val_main_cst_24
  pointwise
  rw [seen_apply, l_apply x0 x1 x2 x3]
  unfold Part.weight
  by_cases hs : Seen i j k
  · rw [if_pos hs, if_pos hs]
    exact congrArg (fun s => Ideal.exp (s - (part x0 x1 x2 x3 r h).l i j)) (score_apply x0 x1 x2 x3 r h i j k)
  · rw [if_neg hs, if_neg hs]
    show Ideal.exp (Ideal.ofBits .f32 0xFF800000#32 - (part x0 x1 x2 x3 r h).l i j) = 0
    rw [show Ideal.ofBits .f32 0xFF800000#32 = ⊥ by simp [Ideal.ofBits, Ideal.ieee], EReal.bot_sub, Ideal.exp_bot]

theorem grad_apply : val_main_v124 x0 x1 x2 x3 (ix5 r h i j k) = (part x0 x1 x2 x3 r h).grad i j k := by
  unfold val_main_v124 val_main_v123 val_main_cst_30 val_main_v122 val_main_v121 val_main_v114 val_main_v113 val_main_v110 val_main_call1_v0 val_main_call1_cst val_main_v96_1
  pointwise
  rw [seen_apply]
  unfold Part.grad
  by_cases hs : Seen i j k
  · rw [if_pos hs, if_pos hs]
    have hv : (∑ e, val_main_v39 x1 (ix5 r h i j e) * val_main_v105 x0 (ix5 r h i k e))
        = ∑ e, (part x0 x1 x2 x3 r h).o i j e * window (part x0 x1 x2 x3 r h).v i k e :=
      Finset.sum_congr rfl fun e _ => by rw [o_apply x0 x1 x2 x3, values_apply x0 x1 x2 x3]
    rw [hv, d_apply x0 x1 x2 x3, weight_apply x0 x1 x2 x3, add_comm, ← sub_eq_add_neg, mul_comm (_ - _)]
    rfl
  · rw [if_neg hs, if_neg hs]
    rfl

theorem dq_apply : val_main_v126 x0 x1 x2 x3 (ix5 r h i j e) = (part x0 x1 x2 x3 r h).dq i j e := by
  unfold val_main_v126
  pointwise
  refine Finset.sum_congr rfl fun k _ => ?_
  rw [grad_apply, keys_apply x0 x1 x2 x3]

theorem keyPart_apply : val_main_v125 x0 x1 x2 x3 (ix5 r h i k e) = (part x0 x1 x2 x3 r h).keyPart i k e := by
  unfold val_main_v125
  pointwise
  refine Finset.sum_congr rfl fun j _ => ?_
  rw [grad_apply, q_apply x0 x1 x2 x3]

theorem valuePart_apply : val_main_v112 x0 x1 x2 (ix5 r h i k e) = (part x0 x1 x2 x3 r h).valuePart i k e := by
  unfold val_main_v112 val_main_v111
  pointwise
  refine Finset.sum_congr rfl fun j _ => ?_
  rw [weight_apply x0 x1 x2 x3, o_apply x0 x1 x2 x3, mul_comm]

theorem dk_apply : val_main_v132 x0 x1 x2 x3 (ix5 r h i j e) = (part x0 x1 x2 x3 r h).dk i j e := by
  unfold val_main_v132 val_main_v131 val_main_v130 val_main_v128 val_main_v127
  pointwise
  refine congrArg₂ (· + ·) (keyPart_apply x0 x1 x2 x3 r h i e (upper j)) ?_
  by_cases hi : i.val < 3
  · rw [dif_pos hi, dif_pos hi]
    have h1 : (⟨1 + i.val, by omega⟩ : Fin 4) = ⟨i.val + 1, by omega⟩ := Fin.ext (Nat.add_comm _ _)
    rw [← h1]
    exact keyPart_apply x0 x1 x2 x3 r h _ e (lower j)
  · rw [dif_neg hi, dif_neg hi]
    exact zero_word

theorem dv_apply : val_main_v120 x0 x1 x2 (ix5 r h i j e) = (part x0 x1 x2 x3 r h).dv i j e := by
  unfold val_main_v120 val_main_v119 val_main_v118 val_main_v116 val_main_v115
  pointwise
  refine congrArg₂ (· + ·) (valuePart_apply x0 x1 x2 x3 r h i e (upper j)) ?_
  by_cases hi : i.val < 3
  · rw [dif_pos hi, dif_pos hi]
    have h1 : (⟨1 + i.val, by omega⟩ : Fin 4) = ⟨i.val + 1, by omega⟩ := Fin.ext (Nat.add_comm _ _)
    rw [← h1]
    exact valuePart_apply x0 x1 x2 x3 r h _ e (lower j)
  · rw [dif_neg hi, dif_neg hi]
    exact zero_word
end

theorem dq_array (y : S8192x2048.Idx) : val_main_v135 x0 x1 x2 x3 y = assembled (part x0 x1 x2 x3) Part.dq (y 0) (y 1) := by
  obtain ⟨n, x, rfl⟩ : ∃ (n : Fin 8192) (x : Fin 2048), y = ix2 n x := ⟨y 0, y 1, funext fun a => by
    match a with
    | 0 => rfl
    | 1 => rfl⟩
  unfold val_main_v135 val_main_v134 val_main_v133
  pointwise
  exact dq_apply x0 x1 x2 x3 _ _ _ _ _

theorem dk_array (y : S8192x2048.Idx) : val_main_v138 x0 x1 x2 x3 y = assembled (part x0 x1 x2 x3) Part.dk (y 0) (y 1) := by
  obtain ⟨n, x, rfl⟩ : ∃ (n : Fin 8192) (x : Fin 2048), y = ix2 n x := ⟨y 0, y 1, funext fun a => by
    match a with
    | 0 => rfl
    | 1 => rfl⟩
  unfold val_main_v138 val_main_v137 val_main_v136
  pointwise
  exact dk_apply x0 x1 x2 x3 _ _ _ _ _

theorem dv_array (y : S8192x2048.Idx) : val_main_v141 x0 x1 x2 y = assembled (part x0 x1 x2 x3) Part.dv (y 0) (y 1) := by
  obtain ⟨n, x, rfl⟩ : ∃ (n : Fin 8192) (x : Fin 2048), y = ix2 n x := ⟨y 0, y 1, funext fun a => by
    match a with
    | 0 => rfl
    | 1 => rfl⟩
  unfold val_main_v141 val_main_v140 val_main_v139
  pointwise
  exact dv_apply x0 x1 x2 x3 _ _ _ _ _

end Cert.ReferenceIdeal.Far

end
-- ==== Proof.FarClaim.lean ====
module

public import proofs.«01_k».proof.Defs
public import proofs.«01_k».proof.Proof.FarArrays
public import proofs.«01_k».proof.Proof.FarReference
public import Idealize.ShloMosaic.Lib.Claim

/-!
# The kernel and the reference end with the same gradients
-/

@[expose] public section

noncomputable section

namespace Cert.Far

open Idealize.ShloMosaic Idealize.SL.Sem

/-- The reference states the slopes of the heads one by one, the kernel as a table. -/
theorem slopes : Cert.ReferenceIdeal.Far.slopeAt = Cert.KernelIdeal.Far.slopeOf := funext fun h => by
  fin_cases h <;> rfl

section kernel
open Cert.KernelIdeal Cert.KernelIdeal.Gen Cert.KernelIdeal.Far

/-- The kernel's run: the three gradients, and the arguments as they were. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v46_0) = gradArray m c Part.dq
      ∧ r.2.mem ((c.tc : Thread nD τ).loc main_v46_1) = gradArray m c Part.dk
      ∧ r.2.mem ((c.tc : Thread nD τ).loc main_v46_2) = gradArray m c Part.dv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.1 c).1 11).trans (dq_array m c), ((h.1.1 c).1 12).trans (dk_array m c),
      ((h.1.1 c).1 13).trans (dv_array m c), h.2.1 c⟩)
    (θ_run_and (runs m ρ) (frame m ρ))
end kernel

section reference
open Cert.ReferenceIdeal Cert.ReferenceIdeal.Far

/-- The rows of head `h` and residue class `r` of what the reference is given. -/
def givenPart (m : (ℓ : Loc nD τ sig) → Buf (Elt Ideal) ℓ) (c : Dev nD) : Fin 16 → Fin 16 → Part :=
  part (m ((c.tc : Thread nD τ).loc main_arg0)) (m ((c.tc : Thread nD τ).loc main_arg1)) (m ((c.tc : Thread nD τ).loc main_arg2)) (m ((c.tc : Thread nD τ).loc main_arg3))

/-- The reference's run: the three gradients, and the arguments as they were. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v135) = (fun y : S8192x2048.Idx => assembled (givenPart m c) Part.dq (y 0) (y 1))
      ∧ r.2.mem ((c.tc : Thread nD τ).loc main_v138) = (fun y : S8192x2048.Idx => assembled (givenPart m c) Part.dk (y 0) (y 1))
      ∧ r.2.mem ((c.tc : Thread nD τ).loc main_v141) = (fun y : S8192x2048.Idx => assembled (givenPart m c) Part.dv (y 0) (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).1.trans ((Read.val_main_v135_eq _).trans (funext fun y => Far.dq_array _ _ _ _ y)),
      (h c).2.1.trans ((Read.val_main_v138_eq _).trans (funext fun y => Far.dk_array _ _ _ _ y)),
      (h c).2.2.1.trans ((Read.val_main_v141_eq _).trans (funext fun y => Far.dv_array _ _ _ (m ((c.tc : Thread nD τ).loc main_arg3)) y)),
      (h c).2.2.2⟩) (Cert.ReferenceIdeal.Value.run (F := Ideal) m ρ)
end reference

theorem algebraic : Cert.algebraic_KernelIdeal_ReferenceIdeal (hKernelIdeal := Cert.KernelIdeal.Gen.facts)
    (hReferenceIdeal := Cert.ReferenceIdeal.Gen.facts) := fun m g m' g' _ hargs => by
  have hp : ∀ c, givenPart m' c = Cert.KernelIdeal.Far.argPart m c := fun c => by
    obtain ⟨h0, h1, h2, h3⟩ := hargs c
    unfold givenPart
    rw [h0, h1, h2, h3]
    funext r h
    unfold Cert.ReferenceIdeal.Far.part
    rw [slopes]
    rfl
  refine ⟨fun c => Cert.KernelIdeal.Far.gradArray m c Part.dq, fun c => Cert.KernelIdeal.Far.gradArray m c Part.dk,
    fun c => Cert.KernelIdeal.Far.gradArray m c Part.dv, kernel_run m g, ?_⟩
  refine (θ_run Cert.ReferenceIdeal.defs _ _).mono (fun r h c => ?_) (reference_run m' g')
  have hc := h c
  rw [hp c] at hc
  exact hc

end Cert.Far

end
-- ==== Proof.Tiles.lean ====
module

public import Idealize.ShloMosaic.Lib.Pointwise

/-!
# A long sum, taken in tiles
-/

@[expose] public section

noncomputable section

namespace Cert.Tiles

open Idealize.ShloMosaic Finset

/-- The entry of a matrix in row `i` and column `j`, zero outside. -/
def entry {R C : ℕ} (a : (⟨2, ![R, C]⟩ : Shape).Idx → EReal) (i j : ℕ) : EReal :=
  if h : i < R ∧ j < C then a (ix2 ⟨i, h.1⟩ ⟨j, h.2⟩) else 0

theorem entry_at {R C : ℕ} (a : (⟨2, ![R, C]⟩ : Shape).Idx → EReal) {i j : ℕ} (hi : i < R) (hj : j < C) :
    entry a i j = a (ix2 ⟨i, hi⟩ ⟨j, hj⟩) := dif_pos ⟨hi, hj⟩

theorem zero_word : Ideal.ofBits .f32 0x00000000#32 = 0 := by simp [Ideal.ofBits, Ideal.ieee]

theorem at_origin : (![0, 0] : Fin 2 → ℕ) = fun _ => 0 := funext fun a => by fin_cases a <;> rfl

/-- What is set to the sum of the first tile of `b` terms, and to which each step adds the next tile, is the sum of all the
    tiles so far. -/
theorem accumulated (f : ℕ → EReal) (b K : ℕ) (s : (k : ℕ) → k < K → EReal)
    (first : ∀ h, s 0 h = ∑ n : Fin b, f n)
    (step : ∀ k h h', s (k + 1) h = s k h' + ∑ n : Fin b, f ((k + 1) * b + n)) :
    ∀ k h, s k h = ∑ n ∈ range ((k + 1) * b), f n
  | 0, h => by rw [first, sum_range, Nat.zero_add, Nat.one_mul]
  | k + 1, h => by
    rw [step k h (Nat.lt_of_succ_lt h), accumulated f b K s first step k, Nat.succ_mul (k + 1) b, sum_range_add,
      sum_range fun n => f ((k + 1) * b + n)]

end Cert.Tiles

end
-- ==== Proof.RowGrad.lean ====
module

public import proofs.«01_k».proof.Defs
public import proofs.«01_k».proof.Proof.Tiles
public import proofs.«01_k».proof.Proof.Gen.Kernel2Ideal.Value
public import proofs.«01_k».proof.Proof.Gen.Reference2Ideal.Run
public import Idealize.ShloMosaic.Lib.Claim

/-!
# The gradient of the wide projection's rows: what the call leaves

A grid point `22 q + k` takes tile `k` of the product's 22 tiles of 1024 terms, for the rows `1024 q` to `1024 q + 1023`.
-/

@[expose] public section

noncomputable section

namespace Cert.Kernel2Ideal.RowGrad

open Idealize.ShloMosaic Idealize.ShloMosaic.TcCoe Idealize.ShloMosaic.Tactic
open Cert.Kernel2Ideal.Gen Cert.Kernel2Ideal.Value Cert.Tiles

/-! ### What a grid point computes -/

theorem first_tile (a : Vec Ideal S1024x1024 .bf16) (b : Vec Ideal S1024x2048 .bf16) (x : Fin 1024) (y : Fin 2048) :
    k0_pay1 a b (ix2 x y) = ∑ k : Fin 1024, (a (ix2 x k) * b (ix2 k y) : EReal) := by
  unfold k0_pay1
  pointwise
  try rw [zero_word, zero_add]

theorem next_tile (s : Vec Ideal S1024x2048 .f32) (a : Vec Ideal S1024x1024 .bf16) (b : Vec Ideal S1024x2048 .bf16) (x : Fin 1024) (y : Fin 2048) :
    k0_pay2 s a b (ix2 x y) = (s (ix2 x y) + ∑ k : Fin 1024, (a (ix2 x k) * b (ix2 k y) : EReal) : EReal) := by
  unfold k0_pay2
  pointwise
  try rw [zero_word, zero_add]

theorem last_tile (s : Vec Ideal S1024x2048 .f32) (a : Vec Ideal S1024x1024 .bf16) (b : Vec Ideal S1024x2048 .bf16) (x : Fin 1024) (y : Fin 2048) :
    k0_pay3 s a b (ix2 x y) = (s (ix2 x y) + ∑ k : Fin 1024, (a (ix2 x k) * b (ix2 k y) : EReal) : EReal) := by
  unfold k0_pay3
  pointwise
  try rw [zero_word, zero_add]

section
variable {F : FTy → Type} [FloatOps F] (c : Dev nD) (i : grid0.Coords)
  (arg3 : Memref sig .tc .vmem S1024x1024 .bf16) (harg3 : arg3.IsWhole) (arg4 : Memref sig .tc .vmem S1024x2048 .bf16) (harg4 : arg4.IsWhole)
  (arg5 : Memref sig .tc .vmem S1024x2048 .f32) (harg5 : arg5.IsWhole) (arg6 : Memref sig .tc .vmem S1024x2048 .f32) (harg6 : arg6.IsWhole)

theorem left_first (hc0 : cond0_0 i) (hc1 : ¬cond0_1 i) (hc2 : ¬cond0_2 i) (a : Vec F S1024x1024 .bf16) (b : Vec F S1024x2048 .bf16) :
    sout0_A_0 c i arg3 harg3 arg4 harg4 arg5 harg5 arg6 harg6 hc0 hc1 hc2 a b = k0_pay1 a b := by
  unfold sout0_A_0
  rw [View.read_writes_eq_canon _ _ _ (scover0_A_0 c i arg3 harg3 arg4 harg4 arg5 harg5 arg6 harg6 hc0 hc1 hc2 a b)]
  unfold kernelRun0_A
  dsimp only
  rw [View.canon_unit_zero at_origin]
  simp only [View.readAt_eq_ld, harg3.read_unread, harg4.read_unread, View.ld_unit_zero (S := S1024x1024) at_origin, View.ld_unit_zero (S := S1024x2048) at_origin]

theorem left_next (hc0 : ¬cond0_0 i) (hc1 : cond0_1 i) (hc2 : ¬cond0_2 i) (a : Vec F S1024x1024 .bf16) (b : Vec F S1024x2048 .bf16)
    (s : Vec F S1024x2048 .f32) :
    sout0_B_0 c i arg3 harg3 arg4 harg4 arg5 harg5 arg6 harg6 hc0 hc1 hc2 a b s = k0_pay2 s a b := by
  unfold sout0_B_0
  rw [View.read_writes_eq_canon _ _ _ (scover0_B_0 c i arg3 harg3 arg4 harg4 arg5 harg5 arg6 harg6 hc0 hc1 hc2 a b s)]
  unfold kernelRun0_B
  dsimp only
  rw [View.canon_unit_zero at_origin]
  simp only [View.readAt_eq_ld, harg3.read_unread, harg4.read_unread, harg6.read_unread, View.ld_unit_zero (S := S1024x1024) at_origin, View.ld_unit_zero (S := S1024x2048) at_origin]

theorem left_last (hc0 : ¬cond0_0 i) (hc1 : ¬cond0_1 i) (hc2 : cond0_2 i) (a : Vec F S1024x1024 .bf16) (b : Vec F S1024x2048 .bf16)
    (s : Vec F S1024x2048 .f32) :
    out0_C_2 c i arg3 harg3 arg4 harg4 arg5 harg5 arg6 harg6 hc0 hc1 hc2 a b s = k0_pay3 s a b := by
  unfold out0_C_2
  rw [View.read_writes_eq_canon _ _ _ (cover0_C_2 c i arg3 harg3 arg4 harg4 arg5 harg5 arg6 harg6 hc0 hc1 hc2 a b s)]
  unfold kernelRun0_C
  dsimp only
  rw [View.canon_unit_zero at_origin]
  simp only [View.readAt_eq_ld, harg3.read_unread, harg4.read_unread, harg6.read_unread, View.ld_unit_zero (S := S1024x1024) at_origin, View.ld_unit_zero (S := S1024x2048) at_origin]

end

/-! ### The blocks it takes, in their arrays -/

variable (m : (ℓ : Loc nD τ sig) → Buf (Elt Ideal) ℓ) (c : Dev nD)

/-- The projection's weights and the cotangent of its result. -/
abbrev weight : S22592x2048.Idx → EReal := m ((c.tc : Thread nD τ).loc main_arg0)
abbrev cotangent : S8192x22528.Idx → EReal := m ((c.tc : Thread nD τ).loc main_arg1)

theorem index_left : ∀ t : Fin grid0.N, win0_0.index t = ![t.val / 22, t.val % 22] := by decide +kernel
theorem index_right : ∀ t : Fin grid0.N, win0_1.index t = ![t.val % 22, 0] := by decide +kernel

/-- The blocks that a grid point takes of the two. -/
abbrev leftAt (t : Fin cfg0.N) : S1024x1024.Idx → EReal := iblk m c 0 t
abbrev rightAt (t : Fin cfg0.N) : S1024x2048.Idx → EReal := X0_1 m c t

theorem left_block (t : Fin cfg0.N) (ht : t.val < 176) (x k : Fin 1024) :
    leftAt m c t (ix2 x k) = entry (cotangent m c) (t.val / 22 * 1024 + x.val) (t.val % 22 * 1024 + k.val) := by
  rw [entry_at _ (by omega) (by omega)]
  have hV : V m c main_arg1 = m ((c.tc : Thread nD τ).loc main_arg1) := V_main_arg1 m c
  refine (congrFun hV _).trans (congrArg (cotangent m c) (funext fun a => Fin.ext ?_))
  refine (win0_0.rect_emb_val t (ix2 x k) a rfl).trans ?_
  rw [index_left t]
  match a with
  | 0 => rfl
  | 1 => rfl

theorem right_block (t : Fin cfg0.N) (ht : t.val < 176) (k : Fin 1024) (y : Fin 2048) :
    rightAt m c t (ix2 k y) = entry (weight m c) (t.val % 22 * 1024 + k.val) y.val := by
  rw [entry_at _ (by omega) y.isLt]
  have hV : V m c main_arg0 = m ((c.tc : Thread nD τ).loc main_arg0) := V_main_arg0 m c
  unfold rightAt X0_1 Pipeline.Window.fill
  rw [dif_pos (moved0_1 t (ix2 k y))]
  refine (congrFun hV _).trans (congrArg (weight m c) (funext fun a => Fin.ext ?_))
  refine (win0_1.rect_emb_val t _ a rfl).trans ?_
  rw [index_right t]
  match a with
  | 0 => rfl
  | 1 => show 0 * 2048 + y.val = y.val; omega

/-! ### The tiles, added -/

/-- One term of the product. -/
abbrev term (i j n : ℕ) : EReal := entry (cotangent m c) i n * entry (weight m c) n j

/-- A tile of the product: what grid point `22 q + k` adds. -/
theorem tile (q k : ℕ) (hq : q < 8) (hk : k < 22) (h : 22 * q + k < cfg0.N) (x : Fin 1024) (y : Fin 2048) :
    ∑ n : Fin 1024, (leftAt m c ⟨22 * q + k, h⟩ (ix2 x n) * rightAt m c ⟨22 * q + k, h⟩ (ix2 n y))
      = ∑ n : Fin 1024, term m c (q * 1024 + x.val) y.val (k * 1024 + n.val) := by
  refine Finset.sum_congr rfl fun n _ => ?_
  rw [left_block m c ⟨22 * q + k, h⟩ (by show 22 * q + k < 176; omega), right_block m c ⟨22 * q + k, h⟩ (by show 22 * q + k < 176; omega)]
  dsimp only
  rw [show (22 * q + k) / 22 = q by omega, show (22 * q + k) % 22 = k by omega]

theorem point_lt {q k : ℕ} (hq : q < 8) (hk : k < 22) : 22 * q + k < cfg0.N := lt_of_lt_of_eq (by omega) N_0.symm

/-- What the call carries after tile `k` is the sum of the tiles up to it. -/
theorem carried (q : ℕ) (hq : q < 8) (x : Fin 1024) (y : Fin 2048) : ∀ k (hk : k < 21),
    ((outsAt0 m c (22 * q + k) (point_lt hq (by omega))).2 (ix2 x y) : EReal)
      = ∑ n ∈ Finset.range ((k + 1) * 1024), term m c (q * 1024 + x.val) y.val n := by
  refine accumulated _ 1024 21 (fun k hk => ((outsAt0 m c (22 * q + k) (point_lt hq (by omega))).2 (ix2 x y) : EReal)) (fun h => ?_) (fun k h h' => ?_)
  · have e := outsAt0_A m c ⟨22 * q + 0, point_lt hq (by omega)⟩ (by dsimp only; omega) (by dsimp only; omega) (by dsimp only; omega)
    refine (congrFun (congrArg Prod.snd e) (ix2 x y)).trans ?_
    dsimp only
    rw [left_first, first_tile, tile m c q 0 hq (by omega)]
    simp only [Nat.zero_mul, Nat.zero_add]
  · have e := outsAt0_B m c ⟨22 * q + (k + 1), point_lt hq (by omega)⟩ (by dsimp only; omega) (by dsimp only; omega) (by dsimp only; omega)
    refine (congrFun (congrArg Prod.snd e) (ix2 x y)).trans ?_
    dsimp only
    rw [left_next, next_tile, tile m c q (k + 1) hq (by omega)]
    rfl

/-- What the call writes of rows `1024 q` to `1024 q + 1023`. -/
theorem written (q : ℕ) (hq : q < 8) (x : Fin 1024) (y : Fin 2048) :
    ((outsAt0 m c (22 * q + 21) (point_lt hq (by omega))).1 (ix2 x y) : EReal)
      = ∑ n ∈ Finset.range 22528, term m c (q * 1024 + x.val) y.val n := by
  have e := outsAt0_C m c ⟨22 * q + 21, point_lt hq (by omega)⟩ (by dsimp only; omega) (by dsimp only; omega) (by dsimp only; omega)
  refine (congrFun (congrArg Prod.fst e) (ix2 x y)).trans ?_
  dsimp only
  rw [left_last, last_tile, tile m c q 21 hq (by omega)]
  refine (congrArg (· + _) (carried m c q hq x y 20 (by omega))).trans ?_
  rw [← Finset.sum_range fun n => term m c (q * 1024 + x.val) y.val (21 * 1024 + n)]
  exact (Finset.sum_range_add _ _ _).symm

/-- The array the call leaves: the product of the cotangent and the weights. -/
theorem array (i : Fin 8192) (j : Fin 2048) : (G2 m c (ix2 i j) : EReal) = ∑ n : Fin 22528, term m c i.val j.val n.val := by
  have hp : pt2Of (ix2 i j) = 22 * (i.val / 1024) + 21 := by
    show 22 * (1 * (i.val / 1024 - 0) + 1 * (j.val / 2048 - 0)) + 21 = _
    omega
  have hl : loc2Of (ix2 i j) = ix2 ⟨i.val % 1024, Nat.mod_lt _ (by decide)⟩ j := by
    funext a
    match a with
    | 0 => rfl
    | 1 => exact Fin.ext (Nat.mod_eq_of_lt j.isLt)
  have hq : i.val / 1024 < 8 := by omega
  have hb := point_lt (k := 21) hq (by omega)
  unfold G2
  rw [dif_pos (lt_of_eq_of_lt hp hb), fold0_congr m c _ _ (22 * (i.val / 1024) + 21) (by omega) hp, ← outsAt0_sweep m c _ hb, hl,
    written m c _ hq, Finset.sum_range]
  dsimp only
  rw [show i.val / 1024 * 1024 + i.val % 1024 = i.val by omega]

end Cert.Kernel2Ideal.RowGrad

namespace Cert.RowGrad

open Idealize.ShloMosaic Idealize.ShloMosaic.TcCoe Idealize.ShloMosaic.Tactic Idealize.SL.Sem Cert.Tiles

section reference
open Cert.Reference2Ideal Cert.Reference2Ideal.Facts₀

/-- The entries of the reference's result. -/
theorem reference_entry (d : Vec Ideal S8192x22528 .bf16) (w : Vec Ideal S22592x2048 .bf16) (i : Fin 8192) (j : Fin 2048) :
    (Host.dotGeneral (F := Ideal) dot_S8192x22528_S2048x22528_S8192x2048_1_1_0_0_n_n none (extf .f32 d bitsLt_bf16_f32)
      (transpose S2048x22528 [1, 0] (extf .f32 (extractStridedSlice S22528x2048 ![0, 0] w
        slices_S22592x2048_S22528x2048_0_0) bitsLt_bf16_f32)
        transposes_S22528x2048_S2048x22528_1_0) : FVec Ideal S8192x2048 .f32) (ix2 i j)
      = (∑ n : Fin 22528, entry (d : S8192x22528.Idx → EReal) i.val n.val * entry (w : S22592x2048.Idx → EReal) n.val j.val : EReal) := by
  pointwise
  refine Finset.sum_congr rfl fun n _ => ?_
  rw [entry_at _ i.isLt n.isLt, entry_at _ (by omega : n.val < 22592) j.isLt]

end reference

theorem algebraic : Cert.algebraic_Kernel2Ideal_Reference2Ideal (hKernel2Ideal := Cert.Kernel2Ideal.Gen.facts)
    (hReference2Ideal := Cert.Reference2Ideal.Gen.facts) := fun m g m' g' _ hargs => by
  refine ⟨_, Cert.Kernel2Ideal.Value.run (F := Ideal) m g, ?_⟩
  refine (θ_run Cert.Reference2Ideal.defs _ _).mono (fun _ h c => ⟨(h c).1.trans (funext fun y => ?_), (h c).2⟩)
    (Cert.Reference2Ideal.Value.run (F := Ideal) m' g')
  obtain ⟨h0, h1⟩ := hargs c
  rw [h0, h1, ← ix2_eta y]
  exact (reference_entry _ _ (y 0) (y 1)).trans (Cert.Kernel2Ideal.RowGrad.array m c (y 0) (y 1)).symm

end Cert.RowGrad

end
-- ==== Proof.WeightGrad.lean ====
module

public import proofs.«01_k».proof.Defs
public import proofs.«01_k».proof.Proof.Tiles
public import proofs.«01_k».proof.Proof.Gen.Kernel3Ideal.Value
public import proofs.«01_k».proof.Proof.Gen.Reference3Ideal.Run
public import Idealize.ShloMosaic.Lib.Claim

/-!
# The gradient of the wide projection's weights

The product of the transposed cotangent and the rows.  A grid point `8 q + k` takes tile `k` of its 8 tiles of 1024 terms, for
the rows `1024 q` to `1024 q + 1023` of the weights.
-/

@[expose] public section

noncomputable section

namespace Cert.Kernel3Ideal.WeightGrad

open Idealize.ShloMosaic Idealize.ShloMosaic.TcCoe Idealize.ShloMosaic.Tactic
open Cert.Kernel3Ideal.Gen Cert.Kernel3Ideal.Value Cert.Tiles

/-! ### What a grid point computes -/

theorem first_tile (a : Vec Ideal S1024x1024 .bf16) (b : Vec Ideal S1024x2048 .bf16) (x : Fin 1024) (y : Fin 2048) :
    k0_pay1 a b (ix2 x y) = ∑ k : Fin 1024, (a (ix2 k x) * b (ix2 k y) : EReal) := by
  unfold k0_pay1
  pointwise
  try rw [zero_word, zero_add]

theorem next_tile (s : Vec Ideal S1024x2048 .f32) (a : Vec Ideal S1024x1024 .bf16) (b : Vec Ideal S1024x2048 .bf16) (x : Fin 1024) (y : Fin 2048) :
    k0_pay2 s a b (ix2 x y) = (s (ix2 x y) + ∑ k : Fin 1024, (a (ix2 k x) * b (ix2 k y) : EReal) : EReal) := by
  unfold k0_pay2
  pointwise
  try rw [zero_word, zero_add]

theorem last_tile (s : Vec Ideal S1024x2048 .f32) (a : Vec Ideal S1024x1024 .bf16) (b : Vec Ideal S1024x2048 .bf16) (x : Fin 1024) (y : Fin 2048) :
    k0_pay3 s a b (ix2 x y) = (s (ix2 x y) + ∑ k : Fin 1024, (a (ix2 k x) * b (ix2 k y) : EReal) : EReal) := by
  unfold k0_pay3
  pointwise
  try rw [zero_word, zero_add]

section
variable {F : FTy → Type} [FloatOps F] (c : Dev nD) (i : grid0.Coords)
  (arg3 : Memref sig .tc .vmem S1024x1024 .bf16) (harg3 : arg3.IsWhole) (arg4 : Memref sig .tc .vmem S1024x2048 .bf16) (harg4 : arg4.IsWhole)
  (arg5 : Memref sig .tc .vmem S1024x2048 .bf16) (harg5 : arg5.IsWhole) (arg6 : Memref sig .tc .vmem S1024x2048 .f32) (harg6 : arg6.IsWhole)

theorem left_first (hc0 : cond0_0 i) (hc1 : ¬cond0_1 i) (hc2 : ¬cond0_2 i) (a : Vec F S1024x1024 .bf16) (b : Vec F S1024x2048 .bf16) :
    sout0_A_0 c i arg3 harg3 arg4 harg4 arg5 harg5 arg6 harg6 hc0 hc1 hc2 a b = k0_pay1 a b := by
  unfold sout0_A_0
  rw [View.read_writes_eq_canon _ _ _ (scover0_A_0 c i arg3 harg3 arg4 harg4 arg5 harg5 arg6 harg6 hc0 hc1 hc2 a b)]
  unfold kernelRun0_A
  dsimp only
  rw [View.canon_unit_zero at_origin]
  simp only [View.readAt_eq_ld, harg3.read_unread, harg4.read_unread, View.ld_unit_zero (S := S1024x1024) at_origin, View.ld_unit_zero (S := S1024x2048) at_origin]

theorem left_next (hc0 : ¬cond0_0 i) (hc1 : cond0_1 i) (hc2 : ¬cond0_2 i) (a : Vec F S1024x1024 .bf16) (b : Vec F S1024x2048 .bf16)
    (s : Vec F S1024x2048 .f32) :
    sout0_B_0 c i arg3 harg3 arg4 harg4 arg5 harg5 arg6 harg6 hc0 hc1 hc2 a b s = k0_pay2 s a b := by
  unfold sout0_B_0
  rw [View.read_writes_eq_canon _ _ _ (scover0_B_0 c i arg3 harg3 arg4 harg4 arg5 harg5 arg6 harg6 hc0 hc1 hc2 a b s)]
  unfold kernelRun0_B
  dsimp only
  rw [View.canon_unit_zero at_origin]
  simp only [View.readAt_eq_ld, harg3.read_unread, harg4.read_unread, harg6.read_unread, View.ld_unit_zero (S := S1024x1024) at_origin, View.ld_unit_zero (S := S1024x2048) at_origin]

theorem left_last (hc0 : ¬cond0_0 i) (hc1 : ¬cond0_1 i) (hc2 : cond0_2 i) (a : Vec F S1024x1024 .bf16) (b : Vec F S1024x2048 .bf16)
    (s : Vec F S1024x2048 .f32) :
    out0_C_2 c i arg3 harg3 arg4 harg4 arg5 harg5 arg6 harg6 hc0 hc1 hc2 a b s = k0_pay3 s a b := by
  unfold out0_C_2
  rw [View.read_writes_eq_canon _ _ _ (cover0_C_2 c i arg3 harg3 arg4 harg4 arg5 harg5 arg6 harg6 hc0 hc1 hc2 a b s)]
  unfold kernelRun0_C
  dsimp only
  rw [View.canon_unit_zero at_origin]
  simp only [View.readAt_eq_ld, harg3.read_unread, harg4.read_unread, harg6.read_unread, View.ld_unit_zero (S := S1024x1024) at_origin, View.ld_unit_zero (S := S1024x2048) at_origin]

end

/-! ### The blocks it takes, in their arrays -/

variable (m : (ℓ : Loc nD τ sig) → Buf (Elt Ideal) ℓ) (c : Dev nD)

/-- The rows that go into the projection, and the cotangent of its result. -/
abbrev rows : S8192x2048.Idx → EReal := m ((c.tc : Thread nD τ).loc main_arg0)
abbrev cotangent : S8192x22528.Idx → EReal := m ((c.tc : Thread nD τ).loc main_arg1)

theorem index_left : ∀ t : Fin grid0.N, win0_0.index t = ![t.val % 8, t.val / 8] := by decide +kernel
theorem index_right : ∀ t : Fin grid0.N, win0_1.index t = ![t.val % 8, 0] := by decide +kernel

/-- The blocks that a grid point takes of the two. -/
abbrev leftAt (t : Fin cfg0.N) : S1024x1024.Idx → EReal := iblk m c 0 t
abbrev rightAt (t : Fin cfg0.N) : S1024x2048.Idx → EReal := iblk m c 1 t

theorem left_block (t : Fin cfg0.N) (ht : t.val < 176) (k x : Fin 1024) :
    leftAt m c t (ix2 k x) = entry (cotangent m c) (t.val % 8 * 1024 + k.val) (t.val / 8 * 1024 + x.val) := by
  rw [entry_at _ (by omega) (by omega)]
  have hV : V m c main_arg1 = m ((c.tc : Thread nD τ).loc main_arg1) := V_main_arg1 m c
  refine (congrFun hV _).trans (congrArg (cotangent m c) (funext fun a => Fin.ext ?_))
  refine (win0_0.rect_emb_val t (ix2 k x) a rfl).trans ?_
  rw [index_left t]
  match a with
  | 0 => rfl
  | 1 => rfl

theorem right_block (t : Fin cfg0.N) (ht : t.val < 176) (k : Fin 1024) (y : Fin 2048) :
    rightAt m c t (ix2 k y) = entry (rows m c) (t.val % 8 * 1024 + k.val) y.val := by
  rw [entry_at _ (by omega) y.isLt]
  have hV : V m c main_arg0 = m ((c.tc : Thread nD τ).loc main_arg0) := V_main_arg0 m c
  refine (congrFun hV _).trans (congrArg (rows m c) (funext fun a => Fin.ext ?_))
  refine (win0_1.rect_emb_val t _ a rfl).trans ?_
  rw [index_right t]
  match a with
  | 0 => rfl
  | 1 => show 0 * 2048 + y.val = y.val; omega

/-! ### The tiles, added -/

/-- One term of the product. -/
abbrev term (i j n : ℕ) : EReal := entry (cotangent m c) n i * entry (rows m c) n j

/-- A tile of the product: what grid point `8 q + k` adds. -/
theorem tile (q k : ℕ) (hq : q < 22) (hk : k < 8) (h : 8 * q + k < cfg0.N) (x : Fin 1024) (y : Fin 2048) :
    ∑ n : Fin 1024, (leftAt m c ⟨8 * q + k, h⟩ (ix2 n x) * rightAt m c ⟨8 * q + k, h⟩ (ix2 n y))
      = ∑ n : Fin 1024, term m c (q * 1024 + x.val) y.val (k * 1024 + n.val) := by
  refine Finset.sum_congr rfl fun n _ => ?_
  rw [left_block m c ⟨8 * q + k, h⟩ (by show 8 * q + k < 176; omega), right_block m c ⟨8 * q + k, h⟩ (by show 8 * q + k < 176; omega)]
  dsimp only
  rw [show (8 * q + k) / 8 = q by omega, show (8 * q + k) % 8 = k by omega]

theorem point_lt {q k : ℕ} (hq : q < 22) (hk : k < 8) : 8 * q + k < cfg0.N := lt_of_lt_of_eq (by omega) N_0.symm

/-- What the call carries after tile `k` is the sum of the tiles up to it. -/
theorem carried (q : ℕ) (hq : q < 22) (x : Fin 1024) (y : Fin 2048) : ∀ k (hk : k < 7),
    ((outsAt0 m c (8 * q + k) (point_lt hq (by omega))).2 (ix2 x y) : EReal)
      = ∑ n ∈ Finset.range ((k + 1) * 1024), term m c (q * 1024 + x.val) y.val n := by
  refine accumulated _ 1024 7 (fun k hk => ((outsAt0 m c (8 * q + k) (point_lt hq (by omega))).2 (ix2 x y) : EReal)) (fun h => ?_) (fun k h h' => ?_)
  · have e := outsAt0_A m c ⟨8 * q + 0, point_lt hq (by omega)⟩ (by dsimp only; omega) (by dsimp only; omega) (by dsimp only; omega)
    refine (congrFun (congrArg Prod.snd e) (ix2 x y)).trans ?_
    dsimp only
    rw [left_first, first_tile, tile m c q 0 hq (by omega)]
    simp only [Nat.zero_mul, Nat.zero_add]
  · have e := outsAt0_B m c ⟨8 * q + (k + 1), point_lt hq (by omega)⟩ (by dsimp only; omega) (by dsimp only; omega) (by dsimp only; omega)
    refine (congrFun (congrArg Prod.snd e) (ix2 x y)).trans ?_
    dsimp only
    rw [left_next, next_tile, tile m c q (k + 1) hq (by omega)]
    rfl

/-- What the call writes of rows `1024 q` to `1024 q + 1023`. -/
theorem written (q : ℕ) (hq : q < 22) (x : Fin 1024) (y : Fin 2048) :
    ((outsAt0 m c (8 * q + 7) (point_lt hq (by omega))).1 (ix2 x y) : EReal)
      = ∑ n ∈ Finset.range 8192, term m c (q * 1024 + x.val) y.val n := by
  have e := outsAt0_C m c ⟨8 * q + 7, point_lt hq (by omega)⟩ (by dsimp only; omega) (by dsimp only; omega) (by dsimp only; omega)
  refine (congrFun (congrArg Prod.fst e) (ix2 x y)).trans ?_
  dsimp only
  rw [left_last, last_tile, tile m c q 7 hq (by omega)]
  refine (congrArg (· + _) (carried m c q hq x y 6 (by omega))).trans ?_
  rw [← Finset.sum_range fun n => term m c (q * 1024 + x.val) y.val (7 * 1024 + n)]
  exact (Finset.sum_range_add _ _ _).symm

/-- The array the call leaves: the product of the cotangent and the weights. -/
theorem array (i : Fin 22528) (j : Fin 2048) : (G2 m c (ix2 i j) : EReal) = ∑ n : Fin 8192, term m c i.val j.val n.val := by
  have hp : pt2Of (ix2 i j) = 8 * (i.val / 1024) + 7 := by
    show 8 * (1 * (i.val / 1024 - 0) + 1 * (j.val / 2048 - 0)) + 7 = _
    omega
  have hl : loc2Of (ix2 i j) = ix2 ⟨i.val % 1024, Nat.mod_lt _ (by decide)⟩ j := by
    funext a
    match a with
    | 0 => rfl
    | 1 => exact Fin.ext (Nat.mod_eq_of_lt j.isLt)
  have hq : i.val / 1024 < 22 := by omega
  have hb := point_lt (k := 7) hq (by omega)
  unfold G2
  rw [dif_pos (lt_of_eq_of_lt hp hb), fold0_congr m c _ _ (8 * (i.val / 1024) + 7) (by omega) hp, ← outsAt0_sweep m c _ hb, hl,
    written m c _ hq, Finset.sum_range]
  dsimp only
  rw [show i.val / 1024 * 1024 + i.val % 1024 = i.val by omega]

end Cert.Kernel3Ideal.WeightGrad

namespace Cert.WeightGrad

open Idealize.ShloMosaic Idealize.ShloMosaic.TcCoe Idealize.ShloMosaic.Tactic Idealize.SL.Sem Cert.Tiles

section reference
open Cert.Reference3Ideal Cert.Reference3Ideal.Facts₀

/-- The entries of the reference's result. -/
theorem reference_entry (d : Vec Ideal S8192x22528 .bf16) (h : Vec Ideal S8192x2048 .bf16) (i : Fin 22528) (j : Fin 2048) :
    (truncf .bf16 (transpose S22528x2048 [1, 0] (transpose S2048x22528 [1, 0]
      (Host.dotGeneral (F := Ideal) dot_S8192x22528_S8192x2048_S22528x2048_0_0_1_1_n_n none (extf .f32 d bitsLt_bf16_f32) (extf .f32 h bitsLt_bf16_f32))
      transposes_S22528x2048_S2048x22528_1_0) transposes_S2048x22528_S22528x2048_1_0) bitsLt_bf16_f32 : FVec Ideal S22528x2048 .bf16) (ix2 i j)
      = (∑ n : Fin 8192, entry (d : S8192x22528.Idx → EReal) n.val i.val * entry (h : S8192x2048.Idx → EReal) n.val j.val : EReal) := by
  pointwise
  refine Finset.sum_congr rfl fun n _ => ?_
  rw [entry_at _ n.isLt i.isLt, entry_at _ n.isLt j.isLt]

end reference

theorem algebraic : Cert.algebraic_Kernel3Ideal_Reference3Ideal (hKernel3Ideal := Cert.Kernel3Ideal.Gen.facts)
    (hReference3Ideal := Cert.Reference3Ideal.Gen.facts) := fun m g m' g' _ hargs => by
  refine ⟨_, Cert.Kernel3Ideal.Value.run (F := Ideal) m g, ?_⟩
  refine (θ_run Cert.Reference3Ideal.defs _ _).mono (fun _ h c => ⟨(h c).1.trans (funext fun y => ?_), (h c).2⟩)
    (Cert.Reference3Ideal.Value.run (F := Ideal) m' g')
  obtain ⟨h0, h1⟩ := hargs c
  rw [h0, h1, ← ix2_eta y]
  exact (reference_entry _ _ (y 0) (y 1)).trans (Cert.Kernel3Ideal.WeightGrad.array m c (y 0) (y 1)).symm

end Cert.WeightGrad

end
-- ==== Proof.Projection.lean ====
module

public import proofs.«01_k».proof.Defs
public import proofs.«01_k».proof.Proof.Tiles
public import proofs.«01_k».proof.Proof.Gen.Kernel4Ideal.Value
public import proofs.«01_k».proof.Proof.Gen.Reference4Ideal.Run
public import Idealize.ShloMosaic.Lib.Claim

/-!
# The wide projection

A grid point `11 q + k` takes the rows `1024 q` to `1024 q + 1023` and the columns `2048 k` to `2048 k + 2047` of the product of
the rows and the transposed weights, with all of its 2048 terms.
-/

@[expose] public section

noncomputable section

namespace Cert.Kernel4Ideal.Projection

open Idealize.ShloMosaic Idealize.ShloMosaic.TcCoe Idealize.ShloMosaic.Tactic
open Cert.Kernel4Ideal.Gen Cert.Kernel4Ideal.Value Cert.Tiles

/-- What a grid point computes. -/
theorem tile (a : Vec Ideal S1024x2048 .bf16) (b : Vec Ideal S2048x2048 .bf16) (x : Fin 1024) (y : Fin 2048) :
    k0_pay1 a b (ix2 x y) = ∑ k : Fin 2048, (a (ix2 x k) * b (ix2 y k) : EReal) := by
  unfold k0_pay1
  pointwise
  try rw [zero_word, zero_add]

theorem left {F : FTy → Type} [FloatOps F] (c : Dev nD) (i : grid0.Coords)
    (arg3 : Memref sig .tc .vmem S1024x2048 .bf16) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S8x128 .f32) (harg6 : arg6.IsWhole)
    (a : Vec F S1024x2048 .bf16) (b : Vec F S2048x2048 .bf16) :
    out0_A_2 c i arg3 harg3 arg4 harg4 arg5 harg5 arg6 harg6 a b = k0_pay1 a b := by
  unfold out0_A_2
  rw [View.read_writes_eq_canon _ _ _ (cover0_A_2 c i arg3 harg3 arg4 harg4 arg5 harg5 arg6 harg6 a b)]
  unfold kernelRun0_A
  dsimp only
  rw [View.canon_unit_zero at_origin]
  simp only [View.readAt_eq_ld, harg3.read_unread, harg4.read_unread, View.ld_unit_zero (S := S1024x2048) at_origin, View.ld_unit_zero (S := S2048x2048) at_origin]

variable (m : (ℓ : Loc nD τ sig) → Buf (Elt Ideal) ℓ) (c : Dev nD)

/-- The rows that go into the projection, and its weights. -/
abbrev rows : S8192x2048.Idx → EReal := m ((c.tc : Thread nD τ).loc main_arg0)
abbrev weight : S22592x2048.Idx → EReal := m ((c.tc : Thread nD τ).loc main_arg1)

theorem index_left : ∀ t : Fin grid0.N, win0_0.index t = ![t.val / 11, 0] := by decide +kernel
theorem index_right : ∀ t : Fin grid0.N, win0_1.index t = ![t.val % 11, 0] := by decide +kernel
theorem index_out : ∀ t : Fin grid0.N, win0_2.index t = ![t.val / 11, t.val % 11] := by decide +kernel

/-- The blocks that a grid point takes of the two. -/
abbrev leftAt (t : Fin cfg0.N) : S1024x2048.Idx → EReal := iblk m c 0 t
abbrev rightAt (t : Fin cfg0.N) : S2048x2048.Idx → EReal := X0_1 m c t

theorem left_block (t : Fin cfg0.N) (ht : t.val < 88) (x : Fin 1024) (k : Fin 2048) :
    leftAt m c t (ix2 x k) = entry (rows m c) (t.val / 11 * 1024 + x.val) k.val := by
  rw [entry_at _ (by omega) k.isLt]
  have hV : V m c main_arg0 = m ((c.tc : Thread nD τ).loc main_arg0) := V_main_arg0 m c
  refine (congrFun hV _).trans (congrArg (rows m c) (funext fun a => Fin.ext ?_))
  refine (win0_0.rect_emb_val t (ix2 x k) a rfl).trans ?_
  rw [index_left t]
  match a with
  | 0 => rfl
  | 1 => show 0 * 2048 + k.val = k.val; omega

theorem right_block (t : Fin cfg0.N) (ht : t.val < 88) (y k : Fin 2048) :
    rightAt m c t (ix2 y k) = entry (weight m c) (t.val % 11 * 2048 + y.val) k.val := by
  rw [entry_at _ (by omega) k.isLt]
  have hV : V m c main_arg1 = m ((c.tc : Thread nD τ).loc main_arg1) := V_main_arg1 m c
  unfold rightAt X0_1 Pipeline.Window.fill
  rw [dif_pos (moved0_1 t (ix2 y k))]
  refine (congrFun hV _).trans (congrArg (weight m c) (funext fun a => Fin.ext ?_))
  refine (win0_1.rect_emb_val t _ a rfl).trans ?_
  rw [index_right t]
  match a with
  | 0 => rfl
  | 1 => show 0 * 2048 + k.val = k.val; omega

/-- The array the call leaves: the product of the rows and the transposed weights. -/
theorem array (i : Fin 8192) (j : Fin 22528) :
    ((dats m 0 c).arrAt 2 cfg0.N : S8192x22528.Idx → EReal) (ix2 i j) = ∑ n : Fin 2048, entry (rows m c) i.val n.val * entry (weight m c) j.val n.val := by
  have ht : i.val / 1024 * 11 + j.val / 2048 < 88 := by omega
  have hN : i.val / 1024 * 11 + j.val / 2048 < cfg0.N := lt_of_lt_of_eq ht N_0.symm
  have e := congrFun (blocks2 m c ⟨_, hN⟩ (flush0_2 _)) (ix2 ⟨i.val % 1024, Nat.mod_lt _ (by decide)⟩ ⟨j.val % 2048, Nat.mod_lt _ (by decide)⟩)
  rw [flushed2_A m c ⟨_, hN⟩, left] at e
  have hx : (win0_2.rect ⟨_, hN⟩).emb (ix2 ⟨i.val % 1024, Nat.mod_lt _ (by decide)⟩ ⟨j.val % 2048, Nat.mod_lt _ (by decide)⟩) = ix2 i j := by
    refine funext fun a => Fin.ext ((win0_2.rect_emb_val ⟨_, hN⟩ _ a rfl).trans ?_)
    rw [index_out ⟨_, hN⟩]
    match a with
    | 0 => show (i.val / 1024 * 11 + j.val / 2048) / 11 * 1024 + i.val % 1024 = i.val; omega
    | 1 => show (i.val / 1024 * 11 + j.val / 2048) % 11 * 2048 + j.val % 2048 = j.val; omega
  refine (congrArg ((dats m 0 c).arrAt 2 cfg0.N : S8192x22528.Idx → EReal) hx.symm).trans (e.trans ?_)
  refine (tile (leftAt m c ⟨_, hN⟩) (rightAt m c ⟨_, hN⟩) _ _).trans (Finset.sum_congr rfl fun n _ => ?_)
  refine (congrArg₂ (· * ·) (left_block m c ⟨_, hN⟩ ht _ n) (right_block m c ⟨_, hN⟩ ht _ n)).trans ?_
  dsimp only
  rw [show (i.val / 1024 * 11 + j.val / 2048) / 11 * 1024 + i.val % 1024 = i.val by omega,
    show (i.val / 1024 * 11 + j.val / 2048) % 11 * 2048 + j.val % 2048 = j.val by omega]

end Cert.Kernel4Ideal.Projection

namespace Cert.Projection

open Idealize.ShloMosaic Idealize.ShloMosaic.TcCoe Idealize.ShloMosaic.Tactic Idealize.SL.Sem Cert.Tiles

section reference
open Cert.Reference4Ideal Cert.Reference4Ideal.Facts₀

/-- The entries of the reference's result. -/
theorem reference_entry (h : Vec Ideal S8192x2048 .bf16) (w : Vec Ideal S22592x2048 .bf16) (i : Fin 8192) (j : Fin 22528) :
    (truncf .bf16 (Host.dotGeneral (F := Ideal) dot_S8192x2048_S2048x22528_S8192x22528_1_0_0_1_n_n none (extf .f32 h bitsLt_bf16_f32)
      (transpose S2048x22528 [1, 0] (extf .f32 (extractStridedSlice S22528x2048 ![0, 0] w
        slices_S22592x2048_S22528x2048_0_0) bitsLt_bf16_f32)
        transposes_S22528x2048_S2048x22528_1_0)) bitsLt_bf16_f32 : FVec Ideal S8192x22528 .bf16) (ix2 i j)
      = (∑ n : Fin 2048, entry (h : S8192x2048.Idx → EReal) i.val n.val * entry (w : S22592x2048.Idx → EReal) j.val n.val : EReal) := by
  pointwise
  refine Finset.sum_congr rfl fun n _ => ?_
  rw [entry_at _ i.isLt n.isLt, entry_at _ (by omega : j.val < 22592) n.isLt]

end reference

theorem algebraic : Cert.algebraic_Kernel4Ideal_Reference4Ideal (hKernel4Ideal := Cert.Kernel4Ideal.Gen.facts)
    (hReference4Ideal := Cert.Reference4Ideal.Gen.facts) := fun m g m' g' _ hargs => by
  refine ⟨_, Cert.Kernel4Ideal.Value.run_blocks (F := Ideal) m g, ?_⟩
  refine (θ_run Cert.Reference4Ideal.defs _ _).mono (fun _ h c => ⟨(h c).1.trans (funext fun y => ?_), (h c).2⟩)
    (Cert.Reference4Ideal.Value.run (F := Ideal) m' g')
  obtain ⟨h0, h1⟩ := hargs c
  rw [h0, h1, ← ix2_eta y]
  exact (reference_entry _ _ (y 0) (y 1)).trans (Cert.Kernel4Ideal.Projection.array m c (y 0) (y 1)).symm

end Cert.Projection

end
-- ==== Proof.GateGrad.lean ====
module

public import proofs.«01_k».proof.Defs
public import proofs.«01_k».proof.Proof.Gen.Kernel5Ideal.Value
public import proofs.«01_k».proof.Proof.Gen.Reference5Ideal.Run
public import Idealize.ShloMosaic.Lib.Claim
public import Idealize.ShloMosaic.Lib.Pointwise

/-!
# The gradient of the gate on the state space branch

The call writes the gate's gradient over the last 2048 columns of an array and leaves the columns before them as they were.
A grid point takes 512 rows.
-/

@[expose] public section

noncomputable section

namespace Cert.Gate

open Idealize.ShloMosaic

/-- The gate's value, as the kernel takes it: from the hyperbolic tangent. -/
def sigma (x : EReal) : EReal := ((1 / 2 : ℝ) : EReal) * Ideal.tanh (((1 / 2 : ℝ) : EReal) * x) + ((1 / 2 : ℝ) : EReal)

theorem half_word : Ideal.ofBits .f32 0x3F000000#32 = ((1 / 2 : ℝ) : EReal) := by
  simp [Ideal.ofBits, Ideal.ieee, -EReal.coe_mul]
  norm_num

theorem tanh_half (r : ℝ) : 1 / 2 * Real.tanh (1 / 2 * r) + 1 / 2 = 1 * (1 + Real.exp (-r))⁻¹ := by
  have e : Real.exp (-r) = Real.exp (-(1 / 2 * r)) * Real.exp (-(1 / 2 * r)) := by rw [← Real.exp_add]; ring_nf
  have h : Real.exp (1 / 2 * r) * Real.exp (-(1 / 2 * r)) = 1 := by rw [← Real.exp_add]; simp
  have p := Real.exp_pos (1 / 2 * r)
  have q := Real.exp_pos (-(1 / 2 * r))
  rw [Real.tanh_eq_sinh_div_cosh, Real.sinh_eq, Real.cosh_eq, e]
  generalize Real.exp (1 / 2 * r) = u at *
  generalize Real.exp (-(1 / 2 * r)) = v at *
  field_simp
  nlinarith

/-- The gate's value is the logistic function. -/
theorem sigma_eq (x : EReal) : Ideal.div 1 (1 + Ideal.exp (-x)) = sigma x := by
  unfold sigma
  induction x using EReal.rec with
  | bot =>
    rw [EReal.coe_mul_bot_of_pos (by norm_num), EReal.neg_bot, Ideal.exp_top, EReal.add_top_of_ne_bot (by decide)]
    simp [Ideal.div]
    rw [← EReal.coe_neg, ← EReal.coe_add]; norm_num
  | top =>
    rw [EReal.coe_mul_top_of_pos (by norm_num)]
    simp [Ideal.div]
    rw [← EReal.coe_add]; norm_num
  | coe r =>
    rw [← EReal.coe_mul, Ideal.tanh_coe, ← EReal.coe_neg, Ideal.exp_coe, ← EReal.coe_mul, ← EReal.coe_add, tanh_half]
    have h : (1 + Real.exp (-r)) ≠ 0 := by positivity
    rw [← EReal.coe_one, ← EReal.coe_add, Ideal.div, if_neg (by exact_mod_cast h), ← EReal.coe_inv, ← EReal.coe_mul]

end Cert.Gate

namespace Cert.Kernel5Ideal.GateGrad

open Idealize.ShloMosaic Idealize.ShloMosaic.TcCoe Idealize.ShloMosaic.Tactic
open Cert.Kernel5Ideal.Gen Cert.Kernel5Ideal.Value Cert.Gate

/-! ### What a grid point computes -/

theorem branch_rows (d g : Vec Ideal S512x2048 .bf16) (x : Fin 512) (y : Fin 2048) :
    k0_pay3 d g (ix2 x y) = (d (ix2 x y) * sigma (g (ix2 x y)) : EReal) := by
  unfold k0_pay3 k0_pay1 k0_pay2
  pointwise
  rw [half_word]
  rfl

theorem gate_rows (d g b : Vec Ideal S512x2048 .bf16) (x : Fin 512) (y : Fin 2048) :
    k0_pay4 d g b (ix2 x y) = (d (ix2 x y) * b (ix2 x y) * (sigma (g (ix2 x y)) * (1 - sigma (g (ix2 x y)))) : EReal) := by
  unfold k0_pay4 k0_pay1 k0_pay2
  pointwise
  rw [half_word]
  exact mul_assoc _ _ _

theorem at_origin : (![0, 0] : Fin 2 → ℕ) = fun _ => 0 := funext fun a => by fin_cases a <;> rfl

section
variable {F : FTy → Type} [FloatOps F] (c : Dev nD) (i : grid0.Coords)
  (arg2 : Memref sig .tc .vmem S512x2048 .bf16) (harg2 : arg2.IsWhole) (arg3 : Memref sig .tc .vmem S512x2048 .bf16) (harg3 : arg3.IsWhole)
  (arg4 : Memref sig .tc .vmem S512x2048 .bf16) (harg4 : arg4.IsWhole) (arg6 : Memref sig .tc .vmem S512x2048 .bf16) (harg6 : arg6.IsWhole)
  (arg7 : Memref sig .tc .vmem S512x2048 .bf16) (harg7 : arg7.IsWhole) (g b d : Vec F S512x2048 .bf16)

theorem left_gate : out0_A_3 c i arg2 harg2 arg3 harg3 arg4 harg4 arg6 harg6 arg7 harg7 g b d = k0_pay4 d g b := by
  unfold out0_A_3
  rw [View.read_writes_eq_canon _ _ _ (cover0_A_3 c i arg2 harg2 arg3 harg3 arg4 harg4 arg6 harg6 arg7 harg7 g b d)]
  unfold kernelRun0_A
  dsimp only
  rw [View.canon_unit_zero at_origin]
  simp only [View.readAt_eq_ld, harg2.read_unread, harg3.read_unread, harg4.read_unread, View.ld_unit_zero (S := S512x2048) at_origin]

theorem left_branch : out0_A_4 c i arg2 harg2 arg3 harg3 arg4 harg4 arg6 harg6 arg7 harg7 g b d = k0_pay3 d g := by
  unfold out0_A_4
  rw [View.read_writes_eq_canon _ _ _ (cover0_A_4 c i arg2 harg2 arg3 harg3 arg4 harg4 arg6 harg6 arg7 harg7 g b d)]
  unfold kernelRun0_A
  dsimp only
  rw [View.canon_unit_zero at_origin]
  simp only [View.readAt_eq_ld, harg2.read_unread, harg3.read_unread, harg4.read_unread, View.ld_unit_zero (S := S512x2048) at_origin]

end

variable (m : (ℓ : Loc nD τ sig) → Buf (Elt Ideal) ℓ) (c : Dev nD)

/-- The rows before the gate, of which the last 2048 columns are the gate's, the branch, and the cotangent of the gated branch. -/
abbrev gates : S8192x22528.Idx → EReal := m ((c.tc : Thread nD τ).loc main_arg0)
abbrev branch : S8192x2048.Idx → EReal := m ((c.tc : Thread nD τ).loc main_arg1)
abbrev cotangent : S8192x2048.Idx → EReal := m ((c.tc : Thread nD τ).loc main_arg2)
abbrev before : S8192x22528.Idx → EReal := m ((c.tc : Thread nD τ).loc main_arg3)

theorem index_gate : ∀ t : Fin grid0.N, win0_0.index t = ![t.val, 10] := by decide +kernel
theorem index_branch : ∀ t : Fin grid0.N, win0_1.index t = ![t.val, 0] := by decide +kernel
theorem index_cotangent : ∀ t : Fin grid0.N, win0_2.index t = ![t.val, 0] := by decide +kernel
theorem index_out : ∀ t : Fin grid0.N, win0_3.index t = ![t.val, 10] := by decide +kernel
theorem index_out_branch : ∀ t : Fin grid0.N, win0_4.index t = ![t.val, 0] := by decide +kernel

abbrev gateAt (t : Fin cfg0.N) : S512x2048.Idx → EReal := iblk m c 0 t
abbrev branchAt (t : Fin cfg0.N) : S512x2048.Idx → EReal := iblk m c 1 t
abbrev cotangentAt (t : Fin cfg0.N) : S512x2048.Idx → EReal := iblk m c 2 t

/-- The grid point that takes a row, and the row's place in its block. -/
theorem point_lt (i : Fin 8192) : i.val / 512 < cfg0.N := lt_of_lt_of_eq (by omega : _ < 16) N_0.symm
abbrev point (i : Fin 8192) : Fin cfg0.N := ⟨i.val / 512, point_lt i⟩
abbrev place (i : Fin 8192) : Fin 512 := ⟨i.val % 512, Nat.mod_lt _ (by decide)⟩
/-- A column among the gate's. -/
abbrev shifted (j : Fin 2048) : Fin 22528 := ⟨20480 + j.val, by omega⟩

theorem gate_block (i : Fin 8192) (j : Fin 2048) : gateAt m c (point i) (ix2 (place i) j) = gates m c (ix2 i (shifted j)) := by
  have hV : V m c main_arg0 = m ((c.tc : Thread nD τ).loc main_arg0) := V_main_arg0 m c
  refine (congrFun hV _).trans (congrArg (gates m c) (funext fun a => Fin.ext ?_))
  refine (win0_0.rect_emb_val (point i) _ a rfl).trans ?_
  rw [index_gate (point i)]
  match a with
  | 0 => show i.val / 512 * 512 + i.val % 512 = i.val; omega
  | 1 => show 10 * 2048 + j.val = 20480 + j.val; omega

theorem branch_block (i : Fin 8192) (j : Fin 2048) : branchAt m c (point i) (ix2 (place i) j) = branch m c (ix2 i j) := by
  have hV : V m c main_arg1 = m ((c.tc : Thread nD τ).loc main_arg1) := V_main_arg1 m c
  refine (congrFun hV _).trans (congrArg (branch m c) (funext fun a => Fin.ext ?_))
  refine (win0_1.rect_emb_val (point i) _ a rfl).trans ?_
  rw [index_branch (point i)]
  match a with
  | 0 => show i.val / 512 * 512 + i.val % 512 = i.val; omega
  | 1 => show 0 * 2048 + j.val = j.val; omega

theorem cotangent_block (i : Fin 8192) (j : Fin 2048) : cotangentAt m c (point i) (ix2 (place i) j) = cotangent m c (ix2 i j) := by
  have hV : V m c main_arg2 = m ((c.tc : Thread nD τ).loc main_arg2) := V_main_arg2 m c
  refine (congrFun hV _).trans (congrArg (cotangent m c) (funext fun a => Fin.ext ?_))
  refine (win0_2.rect_emb_val (point i) _ a rfl).trans ?_
  rw [index_cotangent (point i)]
  match a with
  | 0 => show i.val / 512 * 512 + i.val % 512 = i.val; omega
  | 1 => show 0 * 2048 + j.val = j.val; omega

/-- The branch's gradient. -/
theorem branch_array (i : Fin 8192) (j : Fin 2048) :
    ((dats m 0 c).arrAt 4 cfg0.N : S8192x2048.Idx → EReal) (ix2 i j) = cotangent m c (ix2 i j) * sigma (gates m c (ix2 i (shifted j))) := by
  have e := congrFun (blocks4 m c (point i) (flush0_4 _)) (ix2 (place i) j)
  rw [flushed4_A m c (point i), left_branch] at e
  have hx : (win0_4.rect (point i)).emb (ix2 (place i) j) = ix2 i j := by
    refine funext fun a => Fin.ext ((win0_4.rect_emb_val (point i) _ a rfl).trans ?_)
    rw [index_out_branch (point i)]
    match a with
    | 0 => show i.val / 512 * 512 + i.val % 512 = i.val; omega
    | 1 => show 0 * 2048 + j.val = j.val; omega
  refine (congrArg ((dats m 0 c).arrAt 4 cfg0.N : S8192x2048.Idx → EReal) hx.symm).trans (e.trans ?_)
  refine (branch_rows (cotangentAt m c (point i)) (gateAt m c (point i)) _ _).trans ?_
  rw [cotangent_block, gate_block]

/-- The gate's gradient, in the last 2048 columns. -/
theorem gate_array (i : Fin 8192) (j : Fin 2048) :
    ((dats m 0 c).arrAt 3 cfg0.N : S8192x22528.Idx → EReal) (ix2 i (shifted j))
      = cotangent m c (ix2 i j) * branch m c (ix2 i j)
        * (sigma (gates m c (ix2 i (shifted j))) * (1 - sigma (gates m c (ix2 i (shifted j))))) := by
  have e := congrFun (blocks3 m c (point i) (flush0_3 _)) (ix2 (place i) j)
  rw [flushed3_A m c (point i), left_gate] at e
  have hx : (win0_3.rect (point i)).emb (ix2 (place i) j) = ix2 i (shifted j) := by
    refine funext fun a => Fin.ext ((win0_3.rect_emb_val (point i) _ a rfl).trans ?_)
    rw [index_out (point i)]
    match a with
    | 0 => show i.val / 512 * 512 + i.val % 512 = i.val; omega
    | 1 => show 10 * 2048 + j.val = 20480 + j.val; omega
  refine (congrArg ((dats m 0 c).arrAt 3 cfg0.N : S8192x22528.Idx → EReal) hx.symm).trans (e.trans ?_)
  refine (gate_rows (cotangentAt m c (point i)) (gateAt m c (point i)) (branchAt m c (point i)) _ _).trans ?_
  rw [cotangent_block, gate_block, branch_block]

theorem entered : V m c main_v0_0 = m ((c.tc : Thread nD τ).loc main_arg3) := by
  show StableHlo.after hostOps0 (fun b => m (c, b)) (Proc.devRef .tc main_v0_0) = _
  unfold hostOps0
  after_results
  rfl

/-- The columns before the gate's are left as they were. -/
theorem rest_array (i : Fin 8192) (j : Fin 22528) (hj : j.val < 20480) :
    ((dats m 0 c).arrAt 3 cfg0.N : S8192x22528.Idx → EReal) (ix2 i j) = before m c (ix2 i j) := by
  refine (entry3 m c (ix2 i j) fun t _ hi => ?_).trans (congrFun (entered m c) (ix2 i j))
  obtain ⟨x, hx⟩ := View.exists_emb_of_mem_set _ hi
  have hv : ((win0_3.rect t).emb x 1).val = j.val := congrArg (fun y : S8192x22528.Idx => (y 1).val) hx
  rw [win0_3.rect_emb_val t x 1 rfl, index_out t] at hv
  have : 10 * 2048 + (x 1).val = j.val := hv
  omega

end Cert.Kernel5Ideal.GateGrad

namespace Cert.GateGrad

open Idealize.ShloMosaic Idealize.ShloMosaic.TcCoe Idealize.ShloMosaic.Tactic Idealize.SL.Sem Cert.Gate

section reference
open Cert.Reference5Ideal Cert.Reference5Ideal.Facts₀

/-- The reference's gate. -/
abbrev gate (p : Vec Ideal S8192x22528 .bf16) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (extf .f32 (extractStridedSlice S8192x2048 ![0, 20480] p slices_S8192x22528_S8192x2048_0_20480) bitsLt_bf16_f32))))

theorem gate_entry (p : Vec Ideal S8192x22528 .bf16) (i : Fin 8192) (j : Fin 2048) :
    gate p (ix2 i j) = sigma (p (ix2 i ⟨20480 + j.val, by omega⟩)) := by
  rw [← sigma_eq]
  unfold gate
  pointwise

theorem branch_entry (p : Vec Ideal S8192x22528 .bf16) (d : Vec Ideal S8192x2048 .bf16) (i : Fin 8192) (j : Fin 2048) :
    (truncf .bf16 (mulf (gate p) (extf .f32 d bitsLt_bf16_f32)) bitsLt_bf16_f32 : FVec Ideal S8192x2048 .bf16) (ix2 i j)
      = (d (ix2 i j) * sigma (p (ix2 i ⟨20480 + j.val, by omega⟩)) : EReal) := by
  rw [← gate_entry p i j]
  exact mul_comm _ _

theorem grad_entry (p : Vec Ideal S8192x22528 .bf16) (b d : Vec Ideal S8192x2048 .bf16) (i : Fin 8192) (j : Fin 2048) :
    (truncf .bf16 (mulf (mulf (extf .f32 d bitsLt_bf16_f32) (extf .f32 b bitsLt_bf16_f32)) (mulf (gate p)
      (subf (broadcastInDim S8192x2048 ![] bcast_S_S8192x2048 (constant S_ .f32 0x3F800000#32)) (gate p)))) bitsLt_bf16_f32
      : FVec Ideal S8192x2048 .bf16) (ix2 i j)
      = (d (ix2 i j) * b (ix2 i j) * (sigma (p (ix2 i ⟨20480 + j.val, by omega⟩)) * (1 - sigma (p (ix2 i ⟨20480 + j.val, by omega⟩)))) : EReal) := by
  rw [← gate_entry p i j, ← Ideal.ofBits_one_f32]
  rfl

/-- The reference's first result: the array as it was, with the gate's gradient over its last columns. -/
theorem grad_array (p r : Vec Ideal S8192x22528 .bf16) (b d : Vec Ideal S8192x2048 .bf16) (i : Fin 8192) (j : Fin 22528) :
    (concatenate S8192x22528 1 [⟨S8192x20480, extractStridedSlice S8192x20480 ![0, 0] r slices_S8192x22528_S8192x20480_0_0⟩,
      ⟨S8192x2048, truncf .bf16 (mulf (mulf (extf .f32 d bitsLt_bf16_f32) (extf .f32 b bitsLt_bf16_f32)) (mulf (gate p)
        (subf (broadcastInDim S8192x2048 ![] bcast_S_S8192x2048 (constant S_ .f32 0x3F800000#32)) (gate p)))) bitsLt_bf16_f32⟩]
      concatenates_S8192x20480_S8192x2048_S8192x22528_d1 : FVec Ideal S8192x22528 .bf16) (ix2 i j)
      = (if hj : j.val < 20480 then r (ix2 i j) else
        d (ix2 i ⟨j.val - 20480, by omega⟩) * b (ix2 i ⟨j.val - 20480, by omega⟩)
          * (sigma (p (ix2 i ⟨20480 + (j.val - 20480), by omega⟩)) * (1 - sigma (p (ix2 i ⟨20480 + (j.val - 20480), by omega⟩)))) : EReal) := by
  split
  next hj =>
    refine (concatenate_pair_apply_left (s₁ := S8192x20480) (s₂ := S8192x2048) 1 _ _ _ (ix2 i j) rfl (ix2 i ⟨j.val, hj⟩) fun b => ?_).trans ?_
    · match b with
      | 0 => rfl
      | 1 => rfl
    · pointwise
  next hj =>
    refine (concatenate_pair_apply_right (s₁ := S8192x20480) (s₂ := S8192x2048) 1 _ _ _ (ix2 i j) rfl rfl (ix2 i ⟨j.val - 20480, by omega⟩) (fun b hb => ?_) ?_).trans
      (grad_entry p b d i ⟨j.val - 20480, by omega⟩)
    · match b, hb with
      | 0, _ => rfl
      | 1, hb => exact absurd rfl hb
    · show j.val - 20480 + 20480 = j.val; omega

end reference

theorem algebraic : Cert.algebraic_Kernel5Ideal_Reference5Ideal (hKernel5Ideal := Cert.Kernel5Ideal.Gen.facts)
    (hReference5Ideal := Cert.Reference5Ideal.Gen.facts) := fun m g m' g' _ hargs => by
  refine ⟨_, _, Cert.Kernel5Ideal.Value.run_blocks (F := Ideal) m g, ?_⟩
  refine (θ_run Cert.Reference5Ideal.defs _ _).mono (fun _ h c => ⟨(h c).1.trans (funext fun y => ?_), (h c).2.1.trans (funext fun y => ?_), (h c).2.2⟩)
    (Cert.Reference5Ideal.Value.run (F := Ideal) m' g')
  all_goals
    obtain ⟨h0, h1, h2, h3⟩ := hargs c
    rw [← ix2_eta y]
    generalize y 0 = i
    generalize y 1 = j
    change Fin 8192 at i
  · rw [h0, h1, h2, h3]
    change Fin 22528 at j
    refine (grad_array _ _ _ _ i j).trans ?_
    split
    next hj => exact (Cert.Kernel5Ideal.GateGrad.rest_array m c i j hj).symm
    next hj =>
      have e : j = Cert.Kernel5Ideal.GateGrad.shifted ⟨j.val - 20480, by omega⟩ := Fin.ext (by show j.val = 20480 + (j.val - 20480); omega)
      refine .trans ?_ ((congrArg (fun j => ((Cert.Kernel5Ideal.Gen.dats m 0 c).arrAt 3 Cert.Kernel5Ideal.cfg0.N : Cert.Kernel5Ideal.S8192x22528.Idx → EReal) (ix2 i j)) e).trans
        (Cert.Kernel5Ideal.GateGrad.gate_array m c i ⟨j.val - 20480, by omega⟩)).symm
      rfl
  · rw [h0, h2]
    change Fin 2048 at j
    exact (branch_entry _ _ i j).trans (Cert.Kernel5Ideal.GateGrad.branch_array m c i j).symm

end Cert.GateGrad

end
-- ==== Proof.BranchRowGrad.lean ====
module

public import proofs.«01_k».proof.Defs
public import proofs.«01_k».proof.Proof.Projection
public import proofs.«01_k».proof.Proof.Gen.Kernel6Ideal.Value
public import proofs.«01_k».proof.Proof.Gen.Reference6Ideal.Run
public import Idealize.ShloMosaic.Lib.Claim

/-!
# The gradient of the rows of the state space branch's product

A grid point `2 q + k` takes the rows `1024 q` to `1024 q + 1023` and the columns `2048 k` to `2048 k + 2047` of the product of
the cotangent and the transposed weights, with all of its 2048 terms.
-/

@[expose] public section

noncomputable section

namespace Cert.Kernel6Ideal.BranchRowGrad

open Idealize.ShloMosaic Idealize.ShloMosaic.TcCoe Idealize.ShloMosaic.Tactic
open Cert.Kernel6Ideal.Gen Cert.Kernel6Ideal.Value Cert.Tiles

/-- What a grid point computes: a tile of the same sizes as one of the wide projection. -/
theorem tile (a : Vec Ideal S1024x2048 .bf16) (b : Vec Ideal S2048x2048 .bf16) (x : Fin 1024) (y : Fin 2048) :
    k0_pay1 a b (ix2 x y) = ∑ k : Fin 2048, (a (ix2 x k) * b (ix2 y k) : EReal) :=
  Cert.Kernel4Ideal.Projection.tile a b x y

theorem left {F : FTy → Type} [FloatOps F] (c : Dev nD) (i : grid0.Coords)
    (arg3 : Memref sig .tc .vmem S1024x2048 .bf16) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S8x128 .f32) (harg6 : arg6.IsWhole)
    (a : Vec F S1024x2048 .bf16) (b : Vec F S2048x2048 .bf16) :
    out0_A_2 c i arg3 harg3 arg4 harg4 arg5 harg5 arg6 harg6 a b = k0_pay1 a b := by
  unfold out0_A_2
  rw [View.read_writes_eq_canon _ _ _ (cover0_A_2 c i arg3 harg3 arg4 harg4 arg5 harg5 arg6 harg6 a b)]
  unfold kernelRun0_A
  dsimp only
  rw [View.canon_unit_zero at_origin]
  simp only [View.readAt_eq_ld, harg3.read_unread, harg4.read_unread, View.ld_unit_zero (S := S1024x2048) at_origin, View.ld_unit_zero (S := S2048x2048) at_origin]

variable (m : (ℓ : Loc nD τ sig) → Buf (Elt Ideal) ℓ) (c : Dev nD)

/-- The weights, and the cotangent of the product. -/
abbrev weight : S4096x2048.Idx → EReal := m ((c.tc : Thread nD τ).loc main_arg0)
abbrev cotangent : S8192x2048.Idx → EReal := m ((c.tc : Thread nD τ).loc main_arg1)

theorem index_left : ∀ t : Fin grid0.N, win0_0.index t = ![t.val / 2, 0] := by decide +kernel
theorem index_right : ∀ t : Fin grid0.N, win0_1.index t = ![t.val % 2, 0] := by decide +kernel
theorem index_out : ∀ t : Fin grid0.N, win0_2.index t = ![t.val / 2, t.val % 2] := by decide +kernel

/-- The blocks that a grid point takes of the two. -/
abbrev leftAt (t : Fin cfg0.N) : S1024x2048.Idx → EReal := iblk m c 0 t
abbrev rightAt (t : Fin cfg0.N) : S2048x2048.Idx → EReal := iblk m c 1 t

theorem left_block (t : Fin cfg0.N) (ht : t.val < 16) (x : Fin 1024) (k : Fin 2048) :
    leftAt m c t (ix2 x k) = entry (cotangent m c) (t.val / 2 * 1024 + x.val) k.val := by
  rw [entry_at _ (by omega) k.isLt]
  have hV : V m c main_arg1 = m ((c.tc : Thread nD τ).loc main_arg1) := V_main_arg1 m c
  refine (congrFun hV _).trans (congrArg (cotangent m c) (funext fun a => Fin.ext ?_))
  refine (win0_0.rect_emb_val t (ix2 x k) a rfl).trans ?_
  rw [index_left t]
  match a with
  | 0 => rfl
  | 1 => show 0 * 2048 + k.val = k.val; omega

theorem right_block (t : Fin cfg0.N) (ht : t.val < 16) (y k : Fin 2048) :
    rightAt m c t (ix2 y k) = entry (weight m c) (t.val % 2 * 2048 + y.val) k.val := by
  rw [entry_at _ (by omega) k.isLt]
  have hV : V m c main_arg0 = m ((c.tc : Thread nD τ).loc main_arg0) := V_main_arg0 m c
  refine (congrFun hV _).trans (congrArg (weight m c) (funext fun a => Fin.ext ?_))
  refine (win0_1.rect_emb_val t _ a rfl).trans ?_
  rw [index_right t]
  match a with
  | 0 => rfl
  | 1 => show 0 * 2048 + k.val = k.val; omega

/-- The array the call leaves: the product of the cotangent and the transposed weights. -/
theorem array (i : Fin 8192) (j : Fin 4096) :
    ((dats m 0 c).arrAt 2 cfg0.N : S8192x4096.Idx → EReal) (ix2 i j) = ∑ n : Fin 2048, entry (cotangent m c) i.val n.val * entry (weight m c) j.val n.val := by
  have ht : i.val / 1024 * 2 + j.val / 2048 < 16 := by omega
  have hN : i.val / 1024 * 2 + j.val / 2048 < cfg0.N := lt_of_lt_of_eq ht N_0.symm
  have e := congrFun (blocks2 m c ⟨_, hN⟩ (flush0_2 _)) (ix2 ⟨i.val % 1024, Nat.mod_lt _ (by decide)⟩ ⟨j.val % 2048, Nat.mod_lt _ (by decide)⟩)
  rw [flushed2_A m c ⟨_, hN⟩, left] at e
  have hx : (win0_2.rect ⟨_, hN⟩).emb (ix2 ⟨i.val % 1024, Nat.mod_lt _ (by decide)⟩ ⟨j.val % 2048, Nat.mod_lt _ (by decide)⟩) = ix2 i j := by
    refine funext fun a => Fin.ext ((win0_2.rect_emb_val ⟨_, hN⟩ _ a rfl).trans ?_)
    rw [index_out ⟨_, hN⟩]
    match a with
    | 0 => show (i.val / 1024 * 2 + j.val / 2048) / 2 * 1024 + i.val % 1024 = i.val; omega
    | 1 => show (i.val / 1024 * 2 + j.val / 2048) % 2 * 2048 + j.val % 2048 = j.val; omega
  refine (congrArg ((dats m 0 c).arrAt 2 cfg0.N : S8192x4096.Idx → EReal) hx.symm).trans (e.trans ?_)
  refine (tile (leftAt m c ⟨_, hN⟩) (rightAt m c ⟨_, hN⟩) _ _).trans (Finset.sum_congr rfl fun n _ => ?_)
  refine (congrArg₂ (· * ·) (left_block m c ⟨_, hN⟩ ht _ n) (right_block m c ⟨_, hN⟩ ht _ n)).trans ?_
  dsimp only
  rw [show (i.val / 1024 * 2 + j.val / 2048) / 2 * 1024 + i.val % 1024 = i.val by omega,
    show (i.val / 1024 * 2 + j.val / 2048) % 2 * 2048 + j.val % 2048 = j.val by omega]

end Cert.Kernel6Ideal.BranchRowGrad

namespace Cert.BranchRowGrad

open Idealize.ShloMosaic Idealize.ShloMosaic.TcCoe Idealize.ShloMosaic.Tactic Idealize.SL.Sem Cert.Tiles

section reference
open Cert.Reference6Ideal Cert.Reference6Ideal.Facts₀

/-- The entries of the reference's result. -/
theorem reference_entry (w : Vec Ideal S4096x2048 .bf16) (d : Vec Ideal S8192x2048 .bf16) (i : Fin 8192) (j : Fin 4096) :
    (truncf .bf16 (Host.dotGeneral (F := Ideal) dot_S8192x2048_S4096x2048_S8192x4096_1_1_0_0_n_n none (extf .f32 d bitsLt_bf16_f32)
      (extf .f32 w bitsLt_bf16_f32)) bitsLt_bf16_f32 : FVec Ideal S8192x4096 .bf16) (ix2 i j)
      = (∑ n : Fin 2048, entry (d : S8192x2048.Idx → EReal) i.val n.val * entry (w : S4096x2048.Idx → EReal) j.val n.val : EReal) := by
  pointwise
  refine Finset.sum_congr rfl fun n _ => ?_
  rw [entry_at _ i.isLt n.isLt, entry_at _ j.isLt n.isLt]

end reference

theorem algebraic : Cert.algebraic_Kernel6Ideal_Reference6Ideal (hKernel6Ideal := Cert.Kernel6Ideal.Gen.facts)
    (hReference6Ideal := Cert.Reference6Ideal.Gen.facts) := fun m g m' g' _ hargs => by
  refine ⟨_, Cert.Kernel6Ideal.Value.run_blocks (F := Ideal) m g, ?_⟩
  refine (θ_run Cert.Reference6Ideal.defs _ _).mono (fun _ h c => ⟨(h c).1.trans (funext fun y => ?_), (h c).2⟩)
    (Cert.Reference6Ideal.Value.run (F := Ideal) m' g')
  obtain ⟨h0, h1⟩ := hargs c
  rw [h0, h1, ← ix2_eta y]
  exact (reference_entry _ _ (y 0) (y 1)).trans (Cert.Kernel6Ideal.BranchRowGrad.array m c (y 0) (y 1)).symm

end Cert.BranchRowGrad

end
-- ==== Proof.BranchWeightGrad.lean ====
module

public import proofs.«01_k».proof.Defs
public import proofs.«01_k».proof.Proof.WeightGrad
public import proofs.«01_k».proof.Proof.Gen.Kernel7Ideal.Value
public import proofs.«01_k».proof.Proof.Gen.Reference7Ideal.Run
public import Idealize.ShloMosaic.Lib.Claim

/-!
# The gradient of the state space branch's weights

The product of the transposed rows and the cotangent.  A grid point `8 q + k` takes tile `k` of its 8 tiles of 1024 terms, for
the rows `1024 q` to `1024 q + 1023` of the weights.
-/

@[expose] public section

noncomputable section

namespace Cert.Kernel7Ideal.BranchWeightGrad

open Idealize.ShloMosaic Idealize.ShloMosaic.TcCoe Idealize.ShloMosaic.Tactic
open Cert.Kernel7Ideal.Gen Cert.Kernel7Ideal.Value Cert.Tiles

/-! ### What a grid point computes -/

theorem first_tile (a : Vec Ideal S1024x1024 .bf16) (b : Vec Ideal S1024x2048 .bf16) (x : Fin 1024) (y : Fin 2048) :
    k0_pay1 a b (ix2 x y) = ∑ k : Fin 1024, (a (ix2 k x) * b (ix2 k y) : EReal) := Cert.Kernel3Ideal.WeightGrad.first_tile a b x y

theorem next_tile (s : Vec Ideal S1024x2048 .f32) (a : Vec Ideal S1024x1024 .bf16) (b : Vec Ideal S1024x2048 .bf16) (x : Fin 1024) (y : Fin 2048) :
    k0_pay2 s a b (ix2 x y) = (s (ix2 x y) + ∑ k : Fin 1024, (a (ix2 k x) * b (ix2 k y) : EReal) : EReal) :=
  Cert.Kernel3Ideal.WeightGrad.next_tile s a b x y

theorem last_tile (s : Vec Ideal S1024x2048 .f32) (a : Vec Ideal S1024x1024 .bf16) (b : Vec Ideal S1024x2048 .bf16) (x : Fin 1024) (y : Fin 2048) :
    k0_pay3 s a b (ix2 x y) = (s (ix2 x y) + ∑ k : Fin 1024, (a (ix2 k x) * b (ix2 k y) : EReal) : EReal) :=
  Cert.Kernel3Ideal.WeightGrad.last_tile s a b x y

section
variable {F : FTy → Type} [FloatOps F] (c : Dev nD) (i : grid0.Coords)
  (arg3 : Memref sig .tc .vmem S1024x1024 .bf16) (harg3 : arg3.IsWhole) (arg4 : Memref sig .tc .vmem S1024x2048 .bf16) (harg4 : arg4.IsWhole)
  (arg5 : Memref sig .tc .vmem S1024x2048 .bf16) (harg5 : arg5.IsWhole) (arg6 : Memref sig .tc .vmem S1024x2048 .f32) (harg6 : arg6.IsWhole)

theorem left_first (hc0 : cond0_0 i) (hc1 : ¬cond0_1 i) (hc2 : ¬cond0_2 i) (a : Vec F S1024x1024 .bf16) (b : Vec F S1024x2048 .bf16) :
    sout0_A_0 c i arg3 harg3 arg4 harg4 arg5 harg5 arg6 harg6 hc0 hc1 hc2 a b = k0_pay1 a b := by
  unfold sout0_A_0
  rw [View.read_writes_eq_canon _ _ _ (scover0_A_0 c i arg3 harg3 arg4 harg4 arg5 harg5 arg6 harg6 hc0 hc1 hc2 a b)]
  unfold kernelRun0_A
  dsimp only
  rw [View.canon_unit_zero at_origin]
  simp only [View.readAt_eq_ld, harg3.read_unread, harg4.read_unread, View.ld_unit_zero (S := S1024x1024) at_origin, View.ld_unit_zero (S := S1024x2048) at_origin]

theorem left_next (hc0 : ¬cond0_0 i) (hc1 : cond0_1 i) (hc2 : ¬cond0_2 i) (a : Vec F S1024x1024 .bf16) (b : Vec F S1024x2048 .bf16)
    (s : Vec F S1024x2048 .f32) :
    sout0_B_0 c i arg3 harg3 arg4 harg4 arg5 harg5 arg6 harg6 hc0 hc1 hc2 a b s = k0_pay2 s a b := by
  unfold sout0_B_0
  rw [View.read_writes_eq_canon _ _ _ (scover0_B_0 c i arg3 harg3 arg4 harg4 arg5 harg5 arg6 harg6 hc0 hc1 hc2 a b s)]
  unfold kernelRun0_B
  dsimp only
  rw [View.canon_unit_zero at_origin]
  simp only [View.readAt_eq_ld, harg3.read_unread, harg4.read_unread, harg6.read_unread, View.ld_unit_zero (S := S1024x1024) at_origin, View.ld_unit_zero (S := S1024x2048) at_origin]

theorem left_last (hc0 : ¬cond0_0 i) (hc1 : ¬cond0_1 i) (hc2 : cond0_2 i) (a : Vec F S1024x1024 .bf16) (b : Vec F S1024x2048 .bf16)
    (s : Vec F S1024x2048 .f32) :
    out0_C_2 c i arg3 harg3 arg4 harg4 arg5 harg5 arg6 harg6 hc0 hc1 hc2 a b s = k0_pay3 s a b := by
  unfold out0_C_2
  rw [View.read_writes_eq_canon _ _ _ (cover0_C_2 c i arg3 harg3 arg4 harg4 arg5 harg5 arg6 harg6 hc0 hc1 hc2 a b s)]
  unfold kernelRun0_C
  dsimp only
  rw [View.canon_unit_zero at_origin]
  simp only [View.readAt_eq_ld, harg3.read_unread, harg4.read_unread, harg6.read_unread, View.ld_unit_zero (S := S1024x1024) at_origin, View.ld_unit_zero (S := S1024x2048) at_origin]

end

/-! ### The blocks it takes, in their arrays -/

variable (m : (ℓ : Loc nD τ sig) → Buf (Elt Ideal) ℓ) (c : Dev nD)

/-- The rows that go into the product, and the cotangent of its result. -/
abbrev rows : S8192x4096.Idx → EReal := m ((c.tc : Thread nD τ).loc main_arg0)
abbrev cotangent : S8192x2048.Idx → EReal := m ((c.tc : Thread nD τ).loc main_arg1)

theorem index_left : ∀ t : Fin grid0.N, win0_0.index t = ![t.val % 8, t.val / 8] := by decide +kernel
theorem index_right : ∀ t : Fin grid0.N, win0_1.index t = ![t.val % 8, 0] := by decide +kernel

/-- The blocks that a grid point takes of the two. -/
abbrev leftAt (t : Fin cfg0.N) : S1024x1024.Idx → EReal := iblk m c 0 t
abbrev rightAt (t : Fin cfg0.N) : S1024x2048.Idx → EReal := iblk m c 1 t

theorem left_block (t : Fin cfg0.N) (ht : t.val < 32) (k x : Fin 1024) :
    leftAt m c t (ix2 k x) = entry (rows m c) (t.val % 8 * 1024 + k.val) (t.val / 8 * 1024 + x.val) := by
  rw [entry_at _ (by omega) (by omega)]
  have hV : V m c main_arg0 = m ((c.tc : Thread nD τ).loc main_arg0) := V_main_arg0 m c
  refine (congrFun hV _).trans (congrArg (rows m c) (funext fun a => Fin.ext ?_))
  refine (win0_0.rect_emb_val t (ix2 k x) a rfl).trans ?_
  rw [index_left t]
  match a with
  | 0 => rfl
  | 1 => rfl

theorem right_block (t : Fin cfg0.N) (ht : t.val < 32) (k : Fin 1024) (y : Fin 2048) :
    rightAt m c t (ix2 k y) = entry (cotangent m c) (t.val % 8 * 1024 + k.val) y.val := by
  rw [entry_at _ (by omega) y.isLt]
  have hV : V m c main_arg1 = m ((c.tc : Thread nD τ).loc main_arg1) := V_main_arg1 m c
  refine (congrFun hV _).trans (congrArg (cotangent m c) (funext fun a => Fin.ext ?_))
  refine (win0_1.rect_emb_val t _ a rfl).trans ?_
  rw [index_right t]
  match a with
  | 0 => rfl
  | 1 => show 0 * 2048 + y.val = y.val; omega

/-! ### The tiles, added -/

/-- One term of the product. -/
abbrev term (i j n : ℕ) : EReal := entry (rows m c) n i * entry (cotangent m c) n j

/-- A tile of the product: what grid point `8 q + k` adds. -/
theorem tile (q k : ℕ) (hq : q < 4) (hk : k < 8) (h : 8 * q + k < cfg0.N) (x : Fin 1024) (y : Fin 2048) :
    ∑ n : Fin 1024, (leftAt m c ⟨8 * q + k, h⟩ (ix2 n x) * rightAt m c ⟨8 * q + k, h⟩ (ix2 n y))
      = ∑ n : Fin 1024, term m c (q * 1024 + x.val) y.val (k * 1024 + n.val) := by
  refine Finset.sum_congr rfl fun n _ => ?_
  rw [left_block m c ⟨8 * q + k, h⟩ (by show 8 * q + k < 32; omega), right_block m c ⟨8 * q + k, h⟩ (by show 8 * q + k < 32; omega)]
  dsimp only
  rw [show (8 * q + k) / 8 = q by omega, show (8 * q + k) % 8 = k by omega]

theorem point_lt {q k : ℕ} (hq : q < 4) (hk : k < 8) : 8 * q + k < cfg0.N := lt_of_lt_of_eq (by omega) N_0.symm

/-- What the call carries after tile `k` is the sum of the tiles up to it. -/
theorem carried (q : ℕ) (hq : q < 4) (x : Fin 1024) (y : Fin 2048) : ∀ k (hk : k < 7),
    ((outsAt0 m c (8 * q + k) (point_lt hq (by omega))).2 (ix2 x y) : EReal)
      = ∑ n ∈ Finset.range ((k + 1) * 1024), term m c (q * 1024 + x.val) y.val n := by
  refine accumulated _ 1024 7 (fun k hk => ((outsAt0 m c (8 * q + k) (point_lt hq (by omega))).2 (ix2 x y) : EReal)) (fun h => ?_) (fun k h h' => ?_)
  · have e := outsAt0_A m c ⟨8 * q + 0, point_lt hq (by omega)⟩ (by dsimp only; omega) (by dsimp only; omega) (by dsimp only; omega)
    refine (congrFun (congrArg Prod.snd e) (ix2 x y)).trans ?_
    dsimp only
    rw [left_first, first_tile, tile m c q 0 hq (by omega)]
    simp only [Nat.zero_mul, Nat.zero_add]
  · have e := outsAt0_B m c ⟨8 * q + (k + 1), point_lt hq (by omega)⟩ (by dsimp only; omega) (by dsimp only; omega) (by dsimp only; omega)
    refine (congrFun (congrArg Prod.snd e) (ix2 x y)).trans ?_
    dsimp only
    rw [left_next, next_tile, tile m c q (k + 1) hq (by omega)]
    rfl

/-- What the call writes of rows `1024 q` to `1024 q + 1023`. -/
theorem written (q : ℕ) (hq : q < 4) (x : Fin 1024) (y : Fin 2048) :
    ((outsAt0 m c (8 * q + 7) (point_lt hq (by omega))).1 (ix2 x y) : EReal)
      = ∑ n ∈ Finset.range 8192, term m c (q * 1024 + x.val) y.val n := by
  have e := outsAt0_C m c ⟨8 * q + 7, point_lt hq (by omega)⟩ (by dsimp only; omega) (by dsimp only; omega) (by dsimp only; omega)
  refine (congrFun (congrArg Prod.fst e) (ix2 x y)).trans ?_
  dsimp only
  rw [left_last, last_tile, tile m c q 7 hq (by omega)]
  refine (congrArg (· + _) (carried m c q hq x y 6 (by omega))).trans ?_
  rw [← Finset.sum_range fun n => term m c (q * 1024 + x.val) y.val (7 * 1024 + n)]
  exact (Finset.sum_range_add _ _ _).symm

/-- The array the call leaves: the product of the transposed rows and the cotangent. -/
theorem array (i : Fin 4096) (j : Fin 2048) : (G2 m c (ix2 i j) : EReal) = ∑ n : Fin 8192, term m c i.val j.val n.val := by
  have hp : pt2Of (ix2 i j) = 8 * (i.val / 1024) + 7 := by
    show 8 * (1 * (i.val / 1024 - 0) + 1 * (j.val / 2048 - 0)) + 7 = _
    omega
  have hl : loc2Of (ix2 i j) = ix2 ⟨i.val % 1024, Nat.mod_lt _ (by decide)⟩ j := by
    funext a
    match a with
    | 0 => rfl
    | 1 => exact Fin.ext (Nat.mod_eq_of_lt j.isLt)
  have hq : i.val / 1024 < 4 := by omega
  have hb := point_lt (k := 7) hq (by omega)
  unfold G2
  rw [dif_pos (lt_of_eq_of_lt hp hb), fold0_congr m c _ _ (8 * (i.val / 1024) + 7) (by omega) hp, ← outsAt0_sweep m c _ hb, hl,
    written m c _ hq, Finset.sum_range]
  dsimp only
  rw [show i.val / 1024 * 1024 + i.val % 1024 = i.val by omega]

end Cert.Kernel7Ideal.BranchWeightGrad

namespace Cert.BranchWeightGrad

open Idealize.ShloMosaic Idealize.ShloMosaic.TcCoe Idealize.ShloMosaic.Tactic Idealize.SL.Sem Cert.Tiles

section reference
open Cert.Reference7Ideal Cert.Reference7Ideal.Facts₀

/-- The entries of the reference's result. -/
theorem reference_entry (h : Vec Ideal S8192x4096 .bf16) (d : Vec Ideal S8192x2048 .bf16) (i : Fin 4096) (j : Fin 2048) :
    (truncf .bf16 (transpose S4096x2048 [1, 0] (Host.dotGeneral (F := Ideal) dot_S8192x2048_S8192x4096_S2048x4096_0_0_1_1_n_n none
      (extf .f32 d bitsLt_bf16_f32) (extf .f32 h bitsLt_bf16_f32)) transposes_S2048x4096_S4096x2048_1_0) bitsLt_bf16_f32
      : FVec Ideal S4096x2048 .bf16) (ix2 i j)
      = (∑ n : Fin 8192, entry (h : S8192x4096.Idx → EReal) n.val i.val * entry (d : S8192x2048.Idx → EReal) n.val j.val : EReal) := by
  pointwise
  refine Finset.sum_congr rfl fun n _ => ?_
  rw [entry_at _ n.isLt i.isLt, entry_at _ n.isLt j.isLt]
  exact mul_comm _ _

end reference

theorem algebraic : Cert.algebraic_Kernel7Ideal_Reference7Ideal (hKernel7Ideal := Cert.Kernel7Ideal.Gen.facts)
    (hReference7Ideal := Cert.Reference7Ideal.Gen.facts) := fun m g m' g' _ hargs => by
  refine ⟨_, Cert.Kernel7Ideal.Value.run (F := Ideal) m g, ?_⟩
  refine (θ_run Cert.Reference7Ideal.defs _ _).mono (fun _ h c => ⟨(h c).1.trans (funext fun y => ?_), (h c).2⟩)
    (Cert.Reference7Ideal.Value.run (F := Ideal) m' g')
  obtain ⟨h0, h1⟩ := hargs c
  rw [h0, h1, ← ix2_eta y]
  exact (reference_entry _ _ (y 0) (y 1)).trans (Cert.Kernel7Ideal.BranchWeightGrad.array m c (y 0) (y 1)).symm

end Cert.BranchWeightGrad

end
-- ==== Proof.BranchProduct.lean ====
module

public import proofs.«01_k».proof.Defs
public import proofs.«01_k».proof.Proof.Tiles
public import proofs.«01_k».proof.Proof.Gen.Kernel8Ideal.Value
public import proofs.«01_k».proof.Proof.Gen.Reference8Ideal.Run
public import Idealize.ShloMosaic.Lib.Claim

/-!
# The product of the state space branch

A grid point `2 q + k` takes half `k` of the product's 4096 terms, for the rows `1024 q` to `1024 q + 1023`.
-/

@[expose] public section

noncomputable section

namespace Cert.Kernel8Ideal.BranchProduct

open Idealize.ShloMosaic Idealize.ShloMosaic.TcCoe Idealize.ShloMosaic.Tactic
open Cert.Kernel8Ideal.Gen Cert.Kernel8Ideal.Value Cert.Tiles

/-! ### What a grid point computes -/

theorem first_half (a : Vec Ideal S1024x2048 .bf16) (b : Vec Ideal S2048x2048 .bf16) (x : Fin 1024) (y : Fin 2048) :
    k0_pay1 a b (ix2 x y) = ∑ k : Fin 2048, (a (ix2 x k) * b (ix2 k y) : EReal) := by
  unfold k0_pay1
  pointwise
  try rw [zero_word, zero_add]

theorem second_half (s : Vec Ideal S1024x2048 .f32) (a : Vec Ideal S1024x2048 .bf16) (b : Vec Ideal S2048x2048 .bf16) (x : Fin 1024) (y : Fin 2048) :
    k0_pay3 s a b (ix2 x y) = (s (ix2 x y) + ∑ k : Fin 2048, (a (ix2 x k) * b (ix2 k y) : EReal) : EReal) := by
  unfold k0_pay3
  pointwise
  try rw [zero_word, zero_add]

section
variable {F : FTy → Type} [FloatOps F] (c : Dev nD) (i : grid0.Coords)
  (arg3 : Memref sig .tc .vmem S1024x2048 .bf16) (harg3 : arg3.IsWhole) (arg4 : Memref sig .tc .vmem S2048x2048 .bf16) (harg4 : arg4.IsWhole)
  (arg5 : Memref sig .tc .vmem S1024x2048 .bf16) (harg5 : arg5.IsWhole) (arg6 : Memref sig .tc .vmem S1024x2048 .f32) (harg6 : arg6.IsWhole)

theorem left_first (hc0 : cond0_0 i) (hc1 : ¬cond0_1 i) (hc2 : ¬cond0_2 i) (a : Vec F S1024x2048 .bf16) (b : Vec F S2048x2048 .bf16) :
    sout0_A_0 c i arg3 harg3 arg4 harg4 arg5 harg5 arg6 harg6 hc0 hc1 hc2 a b = k0_pay1 a b := by
  unfold sout0_A_0
  rw [View.read_writes_eq_canon _ _ _ (scover0_A_0 c i arg3 harg3 arg4 harg4 arg5 harg5 arg6 harg6 hc0 hc1 hc2 a b)]
  unfold kernelRun0_A
  dsimp only
  rw [View.canon_unit_zero at_origin]
  simp only [View.readAt_eq_ld, harg3.read_unread, harg4.read_unread, View.ld_unit_zero (S := S1024x2048) at_origin, View.ld_unit_zero (S := S2048x2048) at_origin]

theorem left_second (hc0 : ¬cond0_0 i) (hc1 : ¬cond0_1 i) (hc2 : cond0_2 i) (a : Vec F S1024x2048 .bf16) (b : Vec F S2048x2048 .bf16)
    (s : Vec F S1024x2048 .f32) :
    out0_B_2 c i arg3 harg3 arg4 harg4 arg5 harg5 arg6 harg6 hc0 hc1 hc2 a b s = k0_pay3 s a b := by
  unfold out0_B_2
  rw [View.read_writes_eq_canon _ _ _ (cover0_B_2 c i arg3 harg3 arg4 harg4 arg5 harg5 arg6 harg6 hc0 hc1 hc2 a b s)]
  unfold kernelRun0_B
  dsimp only
  rw [View.canon_unit_zero at_origin]
  simp only [View.readAt_eq_ld, harg3.read_unread, harg4.read_unread, harg6.read_unread, View.ld_unit_zero (S := S1024x2048) at_origin, View.ld_unit_zero (S := S2048x2048) at_origin]

end

/-! ### The blocks it takes, in their arrays -/

variable (m : (ℓ : Loc nD τ sig) → Buf (Elt Ideal) ℓ) (c : Dev nD)

/-- The rows that go into the product, and its weights. -/
abbrev rows : S8192x4096.Idx → EReal := m ((c.tc : Thread nD τ).loc main_arg0)
abbrev weight : S4096x2048.Idx → EReal := m ((c.tc : Thread nD τ).loc main_arg1)

theorem index_left : ∀ t : Fin grid0.N, win0_0.index t = ![t.val / 2, t.val % 2] := by decide +kernel
theorem index_right : ∀ t : Fin grid0.N, win0_1.index t = ![t.val % 2, 0] := by decide +kernel

/-- The blocks that a grid point takes of the two. -/
abbrev leftAt (t : Fin cfg0.N) : S1024x2048.Idx → EReal := iblk m c 0 t
abbrev rightAt (t : Fin cfg0.N) : S2048x2048.Idx → EReal := iblk m c 1 t

theorem left_block (t : Fin cfg0.N) (ht : t.val < 16) (x : Fin 1024) (k : Fin 2048) :
    leftAt m c t (ix2 x k) = entry (rows m c) (t.val / 2 * 1024 + x.val) (t.val % 2 * 2048 + k.val) := by
  rw [entry_at _ (by omega) (by omega)]
  have hV : V m c main_arg0 = m ((c.tc : Thread nD τ).loc main_arg0) := V_main_arg0 m c
  refine (congrFun hV _).trans (congrArg (rows m c) (funext fun a => Fin.ext ?_))
  refine (win0_0.rect_emb_val t (ix2 x k) a rfl).trans ?_
  rw [index_left t]
  match a with
  | 0 => rfl
  | 1 => rfl

theorem right_block (t : Fin cfg0.N) (ht : t.val < 16) (k y : Fin 2048) :
    rightAt m c t (ix2 k y) = entry (weight m c) (t.val % 2 * 2048 + k.val) y.val := by
  rw [entry_at _ (by omega) y.isLt]
  have hV : V m c main_arg1 = m ((c.tc : Thread nD τ).loc main_arg1) := V_main_arg1 m c
  refine (congrFun hV _).trans (congrArg (weight m c) (funext fun a => Fin.ext ?_))
  refine (win0_1.rect_emb_val t _ a rfl).trans ?_
  rw [index_right t]
  match a with
  | 0 => rfl
  | 1 => show 0 * 2048 + y.val = y.val; omega

/-! ### The two halves, added -/

/-- One term of the product. -/
abbrev term (i j n : ℕ) : EReal := entry (rows m c) i n * entry (weight m c) n j

theorem point_lt {q k : ℕ} (hq : q < 8) (hk : k < 2) : 2 * q + k < cfg0.N := lt_of_lt_of_eq (by omega) N_0.symm

/-- Half of the product: what grid point `2 q + k` adds. -/
theorem half (q k : ℕ) (hq : q < 8) (hk : k < 2) (x : Fin 1024) (y : Fin 2048) :
    ∑ n : Fin 2048, (leftAt m c ⟨2 * q + k, point_lt hq hk⟩ (ix2 x n) * rightAt m c ⟨2 * q + k, point_lt hq hk⟩ (ix2 n y))
      = ∑ n : Fin 2048, term m c (q * 1024 + x.val) y.val (k * 2048 + n.val) := by
  refine Finset.sum_congr rfl fun n _ => ?_
  rw [left_block m c ⟨2 * q + k, point_lt hq hk⟩ (by show 2 * q + k < 16; omega), right_block m c ⟨2 * q + k, point_lt hq hk⟩ (by show 2 * q + k < 16; omega)]
  dsimp only
  rw [show (2 * q + k) / 2 = q by omega, show (2 * q + k) % 2 = k by omega]

/-- What the call carries from the first half. -/
theorem carried (q : ℕ) (hq : q < 8) (x : Fin 1024) (y : Fin 2048) :
    ((outsAt0 m c (2 * q + 0) (point_lt hq (by omega))).2 (ix2 x y) : EReal)
      = ∑ n : Fin 2048, term m c (q * 1024 + x.val) y.val (0 * 2048 + n.val) := by
  have e := outsAt0_A m c ⟨2 * q + 0, point_lt hq (by omega)⟩ (by dsimp only; omega) (by dsimp only; omega)
  refine (congrFun (congrArg Prod.snd e) (ix2 x y)).trans ?_
  dsimp only
  rw [left_first, first_half, half m c q 0 hq (by omega)]

/-- What the call writes of rows `1024 q` to `1024 q + 1023`. -/
theorem written (q : ℕ) (hq : q < 8) (x : Fin 1024) (y : Fin 2048) :
    ((outsAt0 m c (2 * q + 1) (point_lt hq (by omega))).1 (ix2 x y) : EReal)
      = ∑ n ∈ Finset.range 4096, term m c (q * 1024 + x.val) y.val n := by
  have e := outsAt0_B m c ⟨2 * q + 1, point_lt hq (by omega)⟩ (by dsimp only; omega) (by dsimp only; omega)
  refine (congrFun (congrArg Prod.fst e) (ix2 x y)).trans ?_
  dsimp only
  rw [left_second, second_half, half m c q 1 hq (by omega)]
  refine (congrArg (· + _) (carried m c q hq x y)).trans ?_
  simp only [Nat.zero_mul, Nat.zero_add]
  rw [← Finset.sum_range fun n => term m c (q * 1024 + x.val) y.val n, ← Finset.sum_range fun n => term m c (q * 1024 + x.val) y.val (1 * 2048 + n)]
  exact (Finset.sum_range_add _ _ _).symm

/-- The array the call leaves: the product of the rows and the weights. -/
theorem array (i : Fin 8192) (j : Fin 2048) : (G2 m c (ix2 i j) : EReal) = ∑ n : Fin 4096, term m c i.val j.val n.val := by
  have hp : pt2Of (ix2 i j) = 2 * (i.val / 1024) + 1 := by
    show 2 * (1 * (i.val / 1024 - 0) + 1 * (j.val / 2048 - 0)) + 1 = _
    omega
  have hl : loc2Of (ix2 i j) = ix2 ⟨i.val % 1024, Nat.mod_lt _ (by decide)⟩ j := by
    funext a
    match a with
    | 0 => rfl
    | 1 => exact Fin.ext (Nat.mod_eq_of_lt j.isLt)
  have hq : i.val / 1024 < 8 := by omega
  have hb := point_lt (k := 1) hq (by omega)
  unfold G2
  rw [dif_pos (lt_of_eq_of_lt hp hb), fold0_congr m c _ _ (2 * (i.val / 1024) + 1) (by omega) hp, ← outsAt0_sweep m c _ hb, hl,
    written m c _ hq, Finset.sum_range]
  dsimp only
  rw [show i.val / 1024 * 1024 + i.val % 1024 = i.val by omega]

end Cert.Kernel8Ideal.BranchProduct

namespace Cert.BranchProduct

open Idealize.ShloMosaic Idealize.ShloMosaic.TcCoe Idealize.ShloMosaic.Tactic Idealize.SL.Sem Cert.Tiles

section reference
open Cert.Reference8Ideal Cert.Reference8Ideal.Facts₀

/-- The entries of the reference's result. -/
theorem reference_entry (h : Vec Ideal S8192x4096 .bf16) (w : Vec Ideal S4096x2048 .bf16) (i : Fin 8192) (j : Fin 2048) :
    (truncf .bf16 (Host.dotGeneral (F := Ideal) dot_S8192x4096_S4096x2048_S8192x2048_1_0_0_1_n_n none (extf .f32 h bitsLt_bf16_f32)
      (extf .f32 w bitsLt_bf16_f32)) bitsLt_bf16_f32 : FVec Ideal S8192x2048 .bf16) (ix2 i j)
      = (∑ n : Fin 4096, entry (h : S8192x4096.Idx → EReal) i.val n.val * entry (w : S4096x2048.Idx → EReal) n.val j.val : EReal) := by
  pointwise
  refine Finset.sum_congr rfl fun n _ => ?_
  rw [entry_at _ i.isLt n.isLt, entry_at _ n.isLt j.isLt]

end reference

theorem algebraic : Cert.algebraic_Kernel8Ideal_Reference8Ideal (hKernel8Ideal := Cert.Kernel8Ideal.Gen.facts)
    (hReference8Ideal := Cert.Reference8Ideal.Gen.facts) := fun m g m' g' _ hargs => by
  refine ⟨_, Cert.Kernel8Ideal.Value.run (F := Ideal) m g, ?_⟩
  refine (θ_run Cert.Reference8Ideal.defs _ _).mono (fun _ h c => ⟨(h c).1.trans (funext fun y => ?_), (h c).2⟩)
    (Cert.Reference8Ideal.Value.run (F := Ideal) m' g')
  obtain ⟨h0, h1⟩ := hargs c
  rw [h0, h1, ← ix2_eta y]
  exact (reference_entry _ _ (y 0) (y 1)).trans (Cert.Kernel8Ideal.BranchProduct.array m c (y 0) (y 1)).symm

end Cert.BranchProduct

end
-- ==== Proof.OutRowGrad.lean ====
module

public import proofs.«01_k».proof.Defs
public import proofs.«01_k».proof.Proof.Projection
public import proofs.«01_k».proof.Proof.Gen.Kernel9Ideal.Value
public import proofs.«01_k».proof.Proof.Gen.Reference9Ideal.Run
public import Idealize.ShloMosaic.Lib.Claim

/-!
# The gradient of the rows of the output's product

A grid point `q` takes the rows `1024 q` to `1024 q + 1023` of the product of the cotangent and the transposed weights.
-/

@[expose] public section

noncomputable section

namespace Cert.Kernel9Ideal.OutRowGrad

open Idealize.ShloMosaic Idealize.ShloMosaic.TcCoe Idealize.ShloMosaic.Tactic
open Cert.Kernel9Ideal.Gen Cert.Kernel9Ideal.Value Cert.Tiles

/-- What a grid point computes: a tile of the same sizes as one of the wide projection. -/
theorem tile (a : Vec Ideal S1024x2048 .bf16) (b : Vec Ideal S2048x2048 .bf16) (x : Fin 1024) (y : Fin 2048) :
    k0_pay1 a b (ix2 x y) = ∑ k : Fin 2048, (a (ix2 x k) * b (ix2 y k) : EReal) :=
  Cert.Kernel4Ideal.Projection.tile a b x y

theorem left {F : FTy → Type} [FloatOps F] (c : Dev nD) (i : grid0.Coords)
    (arg3 : Memref sig .tc .vmem S1024x2048 .bf16) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S8x128 .f32) (harg6 : arg6.IsWhole)
    (a : Vec F S1024x2048 .bf16) (b : Vec F S2048x2048 .bf16) :
    out0_A_2 c i arg3 harg3 arg4 harg4 arg5 harg5 arg6 harg6 a b = k0_pay1 a b := by
  unfold out0_A_2
  rw [View.read_writes_eq_canon _ _ _ (cover0_A_2 c i arg3 harg3 arg4 harg4 arg5 harg5 arg6 harg6 a b)]
  unfold kernelRun0_A
  dsimp only
  rw [View.canon_unit_zero at_origin]
  simp only [View.readAt_eq_ld, harg3.read_unread, harg4.read_unread, View.ld_unit_zero (S := S1024x2048) at_origin, View.ld_unit_zero (S := S2048x2048) at_origin]

variable (m : (ℓ : Loc nD τ sig) → Buf (Elt Ideal) ℓ) (c : Dev nD)

/-- The weights, and the cotangent of the product. -/
abbrev weight : S2048x2048.Idx → EReal := m ((c.tc : Thread nD τ).loc main_arg0)
abbrev cotangent : S8192x2048.Idx → EReal := m ((c.tc : Thread nD τ).loc main_arg1)

theorem index_left : ∀ t : Fin grid0.N, win0_0.index t = ![t.val, 0] := by decide +kernel
theorem index_right : ∀ t : Fin grid0.N, win0_1.index t = ![0, 0] := by decide +kernel
theorem index_out : ∀ t : Fin grid0.N, win0_2.index t = ![t.val, 0] := by decide +kernel

/-- The blocks that a grid point takes of the two. -/
abbrev leftAt (t : Fin cfg0.N) : S1024x2048.Idx → EReal := iblk m c 0 t
abbrev rightAt (t : Fin cfg0.N) : S2048x2048.Idx → EReal := iblk m c 1 t

theorem left_block (t : Fin cfg0.N) (ht : t.val < 8) (x : Fin 1024) (k : Fin 2048) :
    leftAt m c t (ix2 x k) = entry (cotangent m c) (t.val * 1024 + x.val) k.val := by
  rw [entry_at _ (by omega) k.isLt]
  have hV : V m c main_arg1 = m ((c.tc : Thread nD τ).loc main_arg1) := V_main_arg1 m c
  refine (congrFun hV _).trans (congrArg (cotangent m c) (funext fun a => Fin.ext ?_))
  refine (win0_0.rect_emb_val t (ix2 x k) a rfl).trans ?_
  rw [index_left t]
  match a with
  | 0 => rfl
  | 1 => show 0 * 2048 + k.val = k.val; omega

theorem right_block (t : Fin cfg0.N) (ht : t.val < 8) (y k : Fin 2048) :
    rightAt m c t (ix2 y k) = entry (weight m c) y.val k.val := by
  rw [entry_at _ (by omega) k.isLt]
  have hV : V m c main_arg0 = m ((c.tc : Thread nD τ).loc main_arg0) := V_main_arg0 m c
  refine (congrFun hV _).trans (congrArg (weight m c) (funext fun a => Fin.ext ?_))
  refine (win0_1.rect_emb_val t _ a rfl).trans ?_
  rw [index_right t]
  match a with
  | 0 => show 0 * 2048 + y.val = y.val; omega
  | 1 => show 0 * 2048 + k.val = k.val; omega

/-- The array the call leaves: the product of the cotangent and the transposed weights. -/
theorem array (i : Fin 8192) (j : Fin 2048) :
    ((dats m 0 c).arrAt 2 cfg0.N : S8192x2048.Idx → EReal) (ix2 i j) = ∑ n : Fin 2048, entry (cotangent m c) i.val n.val * entry (weight m c) j.val n.val := by
  have ht : i.val / 1024 < 8 := by omega
  have hN : i.val / 1024 < cfg0.N := lt_of_lt_of_eq ht N_0.symm
  have e := congrFun (blocks2 m c ⟨_, hN⟩ (flush0_2 _)) (ix2 ⟨i.val % 1024, Nat.mod_lt _ (by decide)⟩ j)
  rw [flushed2_A m c ⟨_, hN⟩, left] at e
  have hx : (win0_2.rect ⟨_, hN⟩).emb (ix2 ⟨i.val % 1024, Nat.mod_lt _ (by decide)⟩ j) = ix2 i j := by
    refine funext fun a => Fin.ext ((win0_2.rect_emb_val ⟨_, hN⟩ _ a rfl).trans ?_)
    rw [index_out ⟨_, hN⟩]
    match a with
    | 0 => show i.val / 1024 * 1024 + i.val % 1024 = i.val; omega
    | 1 => show 0 * 2048 + j.val = j.val; omega
  refine (congrArg ((dats m 0 c).arrAt 2 cfg0.N : S8192x2048.Idx → EReal) hx.symm).trans (e.trans ?_)
  refine (tile (leftAt m c ⟨_, hN⟩) (rightAt m c ⟨_, hN⟩) _ _).trans (Finset.sum_congr rfl fun n _ => ?_)
  refine (congrArg₂ (· * ·) (left_block m c ⟨_, hN⟩ ht _ n) (right_block m c ⟨_, hN⟩ ht _ n)).trans ?_
  dsimp only
  rw [show i.val / 1024 * 1024 + i.val % 1024 = i.val by omega]

end Cert.Kernel9Ideal.OutRowGrad

namespace Cert.OutRowGrad

open Idealize.ShloMosaic Idealize.ShloMosaic.TcCoe Idealize.ShloMosaic.Tactic Idealize.SL.Sem Cert.Tiles

section reference
open Cert.Reference9Ideal Cert.Reference9Ideal.Facts₀

/-- The entries of the reference's result. -/
theorem reference_entry (w : Vec Ideal S2048x2048 .bf16) (d : Vec Ideal S8192x2048 .bf16) (i : Fin 8192) (j : Fin 2048) :
    (truncf .bf16 (Host.dotGeneral (F := Ideal) dot_S8192x2048_S2048x2048_S8192x2048_1_1_0_0_n_n none (extf .f32 d bitsLt_bf16_f32)
      (extf .f32 w bitsLt_bf16_f32)) bitsLt_bf16_f32 : FVec Ideal S8192x2048 .bf16) (ix2 i j)
      = (∑ n : Fin 2048, entry (d : S8192x2048.Idx → EReal) i.val n.val * entry (w : S2048x2048.Idx → EReal) j.val n.val : EReal) := by
  pointwise
  refine Finset.sum_congr rfl fun n _ => ?_
  rw [entry_at _ i.isLt n.isLt, entry_at _ j.isLt n.isLt]

end reference

theorem algebraic : Cert.algebraic_Kernel9Ideal_Reference9Ideal (hKernel9Ideal := Cert.Kernel9Ideal.Gen.facts)
    (hReference9Ideal := Cert.Reference9Ideal.Gen.facts) := fun m g m' g' _ hargs => by
  refine ⟨_, Cert.Kernel9Ideal.Value.run_blocks (F := Ideal) m g, ?_⟩
  refine (θ_run Cert.Reference9Ideal.defs _ _).mono (fun _ h c => ⟨(h c).1.trans (funext fun y => ?_), (h c).2⟩)
    (Cert.Reference9Ideal.Value.run (F := Ideal) m' g')
  obtain ⟨h0, h1⟩ := hargs c
  rw [h0, h1, ← ix2_eta y]
  exact (reference_entry _ _ (y 0) (y 1)).trans (Cert.Kernel9Ideal.OutRowGrad.array m c (y 0) (y 1)).symm

end Cert.OutRowGrad

end
-- ==== Proof.OutWeightGrad.lean ====
module

public import proofs.«01_k».proof.Defs
public import proofs.«01_k».proof.Proof.WeightGrad
public import proofs.«01_k».proof.Proof.Gen.Kernel10Ideal.Value
public import proofs.«01_k».proof.Proof.Gen.Reference10Ideal.Run
public import Idealize.ShloMosaic.Lib.Claim

/-!
# The gradient of the output's weights

The product of the transposed rows and the cotangent.  A grid point `8 q + k` takes tile `k` of its 8 tiles of 1024 terms, for
the rows `1024 q` to `1024 q + 1023` of the weights.
-/

@[expose] public section

noncomputable section

namespace Cert.Kernel10Ideal.OutWeightGrad

open Idealize.ShloMosaic Idealize.ShloMosaic.TcCoe Idealize.ShloMosaic.Tactic
open Cert.Kernel10Ideal.Gen Cert.Kernel10Ideal.Value Cert.Tiles

/-! ### What a grid point computes -/

theorem first_tile (a : Vec Ideal S1024x1024 .bf16) (b : Vec Ideal S1024x2048 .bf16) (x : Fin 1024) (y : Fin 2048) :
    k0_pay1 a b (ix2 x y) = ∑ k : Fin 1024, (a (ix2 k x) * b (ix2 k y) : EReal) := Cert.Kernel3Ideal.WeightGrad.first_tile a b x y

theorem next_tile (s : Vec Ideal S1024x2048 .f32) (a : Vec Ideal S1024x1024 .bf16) (b : Vec Ideal S1024x2048 .bf16) (x : Fin 1024) (y : Fin 2048) :
    k0_pay2 s a b (ix2 x y) = (s (ix2 x y) + ∑ k : Fin 1024, (a (ix2 k x) * b (ix2 k y) : EReal) : EReal) :=
  Cert.Kernel3Ideal.WeightGrad.next_tile s a b x y

theorem last_tile (s : Vec Ideal S1024x2048 .f32) (a : Vec Ideal S1024x1024 .bf16) (b : Vec Ideal S1024x2048 .bf16) (x : Fin 1024) (y : Fin 2048) :
    k0_pay3 s a b (ix2 x y) = (s (ix2 x y) + ∑ k : Fin 1024, (a (ix2 k x) * b (ix2 k y) : EReal) : EReal) :=
  Cert.Kernel3Ideal.WeightGrad.last_tile s a b x y

section
variable {F : FTy → Type} [FloatOps F] (c : Dev nD) (i : grid0.Coords)
  (arg3 : Memref sig .tc .vmem S1024x1024 .bf16) (harg3 : arg3.IsWhole) (arg4 : Memref sig .tc .vmem S1024x2048 .bf16) (harg4 : arg4.IsWhole)
  (arg5 : Memref sig .tc .vmem S1024x2048 .bf16) (harg5 : arg5.IsWhole) (arg6 : Memref sig .tc .vmem S1024x2048 .f32) (harg6 : arg6.IsWhole)

theorem left_first (hc0 : cond0_0 i) (hc1 : ¬cond0_1 i) (hc2 : ¬cond0_2 i) (a : Vec F S1024x1024 .bf16) (b : Vec F S1024x2048 .bf16) :
    sout0_A_0 c i arg3 harg3 arg4 harg4 arg5 harg5 arg6 harg6 hc0 hc1 hc2 a b = k0_pay1 a b := by
  unfold sout0_A_0
  rw [View.read_writes_eq_canon _ _ _ (scover0_A_0 c i arg3 harg3 arg4 harg4 arg5 harg5 arg6 harg6 hc0 hc1 hc2 a b)]
  unfold kernelRun0_A
  dsimp only
  rw [View.canon_unit_zero at_origin]
  simp only [View.readAt_eq_ld, harg3.read_unread, harg4.read_unread, View.ld_unit_zero (S := S1024x1024) at_origin, View.ld_unit_zero (S := S1024x2048) at_origin]

theorem left_next (hc0 : ¬cond0_0 i) (hc1 : cond0_1 i) (hc2 : ¬cond0_2 i) (a : Vec F S1024x1024 .bf16) (b : Vec F S1024x2048 .bf16)
    (s : Vec F S1024x2048 .f32) :
    sout0_B_0 c i arg3 harg3 arg4 harg4 arg5 harg5 arg6 harg6 hc0 hc1 hc2 a b s = k0_pay2 s a b := by
  unfold sout0_B_0
  rw [View.read_writes_eq_canon _ _ _ (scover0_B_0 c i arg3 harg3 arg4 harg4 arg5 harg5 arg6 harg6 hc0 hc1 hc2 a b s)]
  unfold kernelRun0_B
  dsimp only
  rw [View.canon_unit_zero at_origin]
  simp only [View.readAt_eq_ld, harg3.read_unread, harg4.read_unread, harg6.read_unread, View.ld_unit_zero (S := S1024x1024) at_origin, View.ld_unit_zero (S := S1024x2048) at_origin]

theorem left_last (hc0 : ¬cond0_0 i) (hc1 : ¬cond0_1 i) (hc2 : cond0_2 i) (a : Vec F S1024x1024 .bf16) (b : Vec F S1024x2048 .bf16)
    (s : Vec F S1024x2048 .f32) :
    out0_C_2 c i arg3 harg3 arg4 harg4 arg5 harg5 arg6 harg6 hc0 hc1 hc2 a b s = k0_pay3 s a b := by
  unfold out0_C_2
  rw [View.read_writes_eq_canon _ _ _ (cover0_C_2 c i arg3 harg3 arg4 harg4 arg5 harg5 arg6 harg6 hc0 hc1 hc2 a b s)]
  unfold kernelRun0_C
  dsimp only
  rw [View.canon_unit_zero at_origin]
  simp only [View.readAt_eq_ld, harg3.read_unread, harg4.read_unread, harg6.read_unread, View.ld_unit_zero (S := S1024x1024) at_origin, View.ld_unit_zero (S := S1024x2048) at_origin]

end

/-! ### The blocks it takes, in their arrays -/

variable (m : (ℓ : Loc nD τ sig) → Buf (Elt Ideal) ℓ) (c : Dev nD)

/-- The rows that go into the product, and the cotangent of its result. -/
abbrev rows : S8192x2048.Idx → EReal := m ((c.tc : Thread nD τ).loc main_arg0)
abbrev cotangent : S8192x2048.Idx → EReal := m ((c.tc : Thread nD τ).loc main_arg1)

theorem index_left : ∀ t : Fin grid0.N, win0_0.index t = ![t.val % 8, t.val / 8] := by decide +kernel
theorem index_right : ∀ t : Fin grid0.N, win0_1.index t = ![t.val % 8, 0] := by decide +kernel

/-- The blocks that a grid point takes of the two. -/
abbrev leftAt (t : Fin cfg0.N) : S1024x1024.Idx → EReal := iblk m c 0 t
abbrev rightAt (t : Fin cfg0.N) : S1024x2048.Idx → EReal := iblk m c 1 t

theorem left_block (t : Fin cfg0.N) (ht : t.val < 16) (k x : Fin 1024) :
    leftAt m c t (ix2 k x) = entry (rows m c) (t.val % 8 * 1024 + k.val) (t.val / 8 * 1024 + x.val) := by
  rw [entry_at _ (by omega) (by omega)]
  have hV : V m c main_arg0 = m ((c.tc : Thread nD τ).loc main_arg0) := V_main_arg0 m c
  refine (congrFun hV _).trans (congrArg (rows m c) (funext fun a => Fin.ext ?_))
  refine (win0_0.rect_emb_val t (ix2 k x) a rfl).trans ?_
  rw [index_left t]
  match a with
  | 0 => rfl
  | 1 => rfl

theorem right_block (t : Fin cfg0.N) (ht : t.val < 16) (k : Fin 1024) (y : Fin 2048) :
    rightAt m c t (ix2 k y) = entry (cotangent m c) (t.val % 8 * 1024 + k.val) y.val := by
  rw [entry_at _ (by omega) y.isLt]
  have hV : V m c main_arg1 = m ((c.tc : Thread nD τ).loc main_arg1) := V_main_arg1 m c
  refine (congrFun hV _).trans (congrArg (cotangent m c) (funext fun a => Fin.ext ?_))
  refine (win0_1.rect_emb_val t _ a rfl).trans ?_
  rw [index_right t]
  match a with
  | 0 => rfl
  | 1 => show 0 * 2048 + y.val = y.val; omega

/-! ### The tiles, added -/

/-- One term of the product. -/
abbrev term (i j n : ℕ) : EReal := entry (rows m c) n i * entry (cotangent m c) n j

/-- A tile of the product: what grid point `8 q + k` adds. -/
theorem tile (q k : ℕ) (hq : q < 2) (hk : k < 8) (h : 8 * q + k < cfg0.N) (x : Fin 1024) (y : Fin 2048) :
    ∑ n : Fin 1024, (leftAt m c ⟨8 * q + k, h⟩ (ix2 n x) * rightAt m c ⟨8 * q + k, h⟩ (ix2 n y))
      = ∑ n : Fin 1024, term m c (q * 1024 + x.val) y.val (k * 1024 + n.val) := by
  refine Finset.sum_congr rfl fun n _ => ?_
  rw [left_block m c ⟨8 * q + k, h⟩ (by show 8 * q + k < 16; omega), right_block m c ⟨8 * q + k, h⟩ (by show 8 * q + k < 16; omega)]
  dsimp only
  rw [show (8 * q + k) / 8 = q by omega, show (8 * q + k) % 8 = k by omega]

theorem point_lt {q k : ℕ} (hq : q < 2) (hk : k < 8) : 8 * q + k < cfg0.N := lt_of_lt_of_eq (by omega) N_0.symm

/-- What the call carries after tile `k` is the sum of the tiles up to it. -/
theorem carried (q : ℕ) (hq : q < 2) (x : Fin 1024) (y : Fin 2048) : ∀ k (hk : k < 7),
    ((outsAt0 m c (8 * q + k) (point_lt hq (by omega))).2 (ix2 x y) : EReal)
      = ∑ n ∈ Finset.range ((k + 1) * 1024), term m c (q * 1024 + x.val) y.val n := by
  refine accumulated _ 1024 7 (fun k hk => ((outsAt0 m c (8 * q + k) (point_lt hq (by omega))).2 (ix2 x y) : EReal)) (fun h => ?_) (fun k h h' => ?_)
  · have e := outsAt0_A m c ⟨8 * q + 0, point_lt hq (by omega)⟩ (by dsimp only; omega) (by dsimp only; omega) (by dsimp only; omega)
    refine (congrFun (congrArg Prod.snd e) (ix2 x y)).trans ?_
    dsimp only
    rw [left_first, first_tile, tile m c q 0 hq (by omega)]
    simp only [Nat.zero_mul, Nat.zero_add]
  · have e := outsAt0_B m c ⟨8 * q + (k + 1), point_lt hq (by omega)⟩ (by dsimp only; omega) (by dsimp only; omega) (by dsimp only; omega)
    refine (congrFun (congrArg Prod.snd e) (ix2 x y)).trans ?_
    dsimp only
    rw [left_next, next_tile, tile m c q (k + 1) hq (by omega)]
    rfl

/-- What the call writes of rows `1024 q` to `1024 q + 1023`. -/
theorem written (q : ℕ) (hq : q < 2) (x : Fin 1024) (y : Fin 2048) :
    ((outsAt0 m c (8 * q + 7) (point_lt hq (by omega))).1 (ix2 x y) : EReal)
      = ∑ n ∈ Finset.range 8192, term m c (q * 1024 + x.val) y.val n := by
  have e := outsAt0_C m c ⟨8 * q + 7, point_lt hq (by omega)⟩ (by dsimp only; omega) (by dsimp only; omega) (by dsimp only; omega)
  refine (congrFun (congrArg Prod.fst e) (ix2 x y)).trans ?_
  dsimp only
  rw [left_last, last_tile, tile m c q 7 hq (by omega)]
  refine (congrArg (· + _) (carried m c q hq x y 6 (by omega))).trans ?_
  rw [← Finset.sum_range fun n => term m c (q * 1024 + x.val) y.val (7 * 1024 + n)]
  exact (Finset.sum_range_add _ _ _).symm

/-- The array the call leaves: the product of the transposed rows and the cotangent. -/
theorem array (i : Fin 2048) (j : Fin 2048) : (G2 m c (ix2 i j) : EReal) = ∑ n : Fin 8192, term m c i.val j.val n.val := by
  have hp : pt2Of (ix2 i j) = 8 * (i.val / 1024) + 7 := by
    show 8 * (1 * (i.val / 1024 - 0) + 1 * (j.val / 2048 - 0)) + 7 = _
    omega
  have hl : loc2Of (ix2 i j) = ix2 ⟨i.val % 1024, Nat.mod_lt _ (by decide)⟩ j := by
    funext a
    match a with
    | 0 => rfl
    | 1 => exact Fin.ext (Nat.mod_eq_of_lt j.isLt)
  have hq : i.val / 1024 < 2 := by omega
  have hb := point_lt (k := 7) hq (by omega)
  unfold G2
  rw [dif_pos (lt_of_eq_of_lt hp hb), fold0_congr m c _ _ (8 * (i.val / 1024) + 7) (by omega) hp, ← outsAt0_sweep m c _ hb, hl,
    written m c _ hq, Finset.sum_range]
  dsimp only
  rw [show i.val / 1024 * 1024 + i.val % 1024 = i.val by omega]

end Cert.Kernel10Ideal.OutWeightGrad

namespace Cert.OutWeightGrad

open Idealize.ShloMosaic Idealize.ShloMosaic.TcCoe Idealize.ShloMosaic.Tactic Idealize.SL.Sem Cert.Tiles

section reference
open Cert.Reference10Ideal Cert.Reference10Ideal.Facts₀

/-- The entries of the reference's result. -/
theorem reference_entry (h : Vec Ideal S8192x2048 .bf16) (d : Vec Ideal S8192x2048 .bf16) (i : Fin 2048) (j : Fin 2048) :
    (truncf .bf16 (transpose S2048x2048 [1, 0] (Host.dotGeneral (F := Ideal) dot_S8192x2048_S8192x2048_S2048x2048_0_0_1_1_n_n none
      (extf .f32 d bitsLt_bf16_f32) (extf .f32 h bitsLt_bf16_f32)) transposes_S2048x2048_S2048x2048_1_0) bitsLt_bf16_f32
      : FVec Ideal S2048x2048 .bf16) (ix2 i j)
      = (∑ n : Fin 8192, entry (h : S8192x2048.Idx → EReal) n.val i.val * entry (d : S8192x2048.Idx → EReal) n.val j.val : EReal) := by
  pointwise
  refine Finset.sum_congr rfl fun n _ => ?_
  rw [entry_at _ n.isLt i.isLt, entry_at _ n.isLt j.isLt]
  exact mul_comm _ _

end reference

theorem algebraic : Cert.algebraic_Kernel10Ideal_Reference10Ideal (hKernel10Ideal := Cert.Kernel10Ideal.Gen.facts)
    (hReference10Ideal := Cert.Reference10Ideal.Gen.facts) := fun m g m' g' _ hargs => by
  refine ⟨_, Cert.Kernel10Ideal.Value.run (F := Ideal) m g, ?_⟩
  refine (θ_run Cert.Reference10Ideal.defs _ _).mono (fun _ h c => ⟨(h c).1.trans (funext fun y => ?_), (h c).2⟩)
    (Cert.Reference10Ideal.Value.run (F := Ideal) m' g')
  obtain ⟨h0, h1⟩ := hargs c
  rw [h0, h1, ← ix2_eta y]
  exact (reference_entry _ _ (y 0) (y 1)).trans (Cert.Kernel10Ideal.OutWeightGrad.array m c (y 0) (y 1)).symm

end Cert.OutWeightGrad

end
-- ==== Proof.AttnProduct.lean ====
module

public import proofs.«01_k».proof.Defs
public import proofs.«01_k».proof.Proof.Tiles
public import proofs.«01_k».proof.Proof.Gen.Kernel11Ideal.Value
public import proofs.«01_k».proof.Proof.Gen.Reference11Ideal.Run
public import Idealize.ShloMosaic.Lib.Claim

/-!
# The product of the attention's branch

A grid point `q` takes the rows `1024 q` to `1024 q + 1023` of the product of the rows and the weights.
-/

@[expose] public section

noncomputable section

namespace Cert.Kernel11Ideal.AttnProduct

open Idealize.ShloMosaic Idealize.ShloMosaic.TcCoe Idealize.ShloMosaic.Tactic
open Cert.Kernel11Ideal.Gen Cert.Kernel11Ideal.Value Cert.Tiles

/-- What a grid point computes. -/
theorem tile (a : Vec Ideal S1024x2048 .bf16) (b : Vec Ideal S2048x2048 .bf16) (x : Fin 1024) (y : Fin 2048) :
    k0_pay1 a b (ix2 x y) = ∑ k : Fin 2048, (a (ix2 x k) * b (ix2 k y) : EReal) := by
  unfold k0_pay1
  pointwise
  try rw [zero_word, zero_add]

theorem left {F : FTy → Type} [FloatOps F] (c : Dev nD) (i : grid0.Coords)
    (arg3 : Memref sig .tc .vmem S1024x2048 .bf16) (harg3 : arg3.IsWhole) (arg4 : Memref sig .tc .vmem S2048x2048 .bf16) (harg4 : arg4.IsWhole)
    (arg5 : Memref sig .tc .vmem S1024x2048 .bf16) (harg5 : arg5.IsWhole) (arg6 : Memref sig .tc .vmem S8x128 .f32) (harg6 : arg6.IsWhole)
    (a : Vec F S1024x2048 .bf16) (b : Vec F S2048x2048 .bf16) :
    out0_A_2 c i arg3 harg3 arg4 harg4 arg5 harg5 arg6 harg6 a b = k0_pay1 a b := by
  unfold out0_A_2
  rw [View.read_writes_eq_canon _ _ _ (cover0_A_2 c i arg3 harg3 arg4 harg4 arg5 harg5 arg6 harg6 a b)]
  unfold kernelRun0_A
  dsimp only
  rw [View.canon_unit_zero at_origin]
  simp only [View.readAt_eq_ld, harg3.read_unread, harg4.read_unread, View.ld_unit_zero (S := S1024x2048) at_origin, View.ld_unit_zero (S := S2048x2048) at_origin]

variable (m : (ℓ : Loc nD τ sig) → Buf (Elt Ideal) ℓ) (c : Dev nD)

/-- The rows that go into the product, and its weights. -/
abbrev rows : S8192x2048.Idx → EReal := m ((c.tc : Thread nD τ).loc main_arg0)
abbrev weight : S2048x2048.Idx → EReal := m ((c.tc : Thread nD τ).loc main_arg1)

theorem index_left : ∀ t : Fin grid0.N, win0_0.index t = ![t.val, 0] := by decide +kernel
theorem index_right : ∀ t : Fin grid0.N, win0_1.index t = ![0, 0] := by decide +kernel
theorem index_out : ∀ t : Fin grid0.N, win0_2.index t = ![t.val, 0] := by decide +kernel

/-- The blocks that a grid point takes of the two. -/
abbrev leftAt (t : Fin cfg0.N) : S1024x2048.Idx → EReal := iblk m c 0 t
abbrev rightAt (t : Fin cfg0.N) : S2048x2048.Idx → EReal := iblk m c 1 t

theorem left_block (t : Fin cfg0.N) (ht : t.val < 8) (x : Fin 1024) (k : Fin 2048) :
    leftAt m c t (ix2 x k) = entry (rows m c) (t.val * 1024 + x.val) k.val := by
  rw [entry_at _ (by omega) k.isLt]
  have hV : V m c main_arg0 = m ((c.tc : Thread nD τ).loc main_arg0) := V_main_arg0 m c
  refine (congrFun hV _).trans (congrArg (rows m c) (funext fun a => Fin.ext ?_))
  refine (win0_0.rect_emb_val t (ix2 x k) a rfl).trans ?_
  rw [index_left t]
  match a with
  | 0 => rfl
  | 1 => show 0 * 2048 + k.val = k.val; omega

theorem right_block (t : Fin cfg0.N) (ht : t.val < 8) (k y : Fin 2048) :
    rightAt m c t (ix2 k y) = entry (weight m c) k.val y.val := by
  rw [entry_at _ (by omega) y.isLt]
  have hV : V m c main_arg1 = m ((c.tc : Thread nD τ).loc main_arg1) := V_main_arg1 m c
  refine (congrFun hV _).trans (congrArg (weight m c) (funext fun a => Fin.ext ?_))
  refine (win0_1.rect_emb_val t _ a rfl).trans ?_
  rw [index_right t]
  match a with
  | 0 => show 0 * 2048 + k.val = k.val; omega
  | 1 => show 0 * 2048 + y.val = y.val; omega

/-- The array the call leaves: the product of the rows and the weights. -/
theorem array (i : Fin 8192) (j : Fin 2048) :
    ((dats m 0 c).arrAt 2 cfg0.N : S8192x2048.Idx → EReal) (ix2 i j) = ∑ n : Fin 2048, entry (rows m c) i.val n.val * entry (weight m c) n.val j.val := by
  have ht : i.val / 1024 < 8 := by omega
  have hN : i.val / 1024 < cfg0.N := lt_of_lt_of_eq ht N_0.symm
  have e := congrFun (blocks2 m c ⟨_, hN⟩ (flush0_2 _)) (ix2 ⟨i.val % 1024, Nat.mod_lt _ (by decide)⟩ j)
  rw [flushed2_A m c ⟨_, hN⟩, left] at e
  have hx : (win0_2.rect ⟨_, hN⟩).emb (ix2 ⟨i.val % 1024, Nat.mod_lt _ (by decide)⟩ j) = ix2 i j := by
    refine funext fun a => Fin.ext ((win0_2.rect_emb_val ⟨_, hN⟩ _ a rfl).trans ?_)
    rw [index_out ⟨_, hN⟩]
    match a with
    | 0 => show i.val / 1024 * 1024 + i.val % 1024 = i.val; omega
    | 1 => show 0 * 2048 + j.val = j.val; omega
  refine (congrArg ((dats m 0 c).arrAt 2 cfg0.N : S8192x2048.Idx → EReal) hx.symm).trans (e.trans ?_)
  refine (tile (leftAt m c ⟨_, hN⟩) (rightAt m c ⟨_, hN⟩) _ _).trans (Finset.sum_congr rfl fun n _ => ?_)
  refine (congrArg₂ (· * ·) (left_block m c ⟨_, hN⟩ ht _ n) (right_block m c ⟨_, hN⟩ ht n _)).trans ?_
  dsimp only
  rw [show i.val / 1024 * 1024 + i.val % 1024 = i.val by omega]

end Cert.Kernel11Ideal.AttnProduct

namespace Cert.AttnProduct

open Idealize.ShloMosaic Idealize.ShloMosaic.TcCoe Idealize.ShloMosaic.Tactic Idealize.SL.Sem Cert.Tiles

section reference
open Cert.Reference11Ideal Cert.Reference11Ideal.Facts₀

/-- The entries of the reference's result. -/
theorem reference_entry (h : Vec Ideal S8192x2048 .bf16) (w : Vec Ideal S2048x2048 .bf16) (i : Fin 8192) (j : Fin 2048) :
    (truncf .bf16 (Host.dotGeneral (F := Ideal) dot_S8192x2048_S2048x2048_S8192x2048_1_0_0_1_n_n none (extf .f32 h bitsLt_bf16_f32)
      (extf .f32 w bitsLt_bf16_f32)) bitsLt_bf16_f32 : FVec Ideal S8192x2048 .bf16) (ix2 i j)
      = (∑ n : Fin 2048, entry (h : S8192x2048.Idx → EReal) i.val n.val * entry (w : S2048x2048.Idx → EReal) n.val j.val : EReal) := by
  pointwise
  refine Finset.sum_congr rfl fun n _ => ?_
  rw [entry_at _ i.isLt n.isLt, entry_at _ n.isLt j.isLt]

end reference

theorem algebraic : Cert.algebraic_Kernel11Ideal_Reference11Ideal (hKernel11Ideal := Cert.Kernel11Ideal.Gen.facts)
    (hReference11Ideal := Cert.Reference11Ideal.Gen.facts) := fun m g m' g' _ hargs => by
  refine ⟨_, Cert.Kernel11Ideal.Value.run_blocks (F := Ideal) m g, ?_⟩
  refine (θ_run Cert.Reference11Ideal.defs _ _).mono (fun _ h c => ⟨(h c).1.trans (funext fun y => ?_), (h c).2⟩)
    (Cert.Reference11Ideal.Value.run (F := Ideal) m' g')
  obtain ⟨h0, h1⟩ := hargs c
  rw [h0, h1, ← ix2_eta y]
  exact (reference_entry _ _ (y 0) (y 1)).trans (Cert.Kernel11Ideal.AttnProduct.array m c (y 0) (y 1)).symm

end Cert.AttnProduct

end
-- ==== Proof.NormMath.lean ====
module

public import Idealize.ShloMosaic.Lib.Pointwise

/-!
# The gradient of a norm, for one row of extended reals

A row whose squares have an infinite sum has the factor zero on both sides. In any other row all entries are real, and so is
the factor.
-/

@[expose] public section

noncomputable section

namespace Cert.NormMath

open Idealize.ShloMosaic Finset

theorem width_word : Ideal.ofBits .f32 0x45000000#32 = ((2048 : ℝ) : EReal) := by
  simp [Ideal.ofBits, Ideal.ieee, -EReal.coe_mul]
  norm_num

theorem minus_half_word : Ideal.ofBits .f32 0xBF000000#32 = ((-1 / 2 : ℝ) : EReal) := by
  simp [Ideal.ofBits, Ideal.ieee, -EReal.coe_mul]
  norm_num

theorem small_word : ∃ e : ℝ, 0 < e ∧ Ideal.ofBits .f32 0x358637BD#32 = (e : EReal) := by
  refine ⟨_, ?_, by simp [Ideal.ofBits, Ideal.ieee, -EReal.coe_mul]; rfl⟩
  norm_num

theorem div_width (s : EReal) : Ideal.div s (Ideal.ofBits .f32 0x45000000#32) = s * ((1 / 2048 : ℝ) : EReal) := by
  rw [width_word, Ideal.div, if_neg (by norm_num), ← EReal.coe_inv]
  norm_num

/-- The mean square of a row, with the small constant. -/
abbrev meanSq {n : ℕ} (x : Fin n → EReal) : EReal :=
  Ideal.div (∑ k, x k * x k) (Ideal.ofBits .f32 0x45000000#32) + Ideal.ofBits .f32 0x358637BD#32

/-- A row's factor. -/
abbrev factor {n : ℕ} (x : Fin n → EReal) : EReal := Ideal.rsqrt (meanSq x)

theorem square_nonneg (x : EReal) : 0 ≤ x * x := by
  induction x using EReal.rec with
  | bot => simp
  | top => simp
  | coe r => exact_mod_cast mul_self_nonneg r

/-- Either the squares' sum is infinite, or all entries are real. -/
theorem top_or_real {n : ℕ} (x : Fin n → EReal) : ∑ k, x k * x k = ⊤ ∨ ∃ r : Fin n → ℝ, x = fun k => (r k : EReal) := by
  by_cases h : ∀ k, x k * x k ≠ ⊤
  · refine .inr ⟨fun k => (x k).toReal, funext fun k => (EReal.coe_toReal ?_ ?_).symm⟩
    · intro e; exact h k (by rw [e]; simp)
    · intro e; exact h k (by rw [e]; simp)
  · left
    push Not at h
    obtain ⟨k, hk⟩ := h
    exact top_le_iff.mp (hk ▸ single_le_sum (f := fun k => x k * x k) (fun k _ => square_nonneg (x k)) (mem_univ k))

theorem sum_scaled {n : ℕ} (f : Fin n → EReal) {r : ℝ} (hr : 0 ≤ r) : ∑ k, f k * (r : EReal) = (∑ k, f k) * (r : EReal) := by
  induction n with
  | zero => simp
  | succ n ih =>
    rw [Fin.sum_univ_succ, Fin.sum_univ_succ, ih,
      EReal.right_distrib_of_nonneg_of_ne_top (by exact_mod_cast hr) (EReal.coe_ne_top r)]

theorem twice (s : EReal) (r : ℝ) : s * (r : EReal) + s * (r : EReal) = s * ((2 * r : ℝ) : EReal) := by
  induction s using EReal.rec with
  | coe s => norm_cast; ring
  | top =>
    rcases lt_trichotomy r 0 with h | h | h
    · rw [EReal.top_mul_coe_of_neg h, EReal.top_mul_coe_of_neg (by linarith)]; rfl
    · simp [h]
    · rw [EReal.top_mul_coe_of_pos h, EReal.top_mul_coe_of_pos (by linarith)]; rfl
  | bot =>
    rcases lt_trichotomy r 0 with h | h | h
    · rw [EReal.bot_mul_coe_of_neg h, EReal.bot_mul_coe_of_neg (by linarith)]; rfl
    · simp [h]
    · rw [EReal.bot_mul_coe_of_pos h, EReal.bot_mul_coe_of_pos (by linarith)]; rfl

/-- The gradient that the kernel's formula gives at place `j` of a row, and the one by the chain rule. -/
theorem row {n : ℕ} (x g : Fin n → EReal) (o : EReal) (j : Fin n) :
    o + factor x * (g j - x j * factor x * Ideal.div (∑ k, g k * (x k * factor x)) (Ideal.ofBits .f32 0x45000000#32))
      = o + g j * factor x
        + x j * Ideal.div ((∑ k, x k * g k) * (Ideal.ofBits .f32 0xBF000000#32 * Ideal.div (factor x) (meanSq x))) (Ideal.ofBits .f32 0x45000000#32)
        + Ideal.div ((∑ k, x k * g k) * (Ideal.ofBits .f32 0xBF000000#32 * Ideal.div (factor x) (meanSq x))) (Ideal.ofBits .f32 0x45000000#32) * x j := by
  obtain ⟨e, he, hw⟩ := small_word
  rcases top_or_real x with h | ⟨r, rfl⟩
  · have hm : meanSq x = ⊤ := by
      rw [meanSq, h, div_width, hw, EReal.top_mul_coe_of_pos (by norm_num)]; rfl
    have hf : factor x = 0 := by rw [factor, hm]; rfl
    rw [hf, hm]
    simp only [div_width]
    simp [Ideal.div]
  · have hs : ∑ k, (r k : EReal) * (r k : EReal) = ((∑ k, r k * r k : ℝ) : EReal) := by
      clear j g
      induction n with
      | zero => rfl
      | succ n ih => rw [Fin.sum_univ_succ, Fin.sum_univ_succ, EReal.coe_add, ih]; rfl
    have hp : 0 ≤ ∑ k, r k * r k := sum_nonneg fun k _ => mul_self_nonneg _
    have hm : meanSq (fun k => (r k : EReal)) = (((∑ k, r k * r k) * (1 / 2048) + e : ℝ) : EReal) := by
      rw [meanSq, hs, div_width, hw]; rfl
    generalize hq : (∑ k, r k * r k) * (1 / 2048) + e = q at hm
    have hq0 : 0 < q := by rw [← hq]; positivity
    have hf : factor (fun k => (r k : EReal)) = (((Real.sqrt q)⁻¹ : ℝ) : EReal) := by
      rw [factor, hm]
      show (if q < 0 then ⊥ else if q = 0 then ⊤ else _) = _
      rw [if_neg (not_lt.mpr hq0.le), if_neg hq0.ne']
    have hsq : (Real.sqrt q)⁻¹ * (Real.sqrt q)⁻¹ = q⁻¹ := by rw [← mul_inv, Real.mul_self_sqrt hq0.le]
    have hr0 : 0 ≤ (Real.sqrt q)⁻¹ := by positivity
    rw [hf, hm]
    generalize (Real.sqrt q)⁻¹ = f at *
    have hd : Ideal.div (f : EReal) (q : EReal) = ((f * q⁻¹ : ℝ) : EReal) := by
      rw [Ideal.div, if_neg (by exact_mod_cast hq0.ne'), ← EReal.coe_inv, ← EReal.coe_mul]
    have hsum : ∑ k, g k * ((r k : EReal) * (f : EReal)) = (∑ k, (r k : EReal) * g k) * (f : EReal) := by
      rw [← sum_scaled _ hr0]
      exact sum_congr rfl fun k _ => by rw [← mul_assoc, mul_comm (g k)]
    rw [hd, hsum, minus_half_word, div_width, div_width]
    dsimp only
    generalize ∑ k, (r k : EReal) * g k = s
    generalize r j = u
    generalize g j = v
    have e1 : (f : EReal) * (v - (u : EReal) * (f : EReal) * (s * (f : EReal) * ((1 / 2048 : ℝ) : EReal)))
        = v * (f : EReal) + s * ((-(f * (u * f * (f * (1 / 2048)))) : ℝ) : EReal) := by
      rw [sub_eq_add_neg, EReal.left_distrib_of_nonneg_of_ne_top (by exact_mod_cast hr0) (EReal.coe_ne_top f), mul_comm (f : EReal) v]
      congr 1
      simp only [EReal.coe_neg, EReal.coe_mul, mul_neg, neg_mul]
      ac_rfl
    have e2 : s * (((-1 / 2 : ℝ) : EReal) * ((f * q⁻¹ : ℝ) : EReal)) * ((1 / 2048 : ℝ) : EReal)
        = s * ((-1 / 2 * (f * q⁻¹) * (1 / 2048) : ℝ) : EReal) := by
      simp only [EReal.coe_mul]
      ac_rfl
    rw [e1, e2, mul_comm (u : EReal), mul_assoc s, ← EReal.coe_mul, add_assoc (o + _), twice, ← hsq, ← add_assoc]
    congr 3
    ring

end Cert.NormMath

end
-- ==== Proof.NormGrad.lean ====
module

public import proofs.«01_k».proof.Defs
public import proofs.«01_k».proof.Proof.Tiles
public import proofs.«01_k».proof.Proof.NormMath
public import proofs.«01_k».proof.Proof.Gen.Kernel12Ideal.Value
public import proofs.«01_k».proof.Proof.Gen.Reference12Ideal.Run
public import Idealize.ShloMosaic.Lib.Claim

/-!
# The gradient of the first norm

A grid point takes 256 rows. It writes their gradients, and adds what they give to the gradient of the norm's weights, which
starts at zero.
-/

@[expose] public section

noncomputable section

namespace Cert.Kernel12Ideal.NormGrad

open Idealize.ShloMosaic Idealize.ShloMosaic.TcCoe Idealize.ShloMosaic.Tactic
open Cert.Kernel12Ideal.Gen Cert.Kernel12Ideal.Value Cert.Tiles Cert.NormMath

/-! ### What a grid point computes -/

/-- A row of a matrix. -/
abbrev rowOf {R : ℕ} (a : (⟨2, ![R, 2048]⟩ : Shape).Idx → EReal) (i : Fin R) : Fin 2048 → EReal := fun k => a (ix2 i k)

/-- The gradient at one place, by the kernel's formula. -/
abbrev gradAt (x g : Fin 2048 → EReal) (o : EReal) (j : Fin 2048) : EReal :=
  o + factor x * (g j - x j * factor x * Ideal.div (∑ k, g k * (x k * factor x)) (Ideal.ofBits .f32 0x45000000#32))

theorem rows_entry (a d e : Vec Ideal S256x2048 .f32) (w : Vec Ideal S1x2048 .f32) (o : Vec Ideal S256x2048 .f32) (x : Fin 256) (y : Fin 2048) :
    k0_pay5 a d e w o (ix2 x y)
      = gradAt (rowOf a x) (fun k => ((d (ix2 x k) + e (ix2 x k)) * w (ix2 0 k) : EReal)) (o (ix2 x y)) y := by
  unfold k0_pay5 k0_pay4 k0_pay3 k0_pay2
  pointwise

theorem weights_entry (s : Vec Ideal S1x2048 .f32) (a d e : Vec Ideal S256x2048 .f32) (x : Fin 1) (y : Fin 2048) :
    k0_pay1 (k0_pay7 s) (k0_pay8 a d e) (ix2 x y)
      = (s (ix2 x y) + ∑ n : Fin 256, (d (ix2 n y) + e (ix2 n y)) * (a (ix2 n y) * factor (rowOf a n)) : EReal) := by
  unfold k0_pay1 k0_pay7 k0_pay8 k0_pay4 k0_pay3 k0_pay2
  pointwise

theorem start_entry (x : Fin 1) (y : Fin 2048) : (k0_pay6 (F := Ideal) (ix2 x y) : EReal) = 0 := zero_word

section
variable {F : FTy → Type} [FloatOps F] (c : Dev nD) (i : grid0.Coords)
  (arg1 : Memref sig .tc .vmem S256x2048 .f32) (harg1 : arg1.IsWhole) (arg2 : Memref sig .tc .vmem S1x2048 .f32) (harg2 : arg2.IsWhole)
  (arg3 : Memref sig .tc .vmem S256x2048 .f32) (harg3 : arg3.IsWhole) (arg4 : Memref sig .tc .vmem S256x2048 .f32) (harg4 : arg4.IsWhole)
  (arg5 : Memref sig .tc .vmem S256x2048 .f32) (harg5 : arg5.IsWhole) (arg6 : Memref sig .tc .vmem S256x2048 .f32) (harg6 : arg6.IsWhole)
  (arg7 : Memref sig .tc .vmem S1x2048 .f32) (harg7 : arg7.IsWhole)
  (x : Vec F S256x2048 .f32) (w : Vec F S1x2048 .f32) (d e o : Vec F S256x2048 .f32)

theorem left_weights_first (hc0 : cond0_0 i) :
    out0_A_6 c i arg1 harg1 arg2 harg2 arg3 harg3 arg4 harg4 arg5 harg5 arg6 harg6 arg7 harg7 hc0 x w d e o
      = k0_pay1 (k0_pay7 k0_pay6) (k0_pay8 x d e) := by
  unfold out0_A_6
  rw [View.read_writes_eq_canon _ _ _ (cover0_A_6 c i arg1 harg1 arg2 harg2 arg3 harg3 arg4 harg4 arg5 harg5 arg6 harg6 arg7 harg7 hc0 x w d e o)]
  unfold kernelRun0_A
  dsimp only
  rw [View.canon_cons_unit_zero at_origin]
  unfold kernelRun0_A.sl.r kernelRun0_A.sl.r_1
  simp only [View.readAt_eq_ld, harg1.read_unread, harg3.read_unread, harg4.read_unread, View.ld_unit_zero (S := S256x2048) at_origin, View.ld_unit_zero (S := S1x2048) at_origin]
  unfold kernelRun0_A.sl.v33 kernelRun0_A.sl.H6_1
  rw [View.readCov_cons_toLoadRect]

theorem left_weights (hc0 : ¬cond0_0 i) (s : Vec F S1x2048 .f32) :
    out0_B_6 c i arg1 harg1 arg2 harg2 arg3 harg3 arg4 harg4 arg5 harg5 arg6 harg6 arg7 harg7 hc0 x w d e o s
      = k0_pay1 (k0_pay7 s) (k0_pay8 x d e) := by
  unfold out0_B_6
  rw [View.read_writes_eq_canon _ _ _ (cover0_B_6 c i arg1 harg1 arg2 harg2 arg3 harg3 arg4 harg4 arg5 harg5 arg6 harg6 arg7 harg7 hc0 x w d e o s)]
  unfold kernelRun0_B
  dsimp only
  rw [View.canon_unit_zero at_origin]
  unfold kernelRun0_B.sl.r kernelRun0_B.sl.r_1
  simp only [View.readAt_eq_ld, harg1.read_unread, harg3.read_unread, harg4.read_unread, harg7.read_unread, View.ld_unit_zero (S := S256x2048) at_origin, View.ld_unit_zero (S := S1x2048) at_origin]

theorem left_rows_first (hc0 : cond0_0 i) :
    out0_A_5 c i arg1 harg1 arg2 harg2 arg3 harg3 arg4 harg4 arg5 harg5 arg6 harg6 arg7 harg7 hc0 x w d e o = k0_pay5 x d e w o := by
  unfold out0_A_5
  rw [View.read_writes_eq_canon _ _ _ (cover0_A_5 c i arg1 harg1 arg2 harg2 arg3 harg3 arg4 harg4 arg5 harg5 arg6 harg6 arg7 harg7 hc0 x w d e o)]
  unfold kernelRun0_A
  dsimp only
  rw [View.canon_unit_zero at_origin]
  simp only [View.readAt_eq_ld, harg1.read_unread, harg2.read_unread, harg3.read_unread, harg4.read_unread, harg5.read_unread, View.ld_unit_zero (S := S256x2048) at_origin, View.ld_unit_zero (S := S1x2048) at_origin]

theorem left_rows (hc0 : ¬cond0_0 i) (s : Vec F S1x2048 .f32) :
    out0_B_5 c i arg1 harg1 arg2 harg2 arg3 harg3 arg4 harg4 arg5 harg5 arg6 harg6 arg7 harg7 hc0 x w d e o s = k0_pay5 x d e w o := by
  unfold out0_B_5
  rw [View.read_writes_eq_canon _ _ _ (cover0_B_5 c i arg1 harg1 arg2 harg2 arg3 harg3 arg4 harg4 arg5 harg5 arg6 harg6 arg7 harg7 hc0 x w d e o s)]
  unfold kernelRun0_B
  dsimp only
  rw [View.canon_unit_zero at_origin]
  simp only [View.readAt_eq_ld, harg1.read_unread, harg2.read_unread, harg3.read_unread, harg4.read_unread, harg5.read_unread, View.ld_unit_zero (S := S256x2048) at_origin, View.ld_unit_zero (S := S1x2048) at_origin]

end

/-! ### The blocks it takes, in their arrays -/

variable (m : (ℓ : Loc nD τ sig) → Buf (Elt Ideal) ℓ) (c : Dev nD)

/-- The rows, the norm's weights, the two parts of the normed rows' cotangent, and the cotangent past the norm. -/
abbrev rows : S8192x2048.Idx → EReal := m ((c.tc : Thread nD τ).loc main_arg0)
abbrev weight : S1x2048.Idx → EReal := m ((c.tc : Thread nD τ).loc main_arg1)
abbrev part1 : S8192x2048.Idx → EReal := m ((c.tc : Thread nD τ).loc main_arg2)
abbrev part2 : S8192x2048.Idx → EReal := m ((c.tc : Thread nD τ).loc main_arg3)
abbrev past : S8192x2048.Idx → EReal := m ((c.tc : Thread nD τ).loc main_arg4)

theorem index_rows : ∀ t : Fin grid0.N, win0_0.index t = ![t.val, 0] := by decide +kernel
theorem index_weight : ∀ t : Fin grid0.N, win0_1.index t = ![0, 0] := by decide +kernel
theorem index_part1 : ∀ t : Fin grid0.N, win0_2.index t = ![t.val, 0] := by decide +kernel
theorem index_part2 : ∀ t : Fin grid0.N, win0_3.index t = ![t.val, 0] := by decide +kernel
theorem index_past : ∀ t : Fin grid0.N, win0_4.index t = ![t.val, 0] := by decide +kernel
theorem index_out : ∀ t : Fin grid0.N, win0_5.index t = ![t.val, 0] := by decide +kernel
theorem index_out_weight : ∀ t : Fin grid0.N, win0_6.index t = ![0, 0] := by decide +kernel

abbrev rowsAt (t : Fin cfg0.N) : S256x2048.Idx → EReal := iblk m c 0 t
abbrev weightAt (t : Fin cfg0.N) : S1x2048.Idx → EReal := iblk m c 1 t
abbrev part1At (t : Fin cfg0.N) : S256x2048.Idx → EReal := iblk m c 2 t
abbrev part2At (t : Fin cfg0.N) : S256x2048.Idx → EReal := iblk m c 3 t
abbrev pastAt (t : Fin cfg0.N) : S256x2048.Idx → EReal := iblk m c 4 t

/-- The row that grid point `t` has at place `x` of its block. -/
theorem at_lt (t : Fin cfg0.N) (x : Fin 256) : t.val * 256 + x.val < 8192 := by
  have := lt_of_lt_of_eq t.isLt N_0
  omega
abbrev at_ (t : Fin cfg0.N) (x : Fin 256) : Fin 8192 := ⟨t.val * 256 + x.val, at_lt t x⟩

theorem rows_block (t : Fin cfg0.N) (x : Fin 256) (y : Fin 2048) : rowsAt m c t (ix2 x y) = rows m c (ix2 (at_ t x) y) := by
  have hV : V m c main_arg0 = m ((c.tc : Thread nD τ).loc main_arg0) := V_main_arg0 m c
  refine (congrFun hV _).trans (congrArg (rows m c) (funext fun a => Fin.ext ?_))
  refine (win0_0.rect_emb_val t _ a rfl).trans ?_
  rw [index_rows t]
  match a with
  | 0 => rfl
  | 1 => show 0 * 2048 + y.val = y.val; omega

theorem row_block (t : Fin cfg0.N) (x : Fin 256) : rowOf (rowsAt m c t) x = rowOf (rows m c) (at_ t x) :=
  funext fun y => rows_block m c t x y

theorem weight_block (t : Fin cfg0.N) (y : Fin 2048) : weightAt m c t (ix2 0 y) = weight m c (ix2 0 y) := by
  have hV : V m c main_arg1 = m ((c.tc : Thread nD τ).loc main_arg1) := V_main_arg1 m c
  refine (congrFun hV _).trans (congrArg (weight m c) (funext fun a => Fin.ext ?_))
  refine (win0_1.rect_emb_val t _ a rfl).trans ?_
  rw [index_weight t]
  match a with
  | 0 => rfl
  | 1 => show 0 * 2048 + y.val = y.val; omega

theorem part1_block (t : Fin cfg0.N) (x : Fin 256) (y : Fin 2048) : part1At m c t (ix2 x y) = part1 m c (ix2 (at_ t x) y) := by
  have hV : V m c main_arg2 = m ((c.tc : Thread nD τ).loc main_arg2) := V_main_arg2 m c
  refine (congrFun hV _).trans (congrArg (part1 m c) (funext fun a => Fin.ext ?_))
  refine (win0_2.rect_emb_val t _ a rfl).trans ?_
  rw [index_part1 t]
  match a with
  | 0 => rfl
  | 1 => show 0 * 2048 + y.val = y.val; omega

theorem part2_block (t : Fin cfg0.N) (x : Fin 256) (y : Fin 2048) : part2At m c t (ix2 x y) = part2 m c (ix2 (at_ t x) y) := by
  have hV : V m c main_arg3 = m ((c.tc : Thread nD τ).loc main_arg3) := V_main_arg3 m c
  refine (congrFun hV _).trans (congrArg (part2 m c) (funext fun a => Fin.ext ?_))
  refine (win0_3.rect_emb_val t _ a rfl).trans ?_
  rw [index_part2 t]
  match a with
  | 0 => rfl
  | 1 => show 0 * 2048 + y.val = y.val; omega

theorem past_block (t : Fin cfg0.N) (x : Fin 256) (y : Fin 2048) : pastAt m c t (ix2 x y) = past m c (ix2 (at_ t x) y) := by
  have hV : V m c main_arg4 = m ((c.tc : Thread nD τ).loc main_arg4) := V_main_arg4 m c
  refine (congrFun hV _).trans (congrArg (past m c) (funext fun a => Fin.ext ?_))
  refine (win0_4.rect_emb_val t _ a rfl).trans ?_
  rw [index_past t]
  match a with
  | 0 => rfl
  | 1 => show 0 * 2048 + y.val = y.val; omega

/-! ### The rows' gradient -/

theorem rows_written (t : Fin cfg0.N) :
    (outsAt0 m c t.val t.isLt).1 = k0_pay5 (F := Ideal) (rowsAt m c t) (part1At m c t) (part2At m c t) (weightAt m c t) (pastAt m c t) := by
  by_cases h : t.val % 32 = 0
  · rw [outsAt0_A m c t h]
    dsimp only
    rw [left_rows_first]
  · rw [outsAt0_B m c t h]
    dsimp only
    rw [left_rows]

theorem rows_array (i : Fin 8192) (j : Fin 2048) :
    ((dats m 0 c).arrAt 5 cfg0.N : S8192x2048.Idx → EReal) (ix2 i j)
      = gradAt (rowOf (rows m c) i) (fun k => (part1 m c (ix2 i k) + part2 m c (ix2 i k)) * weight m c (ix2 0 k)) (past m c (ix2 i j)) j := by
  have hN : i.val / 256 < cfg0.N := lt_of_lt_of_eq (by omega : _ < 32) N_0.symm
  have e := congrFun (blocks5 m c ⟨_, hN⟩ (flush0_5 _)) (ix2 ⟨i.val % 256, Nat.mod_lt _ (by decide)⟩ j)
  rw [flushed5 m c ⟨_, hN⟩, rows_written] at e
  have hx : (win0_5.rect ⟨_, hN⟩).emb (ix2 ⟨i.val % 256, Nat.mod_lt _ (by decide)⟩ j) = ix2 i j := by
    refine funext fun a => Fin.ext ((win0_5.rect_emb_val ⟨_, hN⟩ _ a rfl).trans ?_)
    rw [index_out ⟨_, hN⟩]
    match a with
    | 0 => show i.val / 256 * 256 + i.val % 256 = i.val; omega
    | 1 => show 0 * 2048 + j.val = j.val; omega
  refine (congrArg ((dats m 0 c).arrAt 5 cfg0.N : S8192x2048.Idx → EReal) hx.symm).trans (e.trans ?_)
  refine (rows_entry (rowsAt m c ⟨_, hN⟩) (part1At m c ⟨_, hN⟩) (part2At m c ⟨_, hN⟩) (weightAt m c ⟨_, hN⟩) (pastAt m c ⟨_, hN⟩) _ _).trans ?_
  have hi : at_ ⟨_, hN⟩ ⟨i.val % 256, Nat.mod_lt _ (by decide)⟩ = i := Fin.ext (by show i.val / 256 * 256 + i.val % 256 = i.val; omega)
  simp only [row_block, part1_block, part2_block, weight_block, past_block, hi]

/-! ### The weights' gradient -/

/-- What row `n` gives to the gradient of the weights. -/
def term (j : Fin 2048) (n : ℕ) : EReal :=
  if h : n < 8192 then (part1 m c (ix2 ⟨n, h⟩ j) + part2 m c (ix2 ⟨n, h⟩ j)) * (rows m c (ix2 ⟨n, h⟩ j) * factor (rowOf (rows m c) ⟨n, h⟩)) else 0

theorem terms (t : Fin cfg0.N) (j : Fin 2048) :
    ∑ n : Fin 256, (part1At m c t (ix2 n j) + part2At m c t (ix2 n j)) * (rowsAt m c t (ix2 n j) * factor (rowOf (rowsAt m c t) n))
      = ∑ n : Fin 256, term m c j (t.val * 256 + n.val) := by
  refine Finset.sum_congr rfl fun n _ => ?_
  rw [term, dif_pos (at_lt t n)]
  simp only [row_block, rows_block, part1_block, part2_block]

theorem point_lt {k : ℕ} (hk : k < 32) : k < cfg0.N := lt_of_lt_of_eq hk N_0.symm

theorem weights_after (j : Fin 2048) : ∀ k (hk : k < 32),
    ((outsAt0 m c k (point_lt hk)).2 (ix2 0 j) : EReal) = ∑ n ∈ Finset.range ((k + 1) * 256), term m c j n := by
  refine accumulated _ 256 32 (fun k hk => ((outsAt0 m c k (point_lt hk)).2 (ix2 0 j) : EReal)) (fun h => ?_) (fun k h h' => ?_)
  · have e := outsAt0_A m c ⟨0, point_lt h⟩ rfl
    refine (congrFun (congrArg Prod.snd e) (ix2 0 j)).trans ?_
    dsimp only
    rw [left_weights_first]
    refine (weights_entry _ (rowsAt m c _) (part1At m c _) (part2At m c _) _ _).trans ?_
    rw [start_entry, zero_add, terms]
    simp only [Nat.zero_mul, Nat.zero_add]
  · have e := outsAt0_B m c ⟨k + 1, point_lt h⟩ (by dsimp only; omega)
    refine (congrFun (congrArg Prod.snd e) (ix2 0 j)).trans ?_
    dsimp only
    rw [left_weights]
    refine (weights_entry _ (rowsAt m c _) (part1At m c _) (part2At m c _) _ _).trans ?_
    rw [terms]
    rfl

theorem one_write : ∀ t t' : Fin cfg0.N, (cfg0.win 6).flush t = true → (cfg0.win 6).flush t' = true → t ≠ t' →
    Disjoint ((cfg0.win 6).blk t).view.set ((cfg0.win 6).blk t').view.set := fun t t' h h' hne => by
  have a := (flush0_6 t).mp h
  have b := (flush0_6 t').mp h'
  have := lt_of_lt_of_eq t.isLt N_0
  have := lt_of_lt_of_eq t'.isLt N_0
  exact absurd (Fin.ext (by omega)) hne

theorem weights_last (j : Fin 2048) (k r : ℕ) (hk : k < 32) (hr : (k + 1) * 256 = r) :
    ((outsAt0 m c k (point_lt hk)).2 (ix2 0 j) : EReal) = ∑ n : Fin r, term m c j n.val := by
  subst hr
  exact (weights_after m c j k hk).trans (Finset.sum_range _)

theorem weights_place (t : Fin cfg0.N) (j : Fin 2048) : (win0_6.rect t).emb (ix2 0 j) = ix2 0 j := by
  refine funext fun a => Fin.ext ((win0_6.rect_emb_val t _ a rfl).trans ?_)
  rw [index_out_weight t]
  match a with
  | 0 => rfl
  | 1 => show 0 * 2048 + j.val = j.val; omega

theorem weights_flushed (t : Fin cfg0.N) (h : t.val % 32 = 31) (j : Fin 2048) :
    ((dats m 0 c).arrAt 6 cfg0.N : S1x2048.Idx → EReal) (ix2 0 j) = (outsAt0 m c t.val t.isLt).2 (ix2 0 j) := by
  have e := congrFun ((dats m 0 c).read_blk_arrAt_eq_flushed 6 one_write cfg0.N t t.isLt ((flush0_6 t).mpr h)) (ix2 0 j)
  rw [flushed6 m c t] at e
  exact (congrArg ((dats m 0 c).arrAt 6 cfg0.N : S1x2048.Idx → EReal) (weights_place t j).symm).trans e

theorem weights_array (j : Fin 2048) :
    ((dats m 0 c).arrAt 6 cfg0.N : S1x2048.Idx → EReal) (ix2 0 j) = ∑ n : Fin 8192, term m c j n.val :=
  (weights_flushed m c ⟨31, point_lt (by decide)⟩ rfl j).trans (weights_last m c j 31 8192 (by decide) rfl)

end Cert.Kernel12Ideal.NormGrad

namespace Cert.NormGrad

open Idealize.ShloMosaic Idealize.ShloMosaic.TcCoe Idealize.ShloMosaic.Tactic Idealize.SL.Sem Cert.Tiles

section reference
open Cert.Reference12Ideal Cert.Reference12Ideal.Facts₀

variable (x d e o : FVec Ideal S8192x2048 .f32) (w : FVec Ideal S1x2048 .f32)

/-- The reference's mean squares with the small constant, the cotangent with the weights, and what reaches a row through its
    mean square. -/
abbrev meanSq : FVec Ideal S8192x1 .f32 :=
  addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

abbrev scaled : FVec Ideal S8192x2048 .f32 := mulf (addf d e) (broadcastInDim S8192x2048 ![0, 1] bcast_S1x2048_S8192x2048_0_1 w)

abbrev through : FVec Ideal S8192x2048 .f32 :=
  broadcastInDim S8192x2048 ![0] bcast_S8192_S8192x2048_0 (Host.reduceAdd (Host.divf (mulf (shapeCast S8192x1 (Host.reduceAdd (mulf x (scaled d e w)) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (meanSq x)) (meanSq x)))) (broadcastInDim S8192x1 ![] bcast_S_S8192x1 (constant S_ .f32 0x45000000#32))) (constant S_ .f32 0x00000000#32) reducesTo_S8192x1_S8192_d1 h_S_)

theorem rows_entry (i : Fin 8192) (j : Fin 2048) :
    (addf (addf (addf o (mulf (scaled d e w) (broadcastInDim S8192x2048 ![0, 1] bcast_S8192x1_S8192x2048_0_1 (Host.rsqrt (meanSq x))))) (mulf x (through x d e w))) (mulf (through x d e w) x) : FVec Ideal S8192x2048 .f32) (ix2 i j)
      = Cert.Kernel12Ideal.NormGrad.gradAt (Cert.Kernel12Ideal.NormGrad.rowOf x i) (fun k => ((d (ix2 i k) + e (ix2 i k)) * w (ix2 0 k) : EReal)) (o (ix2 i j)) j := by
  refine .trans ?_ (Cert.NormMath.row (Cert.Kernel12Ideal.NormGrad.rowOf x i) (fun k => ((d (ix2 i k) + e (ix2 i k)) * w (ix2 0 k) : EReal)) (o (ix2 i j)) j).symm
  pointwise
  simp only [Fin.sum_univ_one]

theorem weights_entry (j : Fin 2048) :
    (shapeCast S1x2048 (Host.reduceAdd (mulf (mulf x (broadcastInDim S8192x2048 ![0, 1] bcast_S8192x1_S8192x2048_0_1 (Host.rsqrt (meanSq x)))) (addf d e)) (constant S_ .f32 0x00000000#32) reducesTo_S8192x2048_S2048_d0 h_S_) shapeCasts_S2048_S1x2048 : FVec Ideal S1x2048 .f32) (ix2 0 j)
      = (∑ n : Fin 8192, (d (ix2 n j) + e (ix2 n j)) * (x (ix2 n j) * Cert.NormMath.factor (Cert.Kernel12Ideal.NormGrad.rowOf x n)) : EReal) := by
  pointwise
  exact Finset.sum_congr rfl fun n _ => mul_comm _ _

end reference

theorem algebraic : Cert.algebraic_Kernel12Ideal_Reference12Ideal (hKernel12Ideal := Cert.Kernel12Ideal.Gen.facts)
    (hReference12Ideal := Cert.Reference12Ideal.Gen.facts) := fun m g m' g' _ hargs => by
  refine ⟨_, _, Cert.Kernel12Ideal.Value.run_blocks (F := Ideal) m g, ?_⟩
  refine (θ_run Cert.Reference12Ideal.defs _ _).mono (fun _ h c => ⟨(h c).1.trans (funext fun y => ?_), (h c).2.1.trans (funext fun y => ?_), (h c).2.2⟩)
    (Cert.Reference12Ideal.Value.run (F := Ideal) m' g')
  all_goals
    obtain ⟨h0, h1, h2, h3, h4⟩ := hargs c
    rw [← ix2_eta y]
    generalize y 0 = i
    generalize y 1 = j
    change Fin 2048 at j
  · rw [h0, h1, h2, h3, h4]
    change Fin 8192 at i
    exact (rows_entry _ _ _ _ _ i j).trans (Cert.Kernel12Ideal.NormGrad.rows_array m c i j).symm
  · rw [h0, h2, h3]
    change Fin 1 at i
    obtain rfl : i = 0 := Subsingleton.elim _ _
    refine (weights_entry _ _ _ j).trans (.trans ?_ (Cert.Kernel12Ideal.NormGrad.weights_array m c j).symm)
    refine Finset.sum_congr rfl fun n _ => ?_
    rw [Cert.Kernel12Ideal.NormGrad.term, dif_pos n.isLt]

end Cert.NormGrad

end
-- ==== Proof.NormRows.lean ====
module

public import proofs.«01_k».proof.Defs
public import proofs.«01_k».proof.Proof.Tiles
public import proofs.«01_k».proof.Proof.NormMath
public import proofs.«01_k».proof.Proof.Gen.Kernel13Ideal.Value
public import proofs.«01_k».proof.Proof.Gen.Reference13Ideal.Run
public import Idealize.ShloMosaic.Lib.Claim

/-!
# The first norm

A grid point norms 256 rows.
-/

@[expose] public section

noncomputable section

namespace Cert.Kernel13Ideal.NormRows

open Idealize.ShloMosaic Idealize.ShloMosaic.TcCoe Idealize.ShloMosaic.Tactic
open Cert.Kernel13Ideal.Gen Cert.Kernel13Ideal.Value Cert.Tiles Cert.NormMath

/-- The normed row at one place. -/
abbrev normed (x : Fin 2048 → EReal) (w : EReal) (j : Fin 2048) : EReal := x j * factor x * w

theorem normed_entry (a : Vec Ideal S256x2048 .f32) (w : Vec Ideal S1x2048 .f32) (x : Fin 256) (y : Fin 2048) :
    (k0_pay1 a w (ix2 x y) : EReal) = normed (fun k => a (ix2 x k)) (w (ix2 0 y)) y := by
  unfold k0_pay1
  pointwise

theorem left (a : Vec Ideal S256x2048 .f32) (w : Vec Ideal S1x2048 .f32) : out0_2 a w = k0_pay1 a w := by
  unfold out0_2
  rw [View.canon_unit_zero at_origin, View.ld_unit_zero (S := S256x2048) at_origin, View.ld_unit_zero (S := S1x2048) at_origin]

variable (m : (ℓ : Loc nD τ sig) → Buf (Elt Ideal) ℓ) (c : Dev nD)

abbrev rows : S8192x2048.Idx → EReal := m ((c.tc : Thread nD τ).loc main_arg0)
abbrev weight : S1x2048.Idx → EReal := m ((c.tc : Thread nD τ).loc main_arg1)

theorem index_rows : ∀ t : Fin grid0.N, win0_0.index t = ![t.val, 0] := by decide +kernel
theorem index_weight : ∀ t : Fin grid0.N, win0_1.index t = ![0, 0] := by decide +kernel
theorem index_out : ∀ t : Fin grid0.N, win0_2.index t = ![t.val, 0] := by decide +kernel

abbrev rowsAt (t : Fin cfg0.N) : S256x2048.Idx → EReal := iblk m c 0 t
abbrev weightAt (t : Fin cfg0.N) : S1x2048.Idx → EReal := iblk m c 1 t

/-- The grid point that takes a row, and the row's place in its block. -/
abbrev point (i : Fin 8192) : Fin cfg0.N := ⟨i.val / 256, lt_of_lt_of_eq (by omega : _ < 32) N_0.symm⟩
abbrev place (i : Fin 8192) : Fin 256 := ⟨i.val % 256, Nat.mod_lt _ (by decide)⟩

theorem rows_block (i : Fin 8192) (j : Fin 2048) : rowsAt m c (point i) (ix2 (place i) j) = rows m c (ix2 i j) := by
  have hV : V m c main_arg0 = m ((c.tc : Thread nD τ).loc main_arg0) := V_main_arg0 m c
  refine (congrFun hV _).trans (congrArg (rows m c) (funext fun a => Fin.ext ?_))
  refine (win0_0.rect_emb_val (point i) _ a rfl).trans ?_
  rw [index_rows (point i)]
  match a with
  | 0 => show i.val / 256 * 256 + i.val % 256 = i.val; omega
  | 1 => show 0 * 2048 + j.val = j.val; omega

theorem weight_block (t : Fin cfg0.N) (j : Fin 2048) : weightAt m c t (ix2 0 j) = weight m c (ix2 0 j) := by
  have hV : V m c main_arg1 = m ((c.tc : Thread nD τ).loc main_arg1) := V_main_arg1 m c
  refine (congrFun hV _).trans (congrArg (weight m c) (funext fun a => Fin.ext ?_))
  refine (win0_1.rect_emb_val t _ a rfl).trans ?_
  rw [index_weight t]
  match a with
  | 0 => rfl
  | 1 => show 0 * 2048 + j.val = j.val; omega

theorem out_place (i : Fin 8192) (j : Fin 2048) : (win0_2.rect (point i)).emb (ix2 (place i) j) = ix2 i j := by
  refine funext fun a => Fin.ext ((win0_2.rect_emb_val (point i) _ a rfl).trans ?_)
  rw [index_out (point i)]
  match a with
  | 0 => show i.val / 256 * 256 + i.val % 256 = i.val; omega
  | 1 => show 0 * 2048 + j.val = j.val; omega

theorem normed_array (i : Fin 8192) (j : Fin 2048) :
    ((dats m 0 c).arrAt 2 cfg0.N : S8192x2048.Idx → EReal) (ix2 i j)
      = normed (fun k => rows m c (ix2 i k)) (weight m c (ix2 0 j)) j := by
  have e := congrFun (blocks2 m c (point i) (flush0_2 _)) (ix2 (place i) j)
  rw [flushed2 m c (point i), left] at e
  refine (congrArg ((dats m 0 c).arrAt 2 cfg0.N : S8192x2048.Idx → EReal) (out_place i j).symm).trans (e.trans ?_)
  refine (normed_entry (rowsAt m c (point i)) (weightAt m c (point i)) (place i) j).trans ?_
  simp only [rows_block, weight_block]

end Cert.Kernel13Ideal.NormRows

namespace Cert.NormRows

open Idealize.ShloMosaic Idealize.ShloMosaic.TcCoe Idealize.ShloMosaic.Tactic Idealize.SL.Sem

section reference
open Cert.Reference13Ideal Cert.Reference13Ideal.Facts₀

theorem reference_entry (x : FVec Ideal S8192x2048 .f32) (w : FVec Ideal S1x2048 .f32) (i : Fin 8192) (j : Fin 2048) :
    (truncf .bf16 (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 w)) bitsLt_bf16_f32 : FVec Ideal S8192x2048 .bf16) (ix2 i j)
      = Cert.Kernel13Ideal.NormRows.normed (fun k => x (ix2 i k)) (w (ix2 0 j)) j := by
  pointwise

end reference

theorem algebraic : Cert.algebraic_Kernel13Ideal_Reference13Ideal (hKernel13Ideal := Cert.Kernel13Ideal.Gen.facts)
    (hReference13Ideal := Cert.Reference13Ideal.Gen.facts) := fun m g m' g' _ hargs => by
  refine ⟨_, Cert.Kernel13Ideal.Value.run_blocks (F := Ideal) m g, ?_⟩
  refine (θ_run Cert.Reference13Ideal.defs _ _).mono (fun _ h c => ⟨(h c).1.trans (funext fun y => ?_), (h c).2⟩)
    (Cert.Reference13Ideal.Value.run (F := Ideal) m' g')
  obtain ⟨h0, h1⟩ := hargs c
  rw [h0, h1, ← ix2_eta y]
  generalize y 0 = i
  generalize y 1 = j
  change Fin 8192 at i
  change Fin 2048 at j
  exact (reference_entry _ _ i j).trans (Cert.Kernel13Ideal.NormRows.normed_array m c i j).symm

end Cert.NormRows

end
-- ==== Proof.AttnRowGrad.lean ====
module

public import proofs.«01_k».proof.Defs
public import proofs.«01_k».proof.Proof.Gen.Kernel14Ideal
public import proofs.«01_k».proof.Proof.Gen.Reference14Ideal
public import proofs.«01_k».proof.Proof.OutRowGrad

/-!
# The gradient of the attention branch's rows

The call is the same code as the one for the output's rows, with other arguments, so its claim follows from that one's.
-/

@[expose] public section

namespace Cert.AttnRowGrad

open Idealize.ShloMosaic

attribute [local instance] Cert.Kernel9Ideal.Gen.facts Cert.Kernel14Ideal.Gen.facts Cert.Reference9Ideal.Gen.facts Cert.Reference14Ideal.Gen.facts

theorem same_body : Kernel9Ideal.defs₀ (F := Ideal) = Kernel14Ideal.defs₀ (F := Ideal) := by
  unfold Kernel9Ideal.defs₀ Kernel14Ideal.defs₀
  refine congrArg _ (funext fun l => funext fun a => ?_)
  match l, a with
  | 0, (t, s) => rfl

theorem same_calls : Kernel9Ideal.defs (F := Ideal) = Kernel14Ideal.defs (F := Ideal) := congrArg (Pipeline.defs _) same_body

theorem algebraic : Cert.algebraic_Kernel14Ideal_Reference14Ideal := fun m g m' g' hp ha => by
  have e := Cert.OutRowGrad.algebraic m g m' g' hp ha
  rw [same_calls] at e
  exact e

end Cert.AttnRowGrad

end
-- ==== Proof.AttnWeightGrad.lean ====
module

public import proofs.«01_k».proof.Defs
public import proofs.«01_k».proof.Proof.Gen.Kernel15Ideal
public import proofs.«01_k».proof.Proof.Gen.Reference15Ideal
public import proofs.«01_k».proof.Proof.OutWeightGrad

/-!
# The gradient of the attention branch's weights

The call is the same code as the one for the output's weights, with other arguments, so its claim follows from that one's.
-/

@[expose] public section

namespace Cert.AttnWeightGrad

open Idealize.ShloMosaic

attribute [local instance] Cert.Kernel10Ideal.Gen.facts Cert.Kernel15Ideal.Gen.facts Cert.Reference10Ideal.Gen.facts Cert.Reference15Ideal.Gen.facts

theorem same_body : Kernel10Ideal.defs₀ (F := Ideal) = Kernel15Ideal.defs₀ (F := Ideal) := by
  unfold Kernel10Ideal.defs₀ Kernel15Ideal.defs₀
  refine congrArg _ (funext fun l => funext fun a => ?_)
  match l, a with
  | 0, (t, s) => rfl

theorem same_calls : Kernel10Ideal.defs (F := Ideal) = Kernel15Ideal.defs (F := Ideal) := congrArg (Pipeline.defs _) same_body

theorem algebraic : Cert.algebraic_Kernel15Ideal_Reference15Ideal := fun m g m' g' hp ha => by
  have e := Cert.OutWeightGrad.algebraic m g m' g' hp ha
  rw [same_calls] at e
  exact e

end Cert.AttnWeightGrad

end
-- ==== Proof.OutLoss.lean ====
module

public import proofs.«01_k».proof.Defs
public import proofs.«01_k».proof.Proof.Tiles
public import proofs.«01_k».proof.Proof.NormMath
public import proofs.«01_k».proof.Proof.Gen.Kernel16Ideal.Value
public import proofs.«01_k».proof.Proof.Gen.Reference16Ideal.Run
public import Idealize.ShloMosaic.Lib.Claim

/-!
# The output's product, the loss and their gradients

A grid point takes 256 rows. It computes the output's rows, the last norm and the error, writes the gradient of the output in two
types, and adds to the loss and to the gradient of the last norm's weights, which start at zero.
-/

@[expose] public section

noncomputable section

namespace Cert.LossMath

open Idealize.ShloMosaic Cert.NormMath

theorem half_word : Ideal.ofBits .f32 0x3F000000#32 = ((1 / 2 : ℝ) : EReal) := by
  simp [Ideal.ofBits, Ideal.ieee, -EReal.coe_mul]
  norm_num

theorem two_word : Ideal.ofBits .f32 0x40000000#32 = ((2 : ℝ) : EReal) := by
  simp [Ideal.ofBits, Ideal.ieee, -EReal.coe_mul]
  norm_num

theorem mean_word : Ideal.ofBits .f32 0x3A000000#32 = ((1 / 2048 : ℝ) : EReal) := by
  simp [Ideal.ofBits, Ideal.ieee, -EReal.coe_mul]
  norm_num

theorem half_mean_word : Ideal.ofBits .f32 0x39800000#32 = ((1 / 4096 : ℝ) : EReal) := by
  simp [Ideal.ofBits, Ideal.ieee, -EReal.coe_mul]
  norm_num

/-- The chain rule's factor of an error, through the mean of squares and the half, is the mean's. -/
theorem error_factor (e : EReal) :
    Ideal.div (Ideal.ofBits .f32 0x3F000000#32) (Ideal.ofBits .f32 0x45000000#32) * (Ideal.ofBits .f32 0x40000000#32 * e)
      = e * Ideal.ofBits .f32 0x3A000000#32 := by
  rw [div_width, half_word, two_word, mean_word, ← EReal.coe_mul, ← mul_assoc, ← EReal.coe_mul, mul_comm]
  norm_num

/-- Half the sum of means is the sum of the rows' shares. -/
theorem half_means {n : ℕ} (f : Fin n → EReal) :
    Ideal.ofBits .f32 0x3F000000#32 * ∑ k, Ideal.div (f k) (Ideal.ofBits .f32 0x45000000#32) = ∑ k, f k * Ideal.ofBits .f32 0x39800000#32 := by
  simp only [div_width, half_word, half_mean_word]
  rw [sum_scaled f (by norm_num), sum_scaled f (by norm_num), mul_comm, mul_assoc, ← EReal.coe_mul]
  norm_num

/-- A row of the output, its error, and the cotangent of its normed row. -/
abbrev outRow {R : ℕ} (a : (⟨2, ![R, 2048]⟩ : Shape).Idx → EReal) (w : (⟨2, ![2048, 2048]⟩ : Shape).Idx → EReal) (x : (⟨2, ![R, 2048]⟩ : Shape).Idx → EReal) (i : Fin R) :
    Fin 2048 → EReal := fun k => x (ix2 i k) + ∑ n : Fin 2048, a (ix2 i n) * w (ix2 n k)
abbrev errorOf (o w t : Fin 2048 → EReal) (k : Fin 2048) : EReal := o k * factor o * w k - t k
abbrev back (o w t : Fin 2048 → EReal) (k : Fin 2048) : EReal := errorOf o w t k * Ideal.ofBits .f32 0x3A000000#32 * w k

/-- The gradient of the output, the loss of a row, and a row's part of the weights' gradient, by the kernel's formulas. -/
abbrev outGrad (o w t : Fin 2048 → EReal) (j : Fin 2048) : EReal :=
  factor o * (back o w t j - o j * factor o * Ideal.div (∑ k, back o w t k * (o k * factor o)) (Ideal.ofBits .f32 0x45000000#32))
abbrev lossOf (o w t : Fin 2048 → EReal) : EReal := (∑ k, errorOf o w t k * errorOf o w t k) * Ideal.ofBits .f32 0x39800000#32
abbrev weightGrad (o w t : Fin 2048 → EReal) (j : Fin 2048) : EReal := errorOf o w t j * Ideal.ofBits .f32 0x3A000000#32 * (o j * factor o)

end Cert.LossMath

namespace Cert.Kernel16Ideal.OutLoss

open Idealize.ShloMosaic Idealize.ShloMosaic.TcCoe Idealize.ShloMosaic.Tactic
open Cert.Kernel16Ideal.Gen Cert.Kernel16Ideal.Value Cert.Tiles Cert.NormMath Cert.LossMath

/-! ### What a grid point computes -/

section
variable (x t : Vec Ideal S256x2048 .f32) (a : Vec Ideal S256x2048 .bf16) (v : Vec Ideal S2048x2048 .bf16) (w : Vec Ideal S1x2048 .f32)

/-- The row `i` of the tile: its output, the weights, and its target. -/
abbrev tileRow (i : Fin 256) : Fin 2048 → EReal := outRow (R := 256) a v x i
abbrev tileWeight : Fin 2048 → EReal := fun k => w (ix2 0 k)
abbrev tileTarget (i : Fin 256) : Fin 2048 → EReal := fun k => t (ix2 i k)

theorem out_entry (i : Fin 256) (j : Fin 2048) : (k0_pay5 x a v (ix2 i j) : EReal) = tileRow x a v i j := by
  unfold k0_pay5
  pointwise
  try rw [zero_word, zero_add]

theorem grad_entry (i : Fin 256) (j : Fin 2048) :
    (k0_pay10 x a v w t (ix2 i j) : EReal) = outGrad (tileRow x a v i) (tileWeight w) (tileTarget t i) j := by
  unfold k0_pay10 k0_pay9 k0_pay8 k0_pay7 k0_pay6
  pointwise
  simp only [out_entry]

theorem loss_entry (s : Vec Ideal S1x128 .f32) (i : Fin 1) (l : Fin 128) :
    (k0_pay3 (k0_pay8 x a v w t) s (ix2 i l) : EReal) = s (ix2 i l) + ∑ n : Fin 256, lossOf (tileRow x a v n) (tileWeight w) (tileTarget t n) := by
  unfold lossOf
  rw [half_mean_word, sum_scaled _ (by norm_num), ← half_mean_word]
  unfold k0_pay3 k0_pay8 k0_pay7 k0_pay6
  pointwise
  simp only [out_entry]

theorem weights_entry (s : Vec Ideal S1x2048 .f32) (i : Fin 1) (j : Fin 2048) :
    (k0_pay4 (k0_pay7 x a v) (k0_pay9 x a v w t) s (ix2 i j) : EReal)
      = s (ix2 i j) + ∑ n : Fin 256, weightGrad (tileRow x a v n) (tileWeight w) (tileTarget t n) j := by
  unfold k0_pay4 k0_pay9 k0_pay8 k0_pay7 k0_pay6
  pointwise
  simp only [out_entry]

theorem loss_start (i : Fin 1) (l : Fin 128) : (k0_pay1 (F := Ideal) (ix2 i l) : EReal) = 0 := zero_word
theorem weights_start (i : Fin 1) (j : Fin 2048) : (k0_pay2 (F := Ideal) (ix2 i j) : EReal) = 0 := zero_word

end

section
variable {F : FTy → Type} [FloatOps F] (c : Dev nD) (i : grid0.Coords)
  (arg1 : Memref sig .tc .vmem S256x2048 .bf16) (harg1 : arg1.IsWhole) (arg2 : Memref sig .tc .vmem S2048x2048 .bf16) (harg2 : arg2.IsWhole)
  (arg3 : Memref sig .tc .vmem S256x2048 .f32) (harg3 : arg3.IsWhole) (arg4 : Memref sig .tc .vmem S256x2048 .f32) (harg4 : arg4.IsWhole)
  (arg5 : Memref sig .tc .vmem S1x2048 .f32) (harg5 : arg5.IsWhole) (arg6 : Memref sig .tc .vmem S256x2048 .f32) (harg6 : arg6.IsWhole)
  (arg7 : Memref sig .tc .vmem S256x2048 .bf16) (harg7 : arg7.IsWhole) (arg8 : Memref sig .tc .vmem S1x128 .f32) (harg8 : arg8.IsWhole)
  (arg9 : Memref sig .tc .vmem S1x2048 .f32) (harg9 : arg9.IsWhole)
  (a : Vec F S256x2048 .bf16) (v : Vec F S2048x2048 .bf16) (x t : Vec F S256x2048 .f32) (w : Vec F S1x2048 .f32)

theorem left_grad_first (hc0 : cond0_0 i) :
    out0_A_5 c i arg1 harg1 arg2 harg2 arg3 harg3 arg4 harg4 arg5 harg5 arg6 harg6 arg7 harg7 arg8 harg8 arg9 harg9 hc0 a v x t w = k0_pay10 x a v w t := by
  unfold out0_A_5
  rw [View.read_writes_eq_canon _ _ _ (cover0_A_5 c i arg1 harg1 arg2 harg2 arg3 harg3 arg4 harg4 arg5 harg5 arg6 harg6 arg7 harg7 arg8 harg8 arg9 harg9 hc0 a v x t w)]
  unfold kernelRun0_A
  dsimp only
  rw [View.canon_unit_zero at_origin]
  simp only [View.readAt_eq_ld, harg1.read_unread, harg2.read_unread, harg3.read_unread, harg4.read_unread, harg5.read_unread, View.ld_unit_zero (S := S256x2048) at_origin, View.ld_unit_zero (S := S1x2048) at_origin, View.ld_unit_zero (S := S2048x2048) at_origin]

theorem left_rounded_first (hc0 : cond0_0 i) :
    out0_A_6 c i arg1 harg1 arg2 harg2 arg3 harg3 arg4 harg4 arg5 harg5 arg6 harg6 arg7 harg7 arg8 harg8 arg9 harg9 hc0 a v x t w = k0_pay11 x a v w t := by
  unfold out0_A_6
  rw [View.read_writes_eq_canon _ _ _ (cover0_A_6 c i arg1 harg1 arg2 harg2 arg3 harg3 arg4 harg4 arg5 harg5 arg6 harg6 arg7 harg7 arg8 harg8 arg9 harg9 hc0 a v x t w)]
  unfold kernelRun0_A
  dsimp only
  rw [View.canon_unit_zero at_origin]
  unfold kernelRun0_A.sl.r_3
  simp only [View.readAt_eq_ld, harg1.read_unread, harg2.read_unread, harg3.read_unread, harg4.read_unread, harg5.read_unread, View.ld_unit_zero (S := S256x2048) at_origin, View.ld_unit_zero (S := S1x2048) at_origin, View.ld_unit_zero (S := S2048x2048) at_origin]

theorem left_loss_first (hc0 : cond0_0 i) :
    out0_A_7 c i arg1 harg1 arg2 harg2 arg3 harg3 arg4 harg4 arg5 harg5 arg6 harg6 arg7 harg7 arg8 harg8 arg9 harg9 hc0 a v x t w = k0_pay3 (k0_pay8 x a v w t) k0_pay1 := by
  unfold out0_A_7
  rw [View.read_writes_eq_canon _ _ _ (cover0_A_7 c i arg1 harg1 arg2 harg2 arg3 harg3 arg4 harg4 arg5 harg5 arg6 harg6 arg7 harg7 arg8 harg8 arg9 harg9 hc0 a v x t w)]
  unfold kernelRun0_A
  dsimp only
  rw [View.canon_cons_unit_zero at_origin]
  unfold kernelRun0_A.sl.r_1
  simp only [View.readAt_eq_ld, harg1.read_unread, harg2.read_unread, harg3.read_unread, harg4.read_unread, harg5.read_unread, View.ld_unit_zero (S := S256x2048) at_origin, View.ld_unit_zero (S := S1x2048) at_origin, View.ld_unit_zero (S := S2048x2048) at_origin]
  unfold kernelRun0_A.sl.v40 kernelRun0_A.sl.H7_1
  rw [View.readCov_cons_toLoadRect]

theorem left_weights_first (hc0 : cond0_0 i) :
    out0_A_8 c i arg1 harg1 arg2 harg2 arg3 harg3 arg4 harg4 arg5 harg5 arg6 harg6 arg7 harg7 arg8 harg8 arg9 harg9 hc0 a v x t w = k0_pay4 (k0_pay7 x a v) (k0_pay9 x a v w t) k0_pay2 := by
  unfold out0_A_8
  rw [View.read_writes_eq_canon _ _ _ (cover0_A_8 c i arg1 harg1 arg2 harg2 arg3 harg3 arg4 harg4 arg5 harg5 arg6 harg6 arg7 harg7 arg8 harg8 arg9 harg9 hc0 a v x t w)]
  unfold kernelRun0_A
  dsimp only
  rw [View.canon_cons_unit_zero at_origin]
  unfold kernelRun0_A.sl.r kernelRun0_A.sl.r_2
  simp only [View.readAt_eq_ld, harg1.read_unread, harg2.read_unread, harg3.read_unread, harg4.read_unread, harg5.read_unread, View.ld_unit_zero (S := S256x2048) at_origin, View.ld_unit_zero (S := S1x2048) at_origin, View.ld_unit_zero (S := S2048x2048) at_origin]
  unfold kernelRun0_A.sl.v52 kernelRun0_A.sl.H8_1
  rw [View.readCov_cons_toLoadRect]

variable (s : Vec F S1x128 .f32) (u : Vec F S1x2048 .f32)

theorem left_grad (hc0 : ¬cond0_0 i) :
    out0_B_5 c i arg1 harg1 arg2 harg2 arg3 harg3 arg4 harg4 arg5 harg5 arg6 harg6 arg7 harg7 arg8 harg8 arg9 harg9 hc0 a v x t w s u = k0_pay10 x a v w t := by
  unfold out0_B_5
  rw [View.read_writes_eq_canon _ _ _ (cover0_B_5 c i arg1 harg1 arg2 harg2 arg3 harg3 arg4 harg4 arg5 harg5 arg6 harg6 arg7 harg7 arg8 harg8 arg9 harg9 hc0 a v x t w s u)]
  unfold kernelRun0_B
  dsimp only [kernelRun0_B.sl.r, kernelRun0_B.sl.r_1, kernelRun0_B.sl.r_2, kernelRun0_B.sl.r_3]
  rw [View.canon_unit_zero at_origin]
  simp only [View.readAt_eq_ld, harg1.read_unread, harg2.read_unread, harg3.read_unread, harg4.read_unread, harg5.read_unread, View.ld_unit_zero (S := S256x2048) at_origin, View.ld_unit_zero (S := S1x2048) at_origin, View.ld_unit_zero (S := S2048x2048) at_origin]

theorem left_rounded (hc0 : ¬cond0_0 i) :
    out0_B_6 c i arg1 harg1 arg2 harg2 arg3 harg3 arg4 harg4 arg5 harg5 arg6 harg6 arg7 harg7 arg8 harg8 arg9 harg9 hc0 a v x t w s u = k0_pay11 x a v w t := by
  unfold out0_B_6
  rw [View.read_writes_eq_canon _ _ _ (cover0_B_6 c i arg1 harg1 arg2 harg2 arg3 harg3 arg4 harg4 arg5 harg5 arg6 harg6 arg7 harg7 arg8 harg8 arg9 harg9 hc0 a v x t w s u)]
  unfold kernelRun0_B
  dsimp only [kernelRun0_B.sl.r, kernelRun0_B.sl.r_1, kernelRun0_B.sl.r_2, kernelRun0_B.sl.r_3]
  rw [View.canon_unit_zero at_origin]
  simp only [View.readAt_eq_ld, harg1.read_unread, harg2.read_unread, harg3.read_unread, harg4.read_unread, harg5.read_unread, View.ld_unit_zero (S := S256x2048) at_origin, View.ld_unit_zero (S := S1x2048) at_origin, View.ld_unit_zero (S := S2048x2048) at_origin]

theorem left_loss (hc0 : ¬cond0_0 i) :
    out0_B_7 c i arg1 harg1 arg2 harg2 arg3 harg3 arg4 harg4 arg5 harg5 arg6 harg6 arg7 harg7 arg8 harg8 arg9 harg9 hc0 a v x t w s u = k0_pay3 (k0_pay8 x a v w t) s := by
  unfold out0_B_7
  rw [View.read_writes_eq_canon _ _ _ (cover0_B_7 c i arg1 harg1 arg2 harg2 arg3 harg3 arg4 harg4 arg5 harg5 arg6 harg6 arg7 harg7 arg8 harg8 arg9 harg9 hc0 a v x t w s u)]
  unfold kernelRun0_B
  dsimp only [kernelRun0_B.sl.r, kernelRun0_B.sl.r_1, kernelRun0_B.sl.r_2, kernelRun0_B.sl.r_3]
  rw [View.canon_unit_zero at_origin]
  simp only [View.readAt_eq_ld, harg1.read_unread, harg2.read_unread, harg3.read_unread, harg4.read_unread, harg5.read_unread, harg8.read_unread, View.ld_unit_zero (S := S256x2048) at_origin, View.ld_unit_zero (S := S1x2048) at_origin, View.ld_unit_zero (S := S2048x2048) at_origin, View.ld_unit_zero (S := S1x128) at_origin]

theorem left_weights (hc0 : ¬cond0_0 i) :
    out0_B_8 c i arg1 harg1 arg2 harg2 arg3 harg3 arg4 harg4 arg5 harg5 arg6 harg6 arg7 harg7 arg8 harg8 arg9 harg9 hc0 a v x t w s u = k0_pay4 (k0_pay7 x a v) (k0_pay9 x a v w t) u := by
  unfold out0_B_8
  rw [View.read_writes_eq_canon _ _ _ (cover0_B_8 c i arg1 harg1 arg2 harg2 arg3 harg3 arg4 harg4 arg5 harg5 arg6 harg6 arg7 harg7 arg8 harg8 arg9 harg9 hc0 a v x t w s u)]
  unfold kernelRun0_B
  dsimp only [kernelRun0_B.sl.r, kernelRun0_B.sl.r_1, kernelRun0_B.sl.r_2, kernelRun0_B.sl.r_3]
  rw [View.canon_unit_zero at_origin]
  simp only [View.readAt_eq_ld, harg1.read_unread, harg2.read_unread, harg3.read_unread, harg4.read_unread, harg5.read_unread, harg9.read_unread, View.ld_unit_zero (S := S256x2048) at_origin, View.ld_unit_zero (S := S1x2048) at_origin, View.ld_unit_zero (S := S2048x2048) at_origin]

end

/-! ### The blocks it takes, in their arrays -/

variable (m : (ℓ : Loc nD τ sig) → Buf (Elt Ideal) ℓ) (c : Dev nD)

/-- The merged rows, the product's weights, the residual rows, the targets, and the last norm's weights. -/
abbrev merged : S8192x2048.Idx → EReal := m ((c.tc : Thread nD τ).loc main_arg0)
abbrev product : S2048x2048.Idx → EReal := m ((c.tc : Thread nD τ).loc main_arg1)
abbrev rows : S8192x2048.Idx → EReal := m ((c.tc : Thread nD τ).loc main_arg2)
abbrev target : S8192x2048.Idx → EReal := m ((c.tc : Thread nD τ).loc main_arg3)
abbrev weight : S1x2048.Idx → EReal := m ((c.tc : Thread nD τ).loc main_arg4)

theorem index_merged : ∀ t : Fin grid0.N, win0_0.index t = ![t.val, 0] := by decide +kernel
theorem index_product : ∀ t : Fin grid0.N, win0_1.index t = ![0, 0] := by decide +kernel
theorem index_rows : ∀ t : Fin grid0.N, win0_2.index t = ![t.val, 0] := by decide +kernel
theorem index_target : ∀ t : Fin grid0.N, win0_3.index t = ![t.val, 0] := by decide +kernel
theorem index_weight : ∀ t : Fin grid0.N, win0_4.index t = ![0, 0] := by decide +kernel
theorem index_grad : ∀ t : Fin grid0.N, win0_5.index t = ![t.val, 0] := by decide +kernel
theorem index_rounded : ∀ t : Fin grid0.N, win0_6.index t = ![t.val, 0] := by decide +kernel
theorem index_loss : ∀ t : Fin grid0.N, win0_7.index t = ![0, 0] := by decide +kernel
theorem index_sum : ∀ t : Fin grid0.N, win0_8.index t = ![0, 0] := by decide +kernel

abbrev mergedAt (t : Fin cfg0.N) : S256x2048.Idx → EReal := iblk m c 0 t
abbrev productAt (t : Fin cfg0.N) : S2048x2048.Idx → EReal := iblk m c 1 t
abbrev rowsAt (t : Fin cfg0.N) : S256x2048.Idx → EReal := iblk m c 2 t
abbrev targetAt (t : Fin cfg0.N) : S256x2048.Idx → EReal := iblk m c 3 t
abbrev weightAt (t : Fin cfg0.N) : S1x2048.Idx → EReal := iblk m c 4 t

/-- The row that grid point `t` has at place `x` of its block. -/
theorem at_lt (t : Fin cfg0.N) (x : Fin 256) : t.val * 256 + x.val < 8192 := by
  have := lt_of_lt_of_eq t.isLt N_0
  omega
abbrev at_ (t : Fin cfg0.N) (x : Fin 256) : Fin 8192 := ⟨t.val * 256 + x.val, at_lt t x⟩

/-- A place of an array with the two coordinates of a place is that place. -/
theorem place {R C : ℕ} (e : (⟨2, ![R, C]⟩ : Shape).Idx) (x : Fin R) (y : Fin C) (h : (e 0).val = x.val) (h' : (e 1).val = y.val) : e = ix2 x y :=
  funext fun a => match a with
  | 0 => Fin.ext h
  | 1 => Fin.ext h'

theorem from_zero {n : ℕ} (y : Fin n) : 0 * n + y.val = y.val := by omega

theorem merged_block (t : Fin cfg0.N) (x : Fin 256) (y : Fin 2048) : mergedAt m c t (ix2 x y) = merged m c (ix2 (at_ t x) y) :=
  (congrFun (V_main_arg0 m c : V m c main_arg0 = m ((c.tc : Thread nD τ).loc main_arg0)) _).trans (congrArg (merged m c)
    (place _ _ _ ((win0_0.rect_emb_val t _ 0 rfl).trans (by rw [index_merged t]; rfl))
      ((win0_0.rect_emb_val t _ 1 rfl).trans (by rw [index_merged t]; exact from_zero y))))

theorem product_block (t : Fin cfg0.N) (x : Fin 2048) (y : Fin 2048) : productAt m c t (ix2 x y) = product m c (ix2 x y) :=
  (congrFun (V_main_arg1 m c : V m c main_arg1 = m ((c.tc : Thread nD τ).loc main_arg1)) _).trans (congrArg (product m c)
    (place _ _ _ ((win0_1.rect_emb_val t _ 0 rfl).trans (by rw [index_product t]; exact from_zero x))
      ((win0_1.rect_emb_val t _ 1 rfl).trans (by rw [index_product t]; exact from_zero y))))

theorem rows_block (t : Fin cfg0.N) (x : Fin 256) (y : Fin 2048) : rowsAt m c t (ix2 x y) = rows m c (ix2 (at_ t x) y) :=
  (congrFun (V_main_arg2 m c : V m c main_arg2 = m ((c.tc : Thread nD τ).loc main_arg2)) _).trans (congrArg (rows m c)
    (place _ _ _ ((win0_2.rect_emb_val t _ 0 rfl).trans (by rw [index_rows t]; rfl))
      ((win0_2.rect_emb_val t _ 1 rfl).trans (by rw [index_rows t]; exact from_zero y))))

theorem target_block (t : Fin cfg0.N) (x : Fin 256) (y : Fin 2048) : targetAt m c t (ix2 x y) = target m c (ix2 (at_ t x) y) :=
  (congrFun (V_main_arg3 m c : V m c main_arg3 = m ((c.tc : Thread nD τ).loc main_arg3)) _).trans (congrArg (target m c)
    (place _ _ _ ((win0_3.rect_emb_val t _ 0 rfl).trans (by rw [index_target t]; rfl))
      ((win0_3.rect_emb_val t _ 1 rfl).trans (by rw [index_target t]; exact from_zero y))))

theorem weight_block (t : Fin cfg0.N) (x : Fin 1) (y : Fin 2048) : weightAt m c t (ix2 x y) = weight m c (ix2 x y) :=
  (congrFun (V_main_arg4 m c : V m c main_arg4 = m ((c.tc : Thread nD τ).loc main_arg4)) _).trans (congrArg (weight m c)
    (place _ _ _ ((win0_4.rect_emb_val t _ 0 rfl).trans (by rw [index_weight t]; exact from_zero x))
      ((win0_4.rect_emb_val t _ 1 rfl).trans (by rw [index_weight t]; exact from_zero y))))

/-- The output's row `i`, the last norm's weights and the target's row `i`. -/
abbrev row (i : Fin 8192) : Fin 2048 → EReal := outRow (R := 8192) (merged m c) (product m c) (rows m c) i
abbrev scale : Fin 2048 → EReal := fun k => weight m c (ix2 0 k)
abbrev goal (i : Fin 8192) : Fin 2048 → EReal := fun k => target m c (ix2 i k)

theorem row_block (t : Fin cfg0.N) (n : Fin 256) : tileRow (rowsAt m c t) (mergedAt m c t) (productAt m c t) n = row m c (at_ t n) := by
  funext k
  show rowsAt m c t (ix2 n k) + ∑ q : Fin 2048, mergedAt m c t (ix2 n q) * productAt m c t (ix2 q k) = _
  rw [rows_block]
  exact congrArg _ (Finset.sum_congr rfl fun q _ => by rw [merged_block, product_block])

theorem scale_block (t : Fin cfg0.N) : tileWeight (weightAt m c t) = scale m c := funext fun k => weight_block m c t 0 k

theorem goal_block (t : Fin cfg0.N) (n : Fin 256) : tileTarget (targetAt m c t) n = goal m c (at_ t n) := funext fun k => target_block m c t n k

/-! ### The gradient of the output, in both types -/

theorem written (t : Fin cfg0.N) :
    (outsAt0 m c t.val t.isLt).1 = k0_pay10 (F := Ideal) (rowsAt m c t) (mergedAt m c t) (productAt m c t) (weightAt m c t) (targetAt m c t)
      ∧ (outsAt0 m c t.val t.isLt).2.1 = k0_pay11 (F := Ideal) (rowsAt m c t) (mergedAt m c t) (productAt m c t) (weightAt m c t) (targetAt m c t) := by
  by_cases h : t.val % 32 = 0
  · rw [outsAt0_A m c t h]
    dsimp only
    rw [left_grad_first, left_rounded_first]
    exact ⟨rfl, rfl⟩
  · rw [outsAt0_B m c t h]
    dsimp only
    rw [left_grad, left_rounded]
    exact ⟨rfl, rfl⟩

theorem grad_tile (t : Fin cfg0.N) (x : Fin 256) (j : Fin 2048) :
    (k0_pay10 (F := Ideal) (rowsAt m c t) (mergedAt m c t) (productAt m c t) (weightAt m c t) (targetAt m c t) (ix2 x j) : EReal)
      = outGrad (row m c (at_ t x)) (scale m c) (goal m c (at_ t x)) j := by
  refine (grad_entry (rowsAt m c t) (targetAt m c t) (mergedAt m c t) (productAt m c t) (weightAt m c t) x j).trans ?_
  rw [row_block, scale_block, goal_block]

theorem point_lt {k : ℕ} (hk : k < 32) : k < cfg0.N := lt_of_lt_of_eq hk N_0.symm

/-- A row's grid point and its place in that point's block. -/
abbrev pointOf (i : Fin 8192) : Fin cfg0.N := ⟨i.val / 256, point_lt (by omega)⟩
abbrev placeOf (i : Fin 8192) : Fin 256 := ⟨i.val % 256, Nat.mod_lt _ (by decide)⟩

theorem at_point (i : Fin 8192) : at_ (pointOf i) (placeOf i) = i := Fin.ext (by show i.val / 256 * 256 + i.val % 256 = i.val; omega)

theorem grad_row (i : Fin 8192) (j : Fin 2048) :
    (k0_pay10 (F := Ideal) (rowsAt m c (pointOf i)) (mergedAt m c (pointOf i)) (productAt m c (pointOf i)) (weightAt m c (pointOf i)) (targetAt m c (pointOf i)) (ix2 (placeOf i) j) : EReal)
      = outGrad (row m c i) (scale m c) (goal m c i) j := by
  rw [grad_tile, at_point]

theorem grad_array (i : Fin 8192) (j : Fin 2048) :
    ((dats m 0 c).arrAt 5 cfg0.N : S8192x2048.Idx → EReal) (ix2 i j) = outGrad (row m c i) (scale m c) (goal m c i) j := by
  have e := congrFun (blocks5 m c (pointOf i) (flush0_5 _)) (ix2 (placeOf i) j)
  rw [flushed5, (written m c _).1] at e
  have hx : (win0_5.rect (pointOf i)).emb (ix2 (placeOf i) j) = ix2 i j :=
    place _ _ _ ((win0_5.rect_emb_val (pointOf i) _ 0 rfl).trans (by rw [index_grad (pointOf i)]; exact congrArg Fin.val (at_point i)))
      ((win0_5.rect_emb_val (pointOf i) _ 1 rfl).trans (by rw [index_grad (pointOf i)]; exact from_zero j))
  exact (congrArg ((dats m 0 c).arrAt 5 cfg0.N : S8192x2048.Idx → EReal) hx.symm).trans (e.trans (grad_row m c i j))

theorem rounded_array (i : Fin 8192) (j : Fin 2048) :
    ((dats m 0 c).arrAt 6 cfg0.N : S8192x2048.Idx → EReal) (ix2 i j) = outGrad (row m c i) (scale m c) (goal m c i) j := by
  have e := congrFun (blocks6 m c (pointOf i) (flush0_6 _)) (ix2 (placeOf i) j)
  rw [flushed6, (written m c _).2] at e
  have hx : (win0_6.rect (pointOf i)).emb (ix2 (placeOf i) j) = ix2 i j :=
    place _ _ _ ((win0_6.rect_emb_val (pointOf i) _ 0 rfl).trans (by rw [index_rounded (pointOf i)]; exact congrArg Fin.val (at_point i)))
      ((win0_6.rect_emb_val (pointOf i) _ 1 rfl).trans (by rw [index_rounded (pointOf i)]; exact from_zero j))
  exact (congrArg ((dats m 0 c).arrAt 6 cfg0.N : S8192x2048.Idx → EReal) hx.symm).trans (e.trans (grad_row m c i j))

/-! ### The loss and the gradient of the last norm's weights -/

/-- What row `n` gives to the loss and to the gradient of the weights. -/
def lossTerm (n : ℕ) : EReal := if h : n < 8192 then lossOf (row m c ⟨n, h⟩) (scale m c) (goal m c ⟨n, h⟩) else 0
def sumTerm (j : Fin 2048) (n : ℕ) : EReal := if h : n < 8192 then weightGrad (row m c ⟨n, h⟩) (scale m c) (goal m c ⟨n, h⟩) j else 0

/-- A sum that starts at the first grid point's part and takes each later point's part holds, after the last, all rows'. -/
theorem total (f : ℕ → EReal) (S : (k : ℕ) → k < 32 → EReal) (first : S 0 (by decide) = ∑ n : Fin 256, f (0 * 256 + n.val))
    (next : ∀ k (h : k + 1 < 32) (h' : k < 32), S (k + 1) h = S k h' + ∑ n : Fin 256, f ((k + 1) * 256 + n.val))
    (r : ℕ) (hr : 32 * 256 = r) : S 31 (by decide) = ∑ n : Fin r, f n.val := by
  subst hr
  refine (accumulated f 256 32 S (fun _ => first.trans ?_) next 31 (by decide)).trans (Finset.sum_range _)
  simp only [Nat.zero_mul, Nat.zero_add]

/-- An output that is written back at the last point alone is written once. -/
theorem once (w : Fin 9) (hf : ∀ t : Fin cfg0.N, (cfg0.win w).flush t = true ↔ t.val % 32 = 31) (t t' : Fin cfg0.N)
    (h : (cfg0.win w).flush t = true) (h' : (cfg0.win w).flush t' = true) (hne : t ≠ t') : Disjoint ((cfg0.win w).blk t).view.set ((cfg0.win w).blk t').view.set := by
  have a := (hf t).mp h
  have b := (hf t').mp h'
  have := lt_of_lt_of_eq t.isLt N_0
  have := lt_of_lt_of_eq t'.isLt N_0
  exact absurd (Fin.ext (by omega)) hne

theorem loss_terms (t : Fin cfg0.N) : ∑ n : Fin 256, lossOf (tileRow (rowsAt m c t) (mergedAt m c t) (productAt m c t) n) (tileWeight (weightAt m c t)) (tileTarget (targetAt m c t) n) = ∑ n : Fin 256, lossTerm m c (t.val * 256 + n.val) := by
  refine Finset.sum_congr rfl fun n _ => ?_
  rw [lossTerm, dif_pos (at_lt t n), row_block, scale_block, goal_block]

theorem loss_after (l : Fin 128) : ((outsAt0 m c 31 (point_lt (by decide))).2.2.1 (ix2 0 l) : EReal) = ∑ n : Fin 8192, lossTerm m c n.val := by
  refine total (lossTerm m c) (fun k hk => ((outsAt0 m c k (point_lt hk)).2.2.1 (ix2 0 l) : EReal)) ?_ (fun k h h' => ?_) 8192 rfl
  · have e := outsAt0_A m c ⟨0, point_lt (by decide)⟩ rfl
    refine (congrFun (congrArg (fun p => p.2.2.1) e) (ix2 0 l)).trans ?_
    dsimp only
    rw [left_loss_first]
    refine (loss_entry (rowsAt m c _) (targetAt m c _) (mergedAt m c _) (productAt m c _) (weightAt m c _) _ _ _).trans ?_
    rw [loss_start, zero_add, loss_terms]
  · have e := outsAt0_B m c ⟨k + 1, point_lt h⟩ (by dsimp only; omega)
    refine (congrFun (congrArg (fun p => p.2.2.1) e) (ix2 0 l)).trans ?_
    dsimp only
    rw [left_loss]
    refine (loss_entry (rowsAt m c _) (targetAt m c _) (mergedAt m c _) (productAt m c _) (weightAt m c _) _ _ _).trans ?_
    rw [loss_terms]
    rfl

theorem loss_flushed (t : Fin cfg0.N) (h : t.val % 32 = 31) (l : Fin 128) :
    ((dats m 0 c).arrAt 7 cfg0.N : S1x128.Idx → EReal) (ix2 0 l) = (outsAt0 m c t.val t.isLt).2.2.1 (ix2 0 l) := by
  have e := congrFun ((dats m 0 c).read_blk_arrAt_eq_flushed 7 (once 7 flush0_7) cfg0.N t t.isLt ((flush0_7 t).mpr h)) (ix2 0 l)
  rw [flushed7 m c t] at e
  have hx : (win0_7.rect t).emb (ix2 0 l) = ix2 0 l :=
    place _ _ _ ((win0_7.rect_emb_val t _ 0 rfl).trans (by rw [index_loss t]; rfl)) ((win0_7.rect_emb_val t _ 1 rfl).trans (by rw [index_loss t]; exact from_zero l))
  exact (congrArg ((dats m 0 c).arrAt 7 cfg0.N : S1x128.Idx → EReal) hx.symm).trans e

theorem loss_array (l : Fin 128) : ((dats m 0 c).arrAt 7 cfg0.N : S1x128.Idx → EReal) (ix2 0 l) = ∑ n : Fin 8192, lossTerm m c n.val :=
  (loss_flushed m c ⟨31, point_lt (by decide)⟩ rfl l).trans (loss_after m c l)

theorem sum_terms (t : Fin cfg0.N) (j : Fin 2048) : ∑ n : Fin 256, weightGrad (tileRow (rowsAt m c t) (mergedAt m c t) (productAt m c t) n) (tileWeight (weightAt m c t)) (tileTarget (targetAt m c t) n) j = ∑ n : Fin 256, sumTerm m c j (t.val * 256 + n.val) := by
  refine Finset.sum_congr rfl fun n _ => ?_
  rw [sumTerm, dif_pos (at_lt t n), row_block, scale_block, goal_block]

theorem sum_after (j : Fin 2048) : ((outsAt0 m c 31 (point_lt (by decide))).2.2.2 (ix2 0 j) : EReal) = ∑ n : Fin 8192, sumTerm m c j n.val := by
  refine total (sumTerm m c j) (fun k hk => ((outsAt0 m c k (point_lt hk)).2.2.2 (ix2 0 j) : EReal)) ?_ (fun k h h' => ?_) 8192 rfl
  · have e := outsAt0_A m c ⟨0, point_lt (by decide)⟩ rfl
    refine (congrFun (congrArg (fun p => p.2.2.2) e) (ix2 0 j)).trans ?_
    dsimp only
    rw [left_weights_first]
    refine (weights_entry (rowsAt m c _) (targetAt m c _) (mergedAt m c _) (productAt m c _) (weightAt m c _) _ _ _).trans ?_
    rw [weights_start, zero_add, sum_terms]
  · have e := outsAt0_B m c ⟨k + 1, point_lt h⟩ (by dsimp only; omega)
    refine (congrFun (congrArg (fun p => p.2.2.2) e) (ix2 0 j)).trans ?_
    dsimp only
    rw [left_weights]
    refine (weights_entry (rowsAt m c _) (targetAt m c _) (mergedAt m c _) (productAt m c _) (weightAt m c _) _ _ _).trans ?_
    rw [sum_terms]
    rfl

theorem sum_flushed (t : Fin cfg0.N) (h : t.val % 32 = 31) (j : Fin 2048) :
    ((dats m 0 c).arrAt 8 cfg0.N : S1x2048.Idx → EReal) (ix2 0 j) = (outsAt0 m c t.val t.isLt).2.2.2 (ix2 0 j) := by
  have e := congrFun ((dats m 0 c).read_blk_arrAt_eq_flushed 8 (once 8 flush0_8) cfg0.N t t.isLt ((flush0_8 t).mpr h)) (ix2 0 j)
  rw [flushed8 m c t] at e
  have hx : (win0_8.rect t).emb (ix2 0 j) = ix2 0 j :=
    place _ _ _ ((win0_8.rect_emb_val t _ 0 rfl).trans (by rw [index_sum t]; rfl)) ((win0_8.rect_emb_val t _ 1 rfl).trans (by rw [index_sum t]; exact from_zero j))
  exact (congrArg ((dats m 0 c).arrAt 8 cfg0.N : S1x2048.Idx → EReal) hx.symm).trans e

theorem sum_array (j : Fin 2048) : ((dats m 0 c).arrAt 8 cfg0.N : S1x2048.Idx → EReal) (ix2 0 j) = ∑ n : Fin 8192, sumTerm m c j n.val :=
  (sum_flushed m c ⟨31, point_lt (by decide)⟩ rfl j).trans (sum_after m c j)

end Cert.Kernel16Ideal.OutLoss

namespace Cert.OutLoss

open Idealize.ShloMosaic Idealize.ShloMosaic.TcCoe Idealize.ShloMosaic.Tactic Idealize.SL.Sem Cert.Tiles Cert.LossMath

section reference
open Cert.Reference16Ideal Cert.Reference16Ideal.Facts₀

variable (a : FVec Ideal S8192x2048 .bf16) (v : FVec Ideal S2048x2048 .bf16) (x t : FVec Ideal S8192x2048 .f32) (w : FVec Ideal S1x2048 .f32)

/-- The reference's output, mean squares, normed rows, errors, the errors' cotangent with the chain rule's factor, the rows'
    cotangent, and what reaches a row through its mean square. -/
abbrev out : FVec Ideal S8192x2048 .f32 :=
  addf x (Host.dotGeneral dot_S8192x2048_S2048x2048_S8192x2048_1_0_0_1_n_n none (extf .f32 a bitsLt_bf16_f32) (extf .f32 v bitsLt_bf16_f32))

abbrev meanSq (o : FVec Ideal S8192x2048 .f32) : FVec Ideal S8192x1 .f32 :=
  addf (Host.divf (broadcastInDim S8192x1 ![0] bcast_S8192_S8192x1_0 (Host.reduceAdd (mulf o o) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32))

abbrev normed (o : FVec Ideal S8192x2048 .f32) : FVec Ideal S8192x2048 .f32 :=
  mulf o (broadcastInDim S8192x2048 ![0, 1] bcast_S8192x1_S8192x2048_0_1 (Host.rsqrt (meanSq o)))

abbrev err (o : FVec Ideal S8192x2048 .f32) : FVec Ideal S8192x2048 .f32 :=
  subf (mulf (normed o) (broadcastInDim S8192x2048 ![0, 1] bcast_S1x2048_S8192x2048_0_1 w)) t

abbrev cotangent (e : FVec Ideal S8192x2048 .f32) : FVec Ideal S8192x2048 .f32 :=
  mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) e)

abbrev scaled (e : FVec Ideal S8192x2048 .f32) : FVec Ideal S8192x2048 .f32 :=
  mulf (cotangent e) (broadcastInDim S8192x2048 ![0, 1] bcast_S1x2048_S8192x2048_0_1 w)

abbrev through (o g : FVec Ideal S8192x2048 .f32) : FVec Ideal S8192x2048 .f32 :=
  broadcastInDim S8192x2048 ![0] bcast_S8192_S8192x2048_0 (Host.reduceAdd (Host.divf (mulf (shapeCast S8192x1 (Host.reduceAdd (mulf o g) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt (meanSq o)) (meanSq o)))) (broadcastInDim S8192x1 ![] bcast_S_S8192x1 (constant S_ .f32 0x45000000#32))) (constant S_ .f32 0x00000000#32) reducesTo_S8192x1_S8192_d1 h_S_)

abbrev rowOf (i : Fin 8192) : Fin 2048 → EReal := outRow (R := 8192) a v x i

theorem out_entry (i : Fin 8192) (j : Fin 2048) : (out a v x (ix2 i j) : EReal) = rowOf a v x i j := by
  pointwise

theorem row_eq (i : Fin 8192) : (fun k => (out a v x (ix2 i k) : EReal)) = rowOf a v x i := funext fun k => out_entry a v x i k

theorem scaled_entry (o : FVec Ideal S8192x2048 .f32) (i : Fin 8192) (j : Fin 2048) :
    (scaled w (err t w o) (ix2 i j) : EReal) = back (fun k => o (ix2 i k)) (fun k => w (ix2 0 k)) (fun k => t (ix2 i k)) j := by
  pointwise
  simp only [error_factor]

theorem grad_sum (o g : FVec Ideal S8192x2048 .f32) (i : Fin 8192) (j : Fin 2048) :
    (addf (addf (mulf g (broadcastInDim S8192x2048 ![0, 1] bcast_S8192x1_S8192x2048_0_1 (Host.rsqrt (meanSq o)))) (mulf o (through o g))) (mulf (through o g) o) : FVec Ideal S8192x2048 .f32) (ix2 i j)
      = Cert.NormMath.factor (fun k => (o (ix2 i k) : EReal)) * (g (ix2 i j) - o (ix2 i j) * Cert.NormMath.factor (fun k => (o (ix2 i k) : EReal)) * Ideal.div (∑ k : Fin 2048, (g (ix2 i k) : EReal) * (o (ix2 i k) * Cert.NormMath.factor (fun k => (o (ix2 i k) : EReal)))) (Ideal.ofBits .f32 0x45000000#32)) := by
  have e := Cert.NormMath.row (fun k => (o (ix2 i k) : EReal)) (fun k => g (ix2 i k)) 0 j
  rw [zero_add, zero_add] at e
  refine .trans ?_ e.symm
  pointwise
  simp only [Fin.sum_univ_one]

theorem grad_entry (i : Fin 8192) (j : Fin 2048) :
    (addf (addf (mulf (scaled w (err t w (out a v x))) (broadcastInDim S8192x2048 ![0, 1] bcast_S8192x1_S8192x2048_0_1 (Host.rsqrt (meanSq (out a v x))))) (mulf (out a v x) (through (out a v x) (scaled w (err t w (out a v x)))))) (mulf (through (out a v x) (scaled w (err t w (out a v x)))) (out a v x)) : FVec Ideal S8192x2048 .f32) (ix2 i j)
      = outGrad (rowOf a v x i) (fun k => w (ix2 0 k)) (fun k => t (ix2 i k)) j := by
  refine (grad_sum (out a v x) (scaled w (err t w (out a v x))) i j).trans ?_
  simp only [scaled_entry, out_entry]

theorem loss_sum (o : FVec Ideal S8192x2048 .f32) (i : Fin 1) (l : Fin 128) :
    (broadcastInDim S1x128 ![] bcast_S_S1x128 (mulf (constant S_ .f32 0x3F000000#32) (Host.reduceAdd (Host.divf (Host.reduceAdd (mulf (err t w o) (err t w o)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)) : FVec Ideal S1x128 .f32) (ix2 i l)
      = ∑ n : Fin 8192, lossOf (fun k => (o (ix2 n k) : EReal)) (fun k => w (ix2 0 k)) (fun k => t (ix2 n k)) := by
  refine .trans ?_ (half_means fun n => ∑ k, errorOf (fun k => (o (ix2 n k) : EReal)) (fun k => w (ix2 0 k)) (fun k => t (ix2 n k)) k * errorOf (fun k => (o (ix2 n k) : EReal)) (fun k => w (ix2 0 k)) (fun k => t (ix2 n k)) k)
  pointwise

theorem weights_sum (o : FVec Ideal S8192x2048 .f32) (j : Fin 2048) :
    (shapeCast S1x2048 (Host.reduceAdd (mulf (normed o) (cotangent (err t w o))) (constant S_ .f32 0x00000000#32) reducesTo_S8192x2048_S2048_d0 h_S_) shapeCasts_S2048_S1x2048 : FVec Ideal S1x2048 .f32) (ix2 0 j)
      = ∑ n : Fin 8192, weightGrad (fun k => (o (ix2 n k) : EReal)) (fun k => w (ix2 0 k)) (fun k => t (ix2 n k)) j := by
  pointwise
  refine Finset.sum_congr rfl fun n _ => ?_
  rw [error_factor, mul_comm]

end reference

theorem algebraic : Cert.algebraic_Kernel16Ideal_Reference16Ideal (hKernel16Ideal := Cert.Kernel16Ideal.Gen.facts)
    (hReference16Ideal := Cert.Reference16Ideal.Gen.facts) := fun m g m' g' _ hargs => by
  refine ⟨_, _, _, _, Cert.Kernel16Ideal.Value.run_blocks (F := Ideal) m g, ?_⟩
  refine (θ_run Cert.Reference16Ideal.defs _ _).mono (fun _ h c => ⟨(h c).1.trans (funext fun y => ?_), (h c).2.1.trans (funext fun y => ?_),
      (h c).2.2.1.trans (funext fun y => ?_), (h c).2.2.2.1.trans (funext fun y => ?_), (h c).2.2.2.2⟩)
    (Cert.Reference16Ideal.Value.run (F := Ideal) m' g')
  all_goals
    obtain ⟨h0, h1, h2, h3, h4⟩ := hargs c
    rw [← ix2_eta y]
    generalize y 0 = i
    generalize y 1 = j
  · unfold Cert.Reference16Ideal.Value.res_main_v52
    rw [h0, h1, h2, h3, h4]
    change Fin 8192 at i
    change Fin 2048 at j
    exact (grad_entry _ _ _ _ _ i j).trans (Cert.Kernel16Ideal.OutLoss.grad_array m c i j).symm
  · unfold Cert.Reference16Ideal.Value.res_main_v53
    rw [h0, h1, h2, h3, h4]
    change Fin 8192 at i
    change Fin 2048 at j
    exact (grad_entry _ _ _ _ _ i j).trans (Cert.Kernel16Ideal.OutLoss.rounded_array m c i j).symm
  · rw [h0, h1, h2, h3, h4]
    change Fin 1 at i
    change Fin 128 at j
    obtain rfl : i = 0 := Subsingleton.elim _ _
    refine (loss_sum _ _ _ 0 j).trans (.trans ?_ (Cert.Kernel16Ideal.OutLoss.loss_array m c j).symm)
    refine Finset.sum_congr rfl fun n _ => ?_
    rw [Cert.Kernel16Ideal.OutLoss.lossTerm, dif_pos n.isLt, row_eq]
  · rw [h0, h1, h2, h3, h4]
    change Fin 1 at i
    change Fin 2048 at j
    obtain rfl : i = 0 := Subsingleton.elim _ _
    refine (weights_sum _ _ _ j).trans (.trans ?_ (Cert.Kernel16Ideal.OutLoss.sum_array m c j).symm)
    refine Finset.sum_congr rfl fun n _ => ?_
    rw [Cert.Kernel16Ideal.OutLoss.sumTerm, dif_pos n.isLt, row_eq]

end Cert.OutLoss

end
-- ==== Proof.StepWeightGrad.lean ====
module

public import proofs.«01_k».proof.Defs
public import proofs.«01_k».proof.Proof.Tiles
public import proofs.«01_k».proof.Proof.Gen.Kernel17Ideal.Value
public import proofs.«01_k».proof.Proof.Gen.Reference17Ideal.Run
public import Idealize.ShloMosaic.Lib.Claim

/-!
# The gradient of the step sizes' weights

The product of the transposed cotangent of the step sizes and the rows, a sum of 8192 terms, accumulated over 8 tiles.
-/

@[expose] public section

noncomputable section

namespace Cert.Kernel17Ideal.StepWeightGrad

open Idealize.ShloMosaic Idealize.ShloMosaic.TcCoe Idealize.ShloMosaic.Tactic
open Cert.Kernel17Ideal.Gen Cert.Kernel17Ideal.Value Cert.Tiles

/-! ### What a grid point computes -/

theorem first_tile (a : Vec Ideal S1024x128 .bf16) (b : Vec Ideal S1024x2048 .bf16) (x : Fin 128) (y : Fin 2048) :
    k0_pay1 a b (ix2 x y) = ∑ k : Fin 1024, (a (ix2 k x) * b (ix2 k y) : EReal) := by
  unfold k0_pay1
  pointwise

theorem next_tile (s : Vec Ideal S128x2048 .f32) (a : Vec Ideal S1024x128 .bf16) (b : Vec Ideal S1024x2048 .bf16) (x : Fin 128) (y : Fin 2048) :
    k0_pay2 s a b (ix2 x y) = (s (ix2 x y) + ∑ k : Fin 1024, (a (ix2 k x) * b (ix2 k y) : EReal) : EReal) := by
  unfold k0_pay2
  pointwise

theorem last_tile (s : Vec Ideal S128x2048 .f32) (a : Vec Ideal S1024x128 .bf16) (b : Vec Ideal S1024x2048 .bf16) (x : Fin 128) (y : Fin 2048) :
    k0_pay3 s a b (ix2 x y) = (s (ix2 x y) + ∑ k : Fin 1024, (a (ix2 k x) * b (ix2 k y) : EReal) : EReal) := by
  unfold k0_pay3
  pointwise

section
variable {F : FTy → Type} [FloatOps F] (c : Dev nD) (i : grid0.Coords)
  (arg3 : Memref sig .tc .vmem S1024x128 .bf16) (harg3 : arg3.IsWhole) (arg4 : Memref sig .tc .vmem S1024x2048 .bf16) (harg4 : arg4.IsWhole)
  (arg5 : Memref sig .tc .vmem S128x2048 .bf16) (harg5 : arg5.IsWhole) (arg6 : Memref sig .tc .vmem S128x2048 .f32) (harg6 : arg6.IsWhole)

theorem left_first (hc0 : cond0_0 i) (hc1 : ¬cond0_1 i) (hc2 : ¬cond0_2 i) (a : Vec F S1024x128 .bf16) (b : Vec F S1024x2048 .bf16) :
    sout0_A_0 c i arg3 harg3 arg4 harg4 arg5 harg5 arg6 harg6 hc0 hc1 hc2 a b = k0_pay1 a b := by
  unfold sout0_A_0
  rw [View.read_writes_eq_canon _ _ _ (scover0_A_0 c i arg3 harg3 arg4 harg4 arg5 harg5 arg6 harg6 hc0 hc1 hc2 a b)]
  unfold kernelRun0_A
  dsimp only
  rw [View.canon_unit_zero at_origin]
  simp only [View.readAt_eq_ld, harg3.read_unread, harg4.read_unread, View.ld_unit_zero (S := S1024x128) at_origin, View.ld_unit_zero (S := S1024x2048) at_origin, View.ld_unit_zero (S := S128x2048) at_origin]

theorem left_next (hc0 : ¬cond0_0 i) (hc1 : cond0_1 i) (hc2 : ¬cond0_2 i) (a : Vec F S1024x128 .bf16) (b : Vec F S1024x2048 .bf16)
    (s : Vec F S128x2048 .f32) :
    sout0_B_0 c i arg3 harg3 arg4 harg4 arg5 harg5 arg6 harg6 hc0 hc1 hc2 a b s = k0_pay2 s a b := by
  unfold sout0_B_0
  rw [View.read_writes_eq_canon _ _ _ (scover0_B_0 c i arg3 harg3 arg4 harg4 arg5 harg5 arg6 harg6 hc0 hc1 hc2 a b s)]
  unfold kernelRun0_B
  dsimp only
  rw [View.canon_unit_zero at_origin]
  simp only [View.readAt_eq_ld, harg3.read_unread, harg4.read_unread, harg6.read_unread, View.ld_unit_zero (S := S1024x128) at_origin, View.ld_unit_zero (S := S1024x2048) at_origin, View.ld_unit_zero (S := S128x2048) at_origin]

theorem left_last (hc0 : ¬cond0_0 i) (hc1 : ¬cond0_1 i) (hc2 : cond0_2 i) (a : Vec F S1024x128 .bf16) (b : Vec F S1024x2048 .bf16)
    (s : Vec F S128x2048 .f32) :
    out0_C_2 c i arg3 harg3 arg4 harg4 arg5 harg5 arg6 harg6 hc0 hc1 hc2 a b s = k0_pay3 s a b := by
  unfold out0_C_2
  rw [View.read_writes_eq_canon _ _ _ (cover0_C_2 c i arg3 harg3 arg4 harg4 arg5 harg5 arg6 harg6 hc0 hc1 hc2 a b s)]
  unfold kernelRun0_C
  dsimp only
  rw [View.canon_unit_zero at_origin]
  simp only [View.readAt_eq_ld, harg3.read_unread, harg4.read_unread, harg6.read_unread, View.ld_unit_zero (S := S1024x128) at_origin, View.ld_unit_zero (S := S1024x2048) at_origin, View.ld_unit_zero (S := S128x2048) at_origin]

end

/-! ### The blocks it takes, in their arrays -/

variable (m : (ℓ : Loc nD τ sig) → Buf (Elt Ideal) ℓ) (c : Dev nD)

/-- The cotangent of the step sizes, and the rows. -/
abbrev cotangent : S8192x128.Idx → EReal := m ((c.tc : Thread nD τ).loc main_arg0)
abbrev hidden : S8192x2048.Idx → EReal := m ((c.tc : Thread nD τ).loc main_arg1)

theorem index_left : ∀ t : Fin grid0.N, win0_0.index t = ![t.val, 0] := by decide +kernel
theorem index_right : ∀ t : Fin grid0.N, win0_1.index t = ![t.val, 0] := by decide +kernel

/-- The blocks that a grid point takes of the two. -/
abbrev leftAt (t : Fin cfg0.N) : S1024x128.Idx → EReal := iblk m c 0 t
abbrev rightAt (t : Fin cfg0.N) : S1024x2048.Idx → EReal := iblk m c 1 t

theorem left_block (t : Fin cfg0.N) (ht : t.val < 8) (k : Fin 1024) (x : Fin 128) : leftAt m c t (ix2 k x) = entry (cotangent m c) (t.val * 1024 + k.val) x.val := by
  rw [entry_at _ (by omega) x.isLt]
  have hV : V m c main_arg0 = m ((c.tc : Thread nD τ).loc main_arg0) := V_main_arg0 m c
  refine (congrFun hV _).trans (congrArg (cotangent m c) (funext fun a => Fin.ext ?_))
  refine (win0_0.rect_emb_val t (ix2 k x) a rfl).trans ?_
  rw [index_left t]
  match a with
  | 0 => rfl
  | 1 => show 0 * 128 + x.val = x.val; omega

theorem right_block (t : Fin cfg0.N) (ht : t.val < 8) (k : Fin 1024) (y : Fin 2048) : rightAt m c t (ix2 k y) = entry (hidden m c) (t.val * 1024 + k.val) y.val := by
  rw [entry_at _ (by omega) y.isLt]
  have hV : V m c main_arg1 = m ((c.tc : Thread nD τ).loc main_arg1) := V_main_arg1 m c
  refine (congrFun hV _).trans (congrArg (hidden m c) (funext fun a => Fin.ext ?_))
  refine (win0_1.rect_emb_val t _ a rfl).trans ?_
  rw [index_right t]
  match a with
  | 0 => rfl
  | 1 => show 0 * 2048 + y.val = y.val; omega

/-! ### The tiles, added -/

/-- One term of the product. -/
abbrev term (i j n : ℕ) : EReal := entry (cotangent m c) n i * entry (hidden m c) n j

/-- A tile of the product: what grid point `k` adds. -/
theorem tile (k : ℕ) (hk : k < 8) (h : k < cfg0.N) (x : Fin 128) (y : Fin 2048) :
    ∑ n : Fin 1024, (leftAt m c ⟨k, h⟩ (ix2 n x) * rightAt m c ⟨k, h⟩ (ix2 n y)) = ∑ n : Fin 1024, term m c x.val y.val (k * 1024 + n.val) := by
  refine Finset.sum_congr rfl fun n _ => ?_
  rw [left_block m c ⟨k, h⟩ hk, right_block m c ⟨k, h⟩ hk]

theorem point_lt {k : ℕ} (hk : k < 8) : k < cfg0.N := lt_of_lt_of_eq hk N_0.symm

/-- What the call carries after tile `k` is the sum of the tiles up to it. -/
theorem carried (x : Fin 128) (y : Fin 2048) : ∀ k (hk : k < 7),
    ((outsAt0 m c k (point_lt (by omega))).2 (ix2 x y) : EReal) = ∑ n ∈ Finset.range ((k + 1) * 1024), term m c x.val y.val n := by
  refine accumulated _ 1024 7 (fun k hk => ((outsAt0 m c k (point_lt (by omega))).2 (ix2 x y) : EReal)) (fun h => ?_) (fun k h h' => ?_)
  · have e := outsAt0_A m c ⟨0, point_lt (by omega)⟩ (by dsimp only) (by dsimp only; omega) (by dsimp only; omega)
    refine (congrFun (congrArg Prod.snd e) (ix2 x y)).trans ?_
    dsimp only
    rw [left_first, first_tile, tile m c 0 (by omega)]
    simp only [Nat.zero_mul, Nat.zero_add]
  · have e := outsAt0_B m c ⟨k + 1, point_lt (by omega)⟩ (by dsimp only; omega) (by dsimp only; omega) (by dsimp only; omega)
    refine (congrFun (congrArg Prod.snd e) (ix2 x y)).trans ?_
    dsimp only
    rw [left_next, next_tile, tile m c (k + 1) (by omega)]
    rfl

/-- What the call writes at its last grid point. -/
theorem written (x : Fin 128) (y : Fin 2048) :
    ((outsAt0 m c 7 (point_lt (by omega))).1 (ix2 x y) : EReal) = ∑ n ∈ Finset.range 8192, term m c x.val y.val n := by
  have e := outsAt0_C m c ⟨7, point_lt (by omega)⟩ (by dsimp only; omega) (by dsimp only; omega) (by dsimp only)
  refine (congrFun (congrArg Prod.fst e) (ix2 x y)).trans ?_
  dsimp only
  rw [left_last, last_tile, tile m c 7 (by omega)]
  refine (congrArg (· + _) (carried m c x y 6 (by omega))).trans ?_
  rw [← Finset.sum_range fun n => term m c x.val y.val (7 * 1024 + n)]
  exact (Finset.sum_range_add _ _ _).symm

/-- The array the call leaves: the product of the transposed cotangent of the step sizes and the rows. -/
theorem array (i : Fin 128) (j : Fin 2048) : (G2 m c (ix2 i j) : EReal) = ∑ n : Fin 8192, term m c i.val j.val n.val := by
  have hp : pt2Of (ix2 i j) = 7 := by
    show 8 * (1 * (i.val / 128 - 0) + 1 * (j.val / 2048 - 0)) + 7 = _
    omega
  have hl : loc2Of (ix2 i j) = ix2 i j := by
    funext a
    match a with
    | 0 => exact Fin.ext (Nat.mod_eq_of_lt i.isLt)
    | 1 => exact Fin.ext (Nat.mod_eq_of_lt j.isLt)
  have hb := point_lt (k := 7) (by omega)
  unfold G2
  rw [dif_pos (lt_of_eq_of_lt hp hb), fold0_congr m c _ _ 7 (by omega) hp, ← outsAt0_sweep m c _ hb, hl, written, Finset.sum_range]

end Cert.Kernel17Ideal.StepWeightGrad

namespace Cert.StepWeightGrad

open Idealize.ShloMosaic Idealize.ShloMosaic.TcCoe Idealize.ShloMosaic.Tactic Idealize.SL.Sem Cert.Tiles

section reference
open Cert.Reference17Ideal Cert.Reference17Ideal.Facts₀

/-- The entries of the reference's result. -/
theorem reference_entry (d : Vec Ideal S8192x128 .bf16) (h : Vec Ideal S8192x2048 .bf16) (i : Fin 128) (j : Fin 2048) :
    (truncf .bf16 (transpose S128x2048 [1, 0] (transpose S2048x128 [1, 0] (Host.dotGeneral (F := Ideal) dot_S8192x128_S8192x2048_S128x2048_0_0_1_1_n_n none
      (extf .f32 d bitsLt_bf16_f32) (extf .f32 h bitsLt_bf16_f32)) transposes_S128x2048_S2048x128_1_0) transposes_S2048x128_S128x2048_1_0) bitsLt_bf16_f32
      : FVec Ideal S128x2048 .bf16) (ix2 i j)
      = (∑ n : Fin 8192, entry (d : S8192x128.Idx → EReal) n.val i.val * entry (h : S8192x2048.Idx → EReal) n.val j.val : EReal) := by
  pointwise
  refine Finset.sum_congr rfl fun n _ => ?_
  rw [entry_at _ n.isLt i.isLt, entry_at _ n.isLt j.isLt]

end reference

theorem algebraic : Cert.algebraic_Kernel17Ideal_Reference17Ideal (hKernel17Ideal := Cert.Kernel17Ideal.Gen.facts)
    (hReference17Ideal := Cert.Reference17Ideal.Gen.facts) := fun m g m' g' _ hargs => by
  refine ⟨_, Cert.Kernel17Ideal.Value.run (F := Ideal) m g, ?_⟩
  refine (θ_run Cert.Reference17Ideal.defs _ _).mono (fun _ h c => ⟨(h c).1.trans (funext fun y => ?_), (h c).2⟩)
    (Cert.Reference17Ideal.Value.run (F := Ideal) m' g')
  obtain ⟨h0, h1⟩ := hargs c
  rw [h0, h1, ← ix2_eta y]
  exact (reference_entry _ _ (y 0) (y 1)).trans (Cert.Kernel17Ideal.StepWeightGrad.array m c (y 0) (y 1)).symm

end Cert.StepWeightGrad

end
-- ==== Proof.StepRowGrad.lean ====
module

public import proofs.«01_k».proof.Defs
public import proofs.«01_k».proof.Proof.Tiles
public import proofs.«01_k».proof.Proof.Gen.Kernel18Ideal.Value
public import proofs.«01_k».proof.Proof.Gen.Reference18Ideal.Run
public import Idealize.ShloMosaic.Lib.Claim

/-!
# The gradient of the rows through the step sizes

A grid point takes 1024 rows of the product of the cotangent and the weights, with all of its 128 terms.
-/

@[expose] public section

noncomputable section

namespace Cert.Kernel18Ideal.StepRowGrad

open Idealize.ShloMosaic Idealize.ShloMosaic.TcCoe Idealize.ShloMosaic.Tactic
open Cert.Kernel18Ideal.Gen Cert.Kernel18Ideal.Value Cert.Tiles

/-- What a grid point computes. -/
theorem tile (a : Vec Ideal S1024x128 .bf16) (b : Vec Ideal S128x2048 .bf16) (x : Fin 1024) (y : Fin 2048) :
    k0_pay1 a b (ix2 x y) = ∑ k : Fin 128, (a (ix2 x k) * b (ix2 k y) : EReal) := by
  unfold k0_pay1
  pointwise

theorem left {F : FTy → Type} [FloatOps F] (c : Dev nD) (i : grid0.Coords)
    (arg3 : Memref sig .tc .vmem S1024x128 .bf16) (harg3 : arg3.IsWhole) (arg4 : Memref sig .tc .vmem S128x2048 .bf16) (harg4 : arg4.IsWhole)
    (arg5 : Memref sig .tc .vmem S1024x2048 .f32) (harg5 : arg5.IsWhole) (arg6 : Memref sig .tc .vmem S8x128 .f32) (harg6 : arg6.IsWhole)
    (a : Vec F S1024x128 .bf16) (b : Vec F S128x2048 .bf16) :
    out0_A_2 c i arg3 harg3 arg4 harg4 arg5 harg5 arg6 harg6 a b = k0_pay1 a b := by
  unfold out0_A_2
  rw [View.read_writes_eq_canon _ _ _ (cover0_A_2 c i arg3 harg3 arg4 harg4 arg5 harg5 arg6 harg6 a b)]
  unfold kernelRun0_A
  dsimp only
  rw [View.canon_unit_zero at_origin]
  simp only [View.readAt_eq_ld, harg3.read_unread, harg4.read_unread, View.ld_unit_zero (S := S1024x128) at_origin, View.ld_unit_zero (S := S128x2048) at_origin]

variable (m : (ℓ : Loc nD τ sig) → Buf (Elt Ideal) ℓ) (c : Dev nD)

/-- The weights, and the cotangent of the product. -/
abbrev weight : S128x2048.Idx → EReal := m ((c.tc : Thread nD τ).loc main_arg0)
abbrev cotangent : S8192x128.Idx → EReal := m ((c.tc : Thread nD τ).loc main_arg1)

theorem index_left : ∀ t : Fin grid0.N, win0_0.index t = ![t.val, 0] := by decide +kernel
theorem index_right : ∀ t : Fin grid0.N, win0_1.index t = ![0, 0] := by decide +kernel
theorem index_out : ∀ t : Fin grid0.N, win0_2.index t = ![t.val, 0] := by decide +kernel

/-- The blocks that a grid point takes of the two. -/
abbrev leftAt (t : Fin cfg0.N) : S1024x128.Idx → EReal := iblk m c 0 t
abbrev rightAt (t : Fin cfg0.N) : S128x2048.Idx → EReal := iblk m c 1 t

theorem left_block (t : Fin cfg0.N) (ht : t.val < 8) (x : Fin 1024) (k : Fin 128) :
    leftAt m c t (ix2 x k) = entry (cotangent m c) (t.val * 1024 + x.val) k.val := by
  rw [entry_at _ (by omega) k.isLt]
  have hV : V m c main_arg1 = m ((c.tc : Thread nD τ).loc main_arg1) := V_main_arg1 m c
  refine (congrFun hV _).trans (congrArg (cotangent m c) (funext fun a => Fin.ext ?_))
  refine (win0_0.rect_emb_val t (ix2 x k) a rfl).trans ?_
  rw [index_left t]
  match a with
  | 0 => rfl
  | 1 => show 0 * 128 + k.val = k.val; omega

theorem right_block (t : Fin cfg0.N) (ht : t.val < 8) (k : Fin 128) (y : Fin 2048) :
    rightAt m c t (ix2 k y) = entry (weight m c) k.val y.val := by
  rw [entry_at _ (by omega) y.isLt]
  have hV : V m c main_arg0 = m ((c.tc : Thread nD τ).loc main_arg0) := V_main_arg0 m c
  refine (congrFun hV _).trans (congrArg (weight m c) (funext fun a => Fin.ext ?_))
  refine (win0_1.rect_emb_val t _ a rfl).trans ?_
  rw [index_right t]
  match a with
  | 0 => show 0 * 128 + k.val = k.val; omega
  | 1 => show 0 * 2048 + y.val = y.val; omega

/-- The array the call leaves: the product of the cotangent and the weights. -/
theorem array (i : Fin 8192) (j : Fin 2048) :
    ((dats m 0 c).arrAt 2 cfg0.N : S8192x2048.Idx → EReal) (ix2 i j) = ∑ n : Fin 128, entry (cotangent m c) i.val n.val * entry (weight m c) n.val j.val := by
  have ht : i.val / 1024 < 8 := by omega
  have hN : i.val / 1024 < cfg0.N := lt_of_lt_of_eq ht N_0.symm
  have e := congrFun (blocks2 m c ⟨_, hN⟩ (flush0_2 _)) (ix2 ⟨i.val % 1024, Nat.mod_lt _ (by decide)⟩ j)
  rw [flushed2_A m c ⟨_, hN⟩, left] at e
  have hx : (win0_2.rect ⟨_, hN⟩).emb (ix2 ⟨i.val % 1024, Nat.mod_lt _ (by decide)⟩ j) = ix2 i j := by
    refine funext fun a => Fin.ext ((win0_2.rect_emb_val ⟨_, hN⟩ _ a rfl).trans ?_)
    rw [index_out ⟨_, hN⟩]
    match a with
    | 0 => show i.val / 1024 * 1024 + i.val % 1024 = i.val; omega
    | 1 => show 0 * 2048 + j.val = j.val; omega
  refine (congrArg ((dats m 0 c).arrAt 2 cfg0.N : S8192x2048.Idx → EReal) hx.symm).trans (e.trans ?_)
  refine (tile (leftAt m c ⟨_, hN⟩) (rightAt m c ⟨_, hN⟩) _ _).trans (Finset.sum_congr rfl fun n _ => ?_)
  refine (congrArg₂ (· * ·) (left_block m c ⟨_, hN⟩ ht _ n) (right_block m c ⟨_, hN⟩ ht n _)).trans ?_
  dsimp only
  rw [show i.val / 1024 * 1024 + i.val % 1024 = i.val by omega]

end Cert.Kernel18Ideal.StepRowGrad

namespace Cert.StepRowGrad

open Idealize.ShloMosaic Idealize.ShloMosaic.TcCoe Idealize.ShloMosaic.Tactic Idealize.SL.Sem Cert.Tiles

section reference
open Cert.Reference18Ideal Cert.Reference18Ideal.Facts₀

/-- The entries of the reference's result. -/
theorem reference_entry (w : Vec Ideal S128x2048 .bf16) (d : Vec Ideal S8192x128 .bf16) (i : Fin 8192) (j : Fin 2048) :
    (Host.dotGeneral (F := Ideal) dot_S8192x128_S2048x128_S8192x2048_1_1_0_0_n_n none (extf .f32 d bitsLt_bf16_f32)
      (transpose S2048x128 [1, 0] (extf .f32 w bitsLt_bf16_f32) transposes_S128x2048_S2048x128_1_0) : FVec Ideal S8192x2048 .f32) (ix2 i j)
      = (∑ n : Fin 128, entry (d : S8192x128.Idx → EReal) i.val n.val * entry (w : S128x2048.Idx → EReal) n.val j.val : EReal) := by
  pointwise
  refine Finset.sum_congr rfl fun n _ => ?_
  rw [entry_at _ i.isLt n.isLt, entry_at _ n.isLt j.isLt]

end reference

theorem algebraic : Cert.algebraic_Kernel18Ideal_Reference18Ideal (hKernel18Ideal := Cert.Kernel18Ideal.Gen.facts)
    (hReference18Ideal := Cert.Reference18Ideal.Gen.facts) := fun m g m' g' _ hargs => by
  refine ⟨_, Cert.Kernel18Ideal.Value.run_blocks (F := Ideal) m g, ?_⟩
  refine (θ_run Cert.Reference18Ideal.defs _ _).mono (fun _ h c => ⟨(h c).1.trans (funext fun y => ?_), (h c).2⟩)
    (Cert.Reference18Ideal.Value.run (F := Ideal) m' g')
  obtain ⟨h0, h1⟩ := hargs c
  rw [h0, h1, ← ix2_eta y]
  exact (reference_entry _ _ (y 0) (y 1)).trans (Cert.Kernel18Ideal.StepRowGrad.array m c (y 0) (y 1)).symm

end Cert.StepRowGrad

end
-- ==== Proof.StepProduct.lean ====
module

public import proofs.«01_k».proof.Defs
public import proofs.«01_k».proof.Proof.Tiles
public import proofs.«01_k».proof.Proof.Gen.Kernel19Ideal.Value
public import proofs.«01_k».proof.Proof.Gen.Reference19Ideal.Run
public import Idealize.ShloMosaic.Lib.Claim

/-!
# The step sizes' product

A grid point takes 1024 rows of the product of the rows and the transposed weights, with all of its 2048 terms.
-/

@[expose] public section

noncomputable section

namespace Cert.Kernel19Ideal.StepProduct

open Idealize.ShloMosaic Idealize.ShloMosaic.TcCoe Idealize.ShloMosaic.Tactic
open Cert.Kernel19Ideal.Gen Cert.Kernel19Ideal.Value Cert.Tiles

/-- What a grid point computes. -/
theorem tile (a : Vec Ideal S1024x2048 .bf16) (b : Vec Ideal S128x2048 .bf16) (x : Fin 1024) (y : Fin 128) :
    k0_pay1 a b (ix2 x y) = ∑ k : Fin 2048, (a (ix2 x k) * b (ix2 y k) : EReal) := by
  unfold k0_pay1
  pointwise

theorem left {F : FTy → Type} [FloatOps F] (c : Dev nD) (i : grid0.Coords)
    (arg3 : Memref sig .tc .vmem S1024x2048 .bf16) (harg3 : arg3.IsWhole) (arg4 : Memref sig .tc .vmem S128x2048 .bf16) (harg4 : arg4.IsWhole)
    (arg5 : Memref sig .tc .vmem S1024x128 .f32) (harg5 : arg5.IsWhole) (arg6 : Memref sig .tc .vmem S8x128 .f32) (harg6 : arg6.IsWhole)
    (a : Vec F S1024x2048 .bf16) (b : Vec F S128x2048 .bf16) :
    out0_A_2 c i arg3 harg3 arg4 harg4 arg5 harg5 arg6 harg6 a b = k0_pay1 a b := by
  unfold out0_A_2
  rw [View.read_writes_eq_canon _ _ _ (cover0_A_2 c i arg3 harg3 arg4 harg4 arg5 harg5 arg6 harg6 a b)]
  unfold kernelRun0_A
  dsimp only
  rw [View.canon_unit_zero at_origin]
  simp only [View.readAt_eq_ld, harg3.read_unread, harg4.read_unread, View.ld_unit_zero (S := S1024x2048) at_origin, View.ld_unit_zero (S := S128x2048) at_origin]

variable (m : (ℓ : Loc nD τ sig) → Buf (Elt Ideal) ℓ) (c : Dev nD)

/-- The weights, and the rows. -/
abbrev weight : S128x2048.Idx → EReal := m ((c.tc : Thread nD τ).loc main_arg1)
abbrev rows : S8192x2048.Idx → EReal := m ((c.tc : Thread nD τ).loc main_arg0)

theorem index_left : ∀ t : Fin grid0.N, win0_0.index t = ![t.val, 0] := by decide +kernel
theorem index_right : ∀ t : Fin grid0.N, win0_1.index t = ![0, 0] := by decide +kernel
theorem index_out : ∀ t : Fin grid0.N, win0_2.index t = ![t.val, 0] := by decide +kernel

/-- The blocks that a grid point takes of the two. -/
abbrev leftAt (t : Fin cfg0.N) : S1024x2048.Idx → EReal := iblk m c 0 t
abbrev rightAt (t : Fin cfg0.N) : S128x2048.Idx → EReal := iblk m c 1 t

theorem left_block (t : Fin cfg0.N) (ht : t.val < 8) (x : Fin 1024) (k : Fin 2048) :
    leftAt m c t (ix2 x k) = entry (rows m c) (t.val * 1024 + x.val) k.val := by
  rw [entry_at _ (by omega) k.isLt]
  have hV : V m c main_arg0 = m ((c.tc : Thread nD τ).loc main_arg0) := V_main_arg0 m c
  refine (congrFun hV _).trans (congrArg (rows m c) (funext fun a => Fin.ext ?_))
  refine (win0_0.rect_emb_val t (ix2 x k) a rfl).trans ?_
  rw [index_left t]
  match a with
  | 0 => rfl
  | 1 => show 0 * 2048 + k.val = k.val; omega

theorem right_block (t : Fin cfg0.N) (ht : t.val < 8) (y : Fin 128) (k : Fin 2048) :
    rightAt m c t (ix2 y k) = entry (weight m c) y.val k.val := by
  rw [entry_at _ (by omega) k.isLt]
  have hV : V m c main_arg1 = m ((c.tc : Thread nD τ).loc main_arg1) := V_main_arg1 m c
  refine (congrFun hV _).trans (congrArg (weight m c) (funext fun a => Fin.ext ?_))
  refine (win0_1.rect_emb_val t _ a rfl).trans ?_
  rw [index_right t]
  match a with
  | 0 => show 0 * 128 + y.val = y.val; omega
  | 1 => show 0 * 2048 + k.val = k.val; omega

/-- The array the call leaves: the product of the rows and the transposed weights. -/
theorem array (i : Fin 8192) (j : Fin 128) :
    ((dats m 0 c).arrAt 2 cfg0.N : S8192x128.Idx → EReal) (ix2 i j) = ∑ n : Fin 2048, entry (rows m c) i.val n.val * entry (weight m c) j.val n.val := by
  have ht : i.val / 1024 < 8 := by omega
  have hN : i.val / 1024 < cfg0.N := lt_of_lt_of_eq ht N_0.symm
  have e := congrFun (blocks2 m c ⟨_, hN⟩ (flush0_2 _)) (ix2 ⟨i.val % 1024, Nat.mod_lt _ (by decide)⟩ j)
  rw [flushed2_A m c ⟨_, hN⟩, left] at e
  have hx : (win0_2.rect ⟨_, hN⟩).emb (ix2 ⟨i.val % 1024, Nat.mod_lt _ (by decide)⟩ j) = ix2 i j := by
    refine funext fun a => Fin.ext ((win0_2.rect_emb_val ⟨_, hN⟩ _ a rfl).trans ?_)
    rw [index_out ⟨_, hN⟩]
    match a with
    | 0 => show i.val / 1024 * 1024 + i.val % 1024 = i.val; omega
    | 1 => show 0 * 128 + j.val = j.val; omega
  refine (congrArg ((dats m 0 c).arrAt 2 cfg0.N : S8192x128.Idx → EReal) hx.symm).trans (e.trans ?_)
  refine (tile (leftAt m c ⟨_, hN⟩) (rightAt m c ⟨_, hN⟩) _ _).trans (Finset.sum_congr rfl fun n _ => ?_)
  refine (congrArg₂ (· * ·) (left_block m c ⟨_, hN⟩ ht _ n) (right_block m c ⟨_, hN⟩ ht _ n)).trans ?_
  dsimp only
  rw [show i.val / 1024 * 1024 + i.val % 1024 = i.val by omega]

end Cert.Kernel19Ideal.StepProduct

namespace Cert.StepProduct

open Idealize.ShloMosaic Idealize.ShloMosaic.TcCoe Idealize.ShloMosaic.Tactic Idealize.SL.Sem Cert.Tiles

section reference
open Cert.Reference19Ideal Cert.Reference19Ideal.Facts₀

/-- The entries of the reference's result. -/
theorem reference_entry (h : Vec Ideal S8192x2048 .bf16) (w : Vec Ideal S128x2048 .bf16) (i : Fin 8192) (j : Fin 128) :
    (Host.dotGeneral (F := Ideal) dot_S8192x2048_S2048x128_S8192x128_1_0_0_1_n_n none (extf .f32 h bitsLt_bf16_f32)
      (transpose S2048x128 [1, 0] (extf .f32 w bitsLt_bf16_f32) transposes_S128x2048_S2048x128_1_0) : FVec Ideal S8192x128 .f32) (ix2 i j)
      = (∑ n : Fin 2048, entry (h : S8192x2048.Idx → EReal) i.val n.val * entry (w : S128x2048.Idx → EReal) j.val n.val : EReal) := by
  pointwise
  refine Finset.sum_congr rfl fun n _ => ?_
  rw [entry_at _ i.isLt n.isLt, entry_at _ j.isLt n.isLt]

end reference

theorem algebraic : Cert.algebraic_Kernel19Ideal_Reference19Ideal (hKernel19Ideal := Cert.Kernel19Ideal.Gen.facts)
    (hReference19Ideal := Cert.Reference19Ideal.Gen.facts) := fun m g m' g' _ hargs => by
  refine ⟨_, Cert.Kernel19Ideal.Value.run_blocks (F := Ideal) m g, ?_⟩
  refine (θ_run Cert.Reference19Ideal.defs _ _).mono (fun _ h c => ⟨(h c).1.trans (funext fun y => ?_), (h c).2⟩)
    (Cert.Reference19Ideal.Value.run (F := Ideal) m' g')
  obtain ⟨h0, h1⟩ := hargs c
  rw [h0, h1, ← ix2_eta y]
  exact (reference_entry _ _ (y 0) (y 1)).trans (Cert.Kernel19Ideal.StepProduct.array m c (y 0) (y 1)).symm

end Cert.StepProduct

end
-- ==== Proof.AttnGateGrad.lean ====
module

public import proofs.«01_k».proof.Proof.GateGrad
public import proofs.«01_k».proof.Proof.Gen.Kernel20Ideal.Value
public import proofs.«01_k».proof.Proof.Gen.Reference20Ideal.Run

/-!
# The gradient of the gate on the attention's branch

A grid point computes what it computes for the other branch's gate, so the lemmas on a block are those.
The gate's 2048 columns start at column 18432, and the columns on both sides of them are left as they were.
-/

@[expose] public section

noncomputable section

namespace Cert.AttnGateGrad

open Idealize.ShloMosaic Idealize.ShloMosaic.TcCoe Idealize.ShloMosaic.Tactic Idealize.SL.Sem Cert.Gate

/-- A column among the gate's, in the array of all of them. -/
abbrev wide (j : Fin 2048) : Fin 22528 := ⟨18432 + j.val, by omega⟩

/-- An entry of the gate's gradient: the cotangent, the branch, the gate. -/
def slope (d b p : EReal) : EReal := d * b * (sigma p * (1 - sigma p))

section call
open Cert.Kernel20Ideal Cert.Kernel20Ideal.Gen Cert.Kernel20Ideal.Value

theorem gate_rows (d g b : Vec Ideal S512x2048 .bf16) (x : Fin 512) (y : Fin 2048) :
    k0_pay4 d g b (ix2 x y) = slope (d (ix2 x y)) (b (ix2 x y)) (g (ix2 x y)) :=
  Cert.Kernel5Ideal.GateGrad.gate_rows d g b x y

theorem branch_rows (d g : Vec Ideal S512x2048 .bf16) (x : Fin 512) (y : Fin 2048) :
    k0_pay3 d g (ix2 x y) = (d (ix2 x y) * sigma (g (ix2 x y)) : EReal) :=
  Cert.Kernel5Ideal.GateGrad.branch_rows d g x y

variable (m : (ℓ : Loc nD τ sig) → Buf (Elt Ideal) ℓ) (c : Dev nD)

/-- The rows before the gates, the branch, the cotangent of the gated branch, and the array of gradients as it was. -/
abbrev gates : S8192x22528.Idx → EReal := m ((c.tc : Thread nD τ).loc main_arg0)
abbrev branch : S8192x2048.Idx → EReal := m ((c.tc : Thread nD τ).loc main_arg1)
abbrev cotangent : S8192x2048.Idx → EReal := m ((c.tc : Thread nD τ).loc main_arg2)
abbrev before : S8192x22528.Idx → EReal := m ((c.tc : Thread nD τ).loc main_arg3)

/-- The windows' block indices: the grid point, and the ninth block of columns where the array has all of them. -/
theorem indices : ∀ t : Fin grid0.N, win0_0.index t = ![t.val, 9] ∧ win0_1.index t = ![t.val, 0] ∧ win0_2.index t = ![t.val, 0]
    ∧ win0_3.index t = ![t.val, 9] ∧ win0_4.index t = ![t.val, 0] := by decide +kernel

/-- The grid point that takes a row, and the row's place in its block. -/
abbrev taker (i : Fin 8192) : Fin cfg0.N := ⟨i.val / 512, lt_of_lt_of_eq (by omega : _ < 16) N_0.symm⟩
abbrev within (i : Fin 8192) : Fin 512 := ⟨i.val % 512, Nat.mod_lt _ (by decide)⟩

theorem row_again (i : Fin 8192) : i.val / 512 * 512 + i.val % 512 = i.val := by omega

/-- Where an entry of the first window's block lies in the array, and so of the other four. -/
theorem spot0 (i : Fin 8192) (j : Fin 2048) : (win0_0.rect (taker i)).emb (ix2 (within i) j) = ix2 i (wide j) :=
  funext fun a => Fin.ext ((win0_0.rect_emb_val (taker i) _ a rfl).trans (by
    rw [(indices (taker i)).1]
    match a with
    | 0 => exact row_again i
    | 1 => show 9 * 2048 + j.val = 18432 + j.val; omega))

theorem spot1 (i : Fin 8192) (j : Fin 2048) : (win0_1.rect (taker i)).emb (ix2 (within i) j) = ix2 i j :=
  funext fun a => Fin.ext ((win0_1.rect_emb_val (taker i) _ a rfl).trans (by
    rw [(indices (taker i)).2.1]
    match a with
    | 0 => exact row_again i
    | 1 => exact Nat.zero_add _))

theorem spot2 (i : Fin 8192) (j : Fin 2048) : (win0_2.rect (taker i)).emb (ix2 (within i) j) = ix2 i j := spot1 i j

theorem spot3 (i : Fin 8192) (j : Fin 2048) : (win0_3.rect (taker i)).emb (ix2 (within i) j) = ix2 i (wide j) := spot0 i j

theorem spot4 (i : Fin 8192) (j : Fin 2048) : (win0_4.rect (taker i)).emb (ix2 (within i) j) = ix2 i j := spot1 i j

theorem gate_in (i : Fin 8192) (j : Fin 2048) : (iblk m c 0 (taker i) : S512x2048.Idx → EReal) (ix2 (within i) j) = gates m c (ix2 i (wide j)) :=
  (congrFun (V_main_arg0 m c : V m c main_arg0 = _) _).trans (congrArg (gates m c) (spot0 i j))

theorem branch_in (i : Fin 8192) (j : Fin 2048) : (iblk m c 1 (taker i) : S512x2048.Idx → EReal) (ix2 (within i) j) = branch m c (ix2 i j) :=
  (congrFun (V_main_arg1 m c : V m c main_arg1 = _) _).trans (congrArg (branch m c) (spot1 i j))

theorem cotangent_in (i : Fin 8192) (j : Fin 2048) : (iblk m c 2 (taker i) : S512x2048.Idx → EReal) (ix2 (within i) j) = cotangent m c (ix2 i j) :=
  (congrFun (V_main_arg2 m c : V m c main_arg2 = _) _).trans (congrArg (cotangent m c) (spot2 i j))

section
variable {F : FTy → Type} [FloatOps F] (c : Dev nD) (i : grid0.Coords)
  (a2 : Memref sig .tc .vmem S512x2048 .bf16) (h2 : a2.IsWhole) (a3 : Memref sig .tc .vmem S512x2048 .bf16) (h3 : a3.IsWhole)
  (a4 : Memref sig .tc .vmem S512x2048 .bf16) (h4 : a4.IsWhole) (a6 : Memref sig .tc .vmem S512x2048 .bf16) (h6 : a6.IsWhole)
  (a7 : Memref sig .tc .vmem S512x2048 .bf16) (h7 : a7.IsWhole) (g b d : Vec F S512x2048 .bf16)

theorem both_left : out0_A_3 c i a2 h2 a3 h3 a4 h4 a6 h6 a7 h7 g b d = k0_pay4 d g b
    ∧ out0_A_4 c i a2 h2 a3 h3 a4 h4 a6 h6 a7 h7 g b d = k0_pay3 d g := by
  constructor
  · unfold out0_A_3
    rw [View.read_writes_eq_canon _ _ _ (cover0_A_3 c i a2 h2 a3 h3 a4 h4 a6 h6 a7 h7 g b d)]
    unfold kernelRun0_A
    dsimp only
    rw [View.canon_unit_zero Cert.Kernel5Ideal.GateGrad.at_origin]
    simp only [View.readAt_eq_ld, h2.read_unread, h3.read_unread, h4.read_unread, View.ld_unit_zero (S := S512x2048) Cert.Kernel5Ideal.GateGrad.at_origin]
  · unfold out0_A_4
    rw [View.read_writes_eq_canon _ _ _ (cover0_A_4 c i a2 h2 a3 h3 a4 h4 a6 h6 a7 h7 g b d)]
    unfold kernelRun0_A
    dsimp only
    rw [View.canon_unit_zero Cert.Kernel5Ideal.GateGrad.at_origin]
    simp only [View.readAt_eq_ld, h2.read_unread, h3.read_unread, h4.read_unread, View.ld_unit_zero (S := S512x2048) Cert.Kernel5Ideal.GateGrad.at_origin]

end

/-- The branch's gradient, in the array the call leaves. -/
theorem branch_out (i : Fin 8192) (j : Fin 2048) :
    ((dats m 0 c).arrAt 4 cfg0.N : S8192x2048.Idx → EReal) (ix2 i j) = cotangent m c (ix2 i j) * sigma (gates m c (ix2 i (wide j))) := by
  have e := congrFun (blocks4 m c (taker i) (flush0_4 _)) (ix2 (within i) j)
  rw [flushed4_A m c (taker i), (both_left ..).2] at e
  refine (congrArg ((dats m 0 c).arrAt 4 cfg0.N : S8192x2048.Idx → EReal) (spot4 i j).symm).trans (e.trans ?_)
  refine (branch_rows (iblk m c 2 (taker i)) (iblk m c 0 (taker i)) _ _).trans ?_
  rw [cotangent_in, gate_in]

/-- The gate's gradient, in its columns. -/
theorem gate_out (i : Fin 8192) (j : Fin 2048) : ((dats m 0 c).arrAt 3 cfg0.N : S8192x22528.Idx → EReal) (ix2 i (wide j))
      = slope (cotangent m c (ix2 i j)) (branch m c (ix2 i j)) (gates m c (ix2 i (wide j))) := by
  have e := congrFun (blocks3 m c (taker i) (flush0_3 _)) (ix2 (within i) j)
  rw [flushed3_A m c (taker i), (both_left ..).1] at e
  refine (congrArg ((dats m 0 c).arrAt 3 cfg0.N : S8192x22528.Idx → EReal) (spot3 i j).symm).trans (e.trans ?_)
  refine (gate_rows (iblk m c 2 (taker i)) (iblk m c 0 (taker i)) (iblk m c 1 (taker i)) _ _).trans ?_
  rw [cotangent_in, gate_in, branch_in]

theorem handed : V m c main_v0_0 = m ((c.tc : Thread nD τ).loc main_arg3) := by
  show StableHlo.after hostOps0 (fun b => m (c, b)) (Proc.devRef .tc main_v0_0) = _
  unfold hostOps0
  after_results
  rfl

/-- The columns that aren't the gate's keep what they held. -/
theorem kept (i : Fin 8192) (j : Fin 22528) (hj : j.val < 18432 ∨ 20480 ≤ j.val) :
    ((dats m 0 c).arrAt 3 cfg0.N : S8192x22528.Idx → EReal) (ix2 i j) = before m c (ix2 i j) := by
  refine (entry3 m c (ix2 i j) fun t _ hi => ?_).trans (congrFun (handed m c) (ix2 i j))
  obtain ⟨x, hx⟩ := View.exists_emb_of_mem_set _ hi
  have hv : ((win0_3.rect t).emb x 1).val = j.val := congrArg (fun y : S8192x22528.Idx => (y 1).val) hx
  rw [win0_3.rect_emb_val t x 1 rfl, (indices t).2.2.2.1] at hv
  have e : 9 * 2048 + (x 1).val = j.val := hv
  have l : (x 1).val < 2048 := (x 1).isLt
  omega

end call

section reference
open Cert.Reference20Ideal Cert.Reference20Ideal.Facts₀

abbrev logistic (p : Vec Ideal S8192x22528 .bf16) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32))
      (Host.exp (Host.negf (extf .f32 (extractStridedSlice S8192x2048 ![0, 18432] p slices_S8192x22528_S8192x2048_0_18432) bitsLt_bf16_f32))))

theorem logistic_at (p : Vec Ideal S8192x22528 .bf16) (i : Fin 8192) (j : Fin 2048) : logistic p (ix2 i j) = sigma (p (ix2 i (wide j))) := by
  rw [← sigma_eq]
  unfold logistic
  pointwise

theorem branch_at (p : Vec Ideal S8192x22528 .bf16) (d : Vec Ideal S8192x2048 .bf16) (i : Fin 8192) (j : Fin 2048) :
    (truncf .bf16 (mulf (logistic p) (extf .f32 d bitsLt_bf16_f32)) bitsLt_bf16_f32 : FVec Ideal S8192x2048 .bf16) (ix2 i j)
      = (d (ix2 i j) * sigma (p (ix2 i (wide j))) : EReal) := by
  rw [← logistic_at p i j]
  exact mul_comm _ _

/-- The reference's gradient of the gate. -/
abbrev grad (p : Vec Ideal S8192x22528 .bf16) (b d : Vec Ideal S8192x2048 .bf16) : FVec Ideal S8192x2048 .bf16 :=
  truncf .bf16 (mulf (mulf (extf .f32 d bitsLt_bf16_f32) (extf .f32 b bitsLt_bf16_f32)) (mulf (logistic p)
    (subf (broadcastInDim S8192x2048 ![] bcast_S_S8192x2048 (constant S_ .f32 0x3F800000#32)) (logistic p)))) bitsLt_bf16_f32

theorem grad_at (p : Vec Ideal S8192x22528 .bf16) (b d : Vec Ideal S8192x2048 .bf16) (i : Fin 8192) (j : Fin 2048) :
    grad p b d (ix2 i j) = slope (d (ix2 i j)) (b (ix2 i j)) (p (ix2 i (wide j))) := by
  unfold slope
  rw [← logistic_at p i j, ← Ideal.ofBits_one_f32]
  rfl

/-- The reference's first result: the columns before the gate's, the gate's, and those after. -/
abbrev joined (p r : Vec Ideal S8192x22528 .bf16) (b d : Vec Ideal S8192x2048 .bf16) : FVec Ideal S8192x22528 .bf16 :=
  concatenate S8192x22528 1 [⟨S8192x18432, extractStridedSlice S8192x18432 ![0, 0] r slices_S8192x22528_S8192x18432_0_0⟩, ⟨S8192x2048, grad p b d⟩,
    ⟨S8192x2048, extractStridedSlice S8192x2048 ![0, 20480] r slices_S8192x22528_S8192x2048_0_20480⟩]
    concatenates_S8192x18432_S8192x2048_S8192x2048_S8192x22528_d1

theorem joined_gate (p r : Vec Ideal S8192x22528 .bf16) (b d : Vec Ideal S8192x2048 .bf16) (i : Fin 8192) (j : Fin 2048) :
    joined p r b d (ix2 i (wide j)) = slope (d (ix2 i j)) (b (ix2 i j)) (p (ix2 i (wide j))) := by
  refine (concatenate_apply_piece 1 _ _ (ix2 i (wide j)) 1 (by simp) S8192x2048 _ rfl rfl 18432 rfl (ix2 i j) (fun a ha => ?_) rfl).trans (grad_at p b d i j)
  match a, ha with
  | 0, _ => rfl
  | 1, ha => exact absurd rfl ha

theorem joined_rest (p r : Vec Ideal S8192x22528 .bf16) (b d : Vec Ideal S8192x2048 .bf16) (i : Fin 8192) (j : Fin 22528)
    (hj : j.val < 18432 ∨ 20480 ≤ j.val) : joined p r b d (ix2 i j) = r (ix2 i j) := by
  rcases hj with hj | hj
  · refine (concatenate_apply_piece 1 _ _ (ix2 i j) 0 (by simp) S8192x18432 _ rfl rfl 0 rfl (ix2 i ⟨j.val, hj⟩) (fun a ha => ?_) (Nat.zero_add _)).trans ?_
    · match a, ha with
      | 0, _ => rfl
      | 1, ha => exact absurd rfl ha
    · pointwise
  · refine (concatenate_apply_piece 1 _ _ (ix2 i j) 2 (by simp) S8192x2048 _ rfl rfl 20480 rfl (ix2 i ⟨j.val - 20480, by omega⟩) (fun a ha => ?_) ?_).trans ?_
    · match a, ha with
      | 0, _ => rfl
      | 1, ha => exact absurd rfl ha
    · show 20480 + (j.val - 20480) = j.val; omega
    · pointwise
      exact congrArg (fun k => r (ix2 i k)) (Fin.ext (by show 20480 + (j.val - 20480) = j.val; omega))

end reference

theorem algebraic : Cert.algebraic_Kernel20Ideal_Reference20Ideal (hKernel20Ideal := Cert.Kernel20Ideal.Gen.facts)
    (hReference20Ideal := Cert.Reference20Ideal.Gen.facts) := fun m g m' g' _ hargs => by
  refine ⟨_, _, Cert.Kernel20Ideal.Value.run_blocks (F := Ideal) m g, ?_⟩
  refine (θ_run Cert.Reference20Ideal.defs _ _).mono (fun _ h c => ⟨(h c).1.trans (funext fun y => ?_), (h c).2.1.trans (funext fun y => ?_), (h c).2.2⟩)
    (Cert.Reference20Ideal.Value.run (F := Ideal) m' g')
  all_goals
    obtain ⟨h0, h1, h2, h3⟩ := hargs c
    rw [← ix2_eta y]
    generalize y 0 = i
    generalize y 1 = j
    change Fin 8192 at i
  · rw [h0, h1, h2, h3]
    change Fin 22528 at j
    by_cases hj : j.val < 18432 ∨ 20480 ≤ j.val
    · exact (joined_rest _ _ _ _ i j hj).trans (kept m c i j hj).symm
    · obtain ⟨k, rfl⟩ : ∃ k, j = wide k := ⟨⟨j.val - 18432, by omega⟩, Fin.ext (by show j.val = 18432 + (j.val - 18432); omega)⟩
      exact (joined_gate _ _ _ _ i k).trans (gate_out m c i k).symm
  · rw [h0, h2]
    change Fin 2048 at j
    exact (branch_at _ _ i j).trans (branch_out m c i j).symm

end Cert.AttnGateGrad

end
-- ==== Proof.GateSum.lean ====
module

public import proofs.«01_k».proof.Proof.GateGrad
public import proofs.«01_k».proof.Proof.Gen.Kernel21Ideal.Value
public import proofs.«01_k».proof.Proof.Gen.Reference21Ideal.Run

/-!
# The sum of the two gated branches

Each branch is taken times the logistic function of its gate, and the two are added.
-/

@[expose] public section

noncomputable section

namespace Cert.GateSum

open Idealize.ShloMosaic Idealize.ShloMosaic.TcCoe Idealize.ShloMosaic.Tactic Idealize.SL.Sem Cert.Gate

/-- An entry of the sum: the two gates, and the two branches. -/
def merged (p q a s : EReal) : EReal := sigma p * a + sigma q * s

section reference
open Cert.Reference21Ideal Cert.Reference21Ideal.Facts₀

theorem entry (p : Vec Ideal S8192x22528 .bf16) (a s : Vec Ideal S8192x2048 .bf16) (i : Fin 8192) (j : Fin 2048) :
    (truncf .bf16 (addf
        (mulf (Host.divf (broadcastInDim S8192x2048 ![] bcast_S_S8192x2048 (constant S_ .f32 0x3F800000#32))
          (addf (broadcastInDim S8192x2048 ![] bcast_S_S8192x2048 (constant S_ .f32 0x3F800000#32))
            (Host.exp (Host.negf (extf .f32 (extractStridedSlice S8192x2048 ![0, 18432] p slices_S8192x22528_S8192x2048_0_18432) bitsLt_bf16_f32)))))
          (extf .f32 a bitsLt_bf16_f32))
        (mulf (Host.divf (broadcastInDim S8192x2048 ![] bcast_S_S8192x2048 (constant S_ .f32 0x3F800000#32))
          (addf (broadcastInDim S8192x2048 ![] bcast_S_S8192x2048 (constant S_ .f32 0x3F800000#32))
            (Host.exp (Host.negf (extf .f32 (extractStridedSlice S8192x2048 ![0, 20480] p slices_S8192x22528_S8192x2048_0_20480) bitsLt_bf16_f32)))))
          (extf .f32 s bitsLt_bf16_f32))) bitsLt_bf16_f32 : FVec Ideal S8192x2048 .bf16) (ix2 i j)
      = merged (p (ix2 i ⟨18432 + j.val, by omega⟩)) (p (ix2 i ⟨20480 + j.val, by omega⟩)) (a (ix2 i j)) (s (ix2 i j)) := by
  unfold merged
  rw [← sigma_eq, ← sigma_eq]
  pointwise

end reference

section call
open Cert.Kernel21Ideal Cert.Kernel21Ideal.Value

theorem left (p : S8192x22528.Idx → EReal) (a s : S8192x2048.Idx → EReal) (i : Fin 8192) (j : Fin 2048) :
    (G4 (F := Ideal) p a p s : S8192x2048.Idx → EReal) (ix2 i j)
      = merged (p (ix2 i ⟨18432 + j.val, by omega⟩)) (p (ix2 i ⟨20480 + j.val, by omega⟩)) (a (ix2 i j)) (s (ix2 i j)) := by
  have ea : inIdx4_0 (ix2 i j) = ix2 i ⟨18432 + j.val, by omega⟩ := funext fun b => Fin.ext (by
    match b with
    | 0 => rfl
    | 1 => show j.val + 18432 = 18432 + j.val; omega)
  have es : inIdx4_2 (ix2 i j) = ix2 i ⟨20480 + j.val, by omega⟩ := funext fun b => Fin.ext (by
    match b with
    | 0 => rfl
    | 1 => show j.val + 20480 = 20480 + j.val; omega)
  unfold merged sigma
  rw [← ea, ← es, ← half_word]
  rfl

end call

theorem algebraic : Cert.algebraic_Kernel21Ideal_Reference21Ideal (hKernel21Ideal := Cert.Kernel21Ideal.Gen.facts)
    (hReference21Ideal := Cert.Reference21Ideal.Gen.facts) := fun m g m' g' _ hargs => by
  refine ⟨_, Cert.Kernel21Ideal.Value.run (F := Ideal) m g, ?_⟩
  refine (θ_run Cert.Reference21Ideal.defs _ _).mono (fun _ h c => ⟨(h c).1.trans (funext fun y => ?_), (h c).2⟩)
    (Cert.Reference21Ideal.Value.run (F := Ideal) m' g')
  obtain ⟨h0, h1, h2⟩ := hargs c
  rw [← ix2_eta y, h0, h1, h2]
  exact (entry _ _ _ (y 0) (y 1)).trans (left _ _ _ (y 0) (y 1)).symm

end Cert.GateSum

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.FarFrame
public import proofs.«01_k».proof.Proof.WordFrame
public import proofs.«01_k».proof.Proof.FarClaim
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.RowGrad
public import proofs.«01_k».proof.Proof.WeightGrad
public import proofs.«01_k».proof.Proof.Projection
public import proofs.«01_k».proof.Proof.GateGrad
public import proofs.«01_k».proof.Proof.BranchRowGrad
public import proofs.«01_k».proof.Proof.BranchWeightGrad
public import proofs.«01_k».proof.Proof.BranchProduct
public import proofs.«01_k».proof.Proof.OutRowGrad
public import proofs.«01_k».proof.Proof.OutWeightGrad
public import proofs.«01_k».proof.Proof.AttnProduct
public import proofs.«01_k».proof.Proof.NormGrad
public import proofs.«01_k».proof.Proof.NormRows
public import proofs.«01_k».proof.Proof.AttnRowGrad
public import proofs.«01_k».proof.Proof.AttnWeightGrad
public import proofs.«01_k».proof.Proof.OutLoss
public import proofs.«01_k».proof.Proof.StepWeightGrad
public import proofs.«01_k».proof.Proof.StepRowGrad
public import proofs.«01_k».proof.Proof.StepProduct
public import proofs.«01_k».proof.Proof.AttnGateGrad
public import proofs.«01_k».proof.Proof.GateSum
public import Idealize.ShloMosaic.Adequacy
public import Idealize.ShloMosaic.Init
public import Idealize.ShloMosaic.Lib.Quiescent

/-!
# The claims, from the modules that prove them
-/

@[expose] public section

noncomputable section

namespace Cert.Proof

open Idealize.ShloMosaic Idealize.SL.Sem Cert.Kernel

/-! A reference changes no argument, and it has no semaphore. -/

theorem reference_frame : Cert.quiescent_ReferenceIdeal (hReferenceIdeal := Cert.ReferenceIdeal.Gen.facts) := fun m ρ _ =>
  (θ_run _ _ _).mono (fun r h => ⟨fun c => (h c).2.2.2, sem_eq_zero_of_no_sems rfl r.2⟩) (Cert.ReferenceIdeal.Value.run (F := Ideal) m ρ)

theorem reference2_frame : Cert.quiescent_Reference2Ideal (hReference2Ideal := Cert.Reference2Ideal.Gen.facts) := fun m ρ _ =>
  (θ_run _ _ _).mono (fun r h => ⟨fun c => (h c).2, sem_eq_zero_of_no_sems rfl r.2⟩) (Cert.Reference2Ideal.Value.run (F := Ideal) m ρ)

theorem reference3_frame : Cert.quiescent_Reference3Ideal (hReference3Ideal := Cert.Reference3Ideal.Gen.facts) := fun m ρ _ =>
  (θ_run _ _ _).mono (fun r h => ⟨fun c => (h c).2, sem_eq_zero_of_no_sems rfl r.2⟩) (Cert.Reference3Ideal.Value.run (F := Ideal) m ρ)

theorem reference4_frame : Cert.quiescent_Reference4Ideal (hReference4Ideal := Cert.Reference4Ideal.Gen.facts) := fun m ρ _ =>
  (θ_run _ _ _).mono (fun r h => ⟨fun c => (h c).2, sem_eq_zero_of_no_sems rfl r.2⟩) (Cert.Reference4Ideal.Value.run (F := Ideal) m ρ)

theorem reference5_frame : Cert.quiescent_Reference5Ideal (hReference5Ideal := Cert.Reference5Ideal.Gen.facts) := fun m ρ _ =>
  (θ_run _ _ _).mono (fun r h => ⟨fun c => (h c).2.2, sem_eq_zero_of_no_sems rfl r.2⟩) (Cert.Reference5Ideal.Value.run (F := Ideal) m ρ)

theorem reference6_frame : Cert.quiescent_Reference6Ideal (hReference6Ideal := Cert.Reference6Ideal.Gen.facts) := fun m ρ _ =>
  (θ_run _ _ _).mono (fun r h => ⟨fun c => (h c).2, sem_eq_zero_of_no_sems rfl r.2⟩) (Cert.Reference6Ideal.Value.run (F := Ideal) m ρ)

theorem reference7_frame : Cert.quiescent_Reference7Ideal (hReference7Ideal := Cert.Reference7Ideal.Gen.facts) := fun m ρ _ =>
  (θ_run _ _ _).mono (fun r h => ⟨fun c => (h c).2, sem_eq_zero_of_no_sems rfl r.2⟩) (Cert.Reference7Ideal.Value.run (F := Ideal) m ρ)

theorem reference8_frame : Cert.quiescent_Reference8Ideal (hReference8Ideal := Cert.Reference8Ideal.Gen.facts) := fun m ρ _ =>
  (θ_run _ _ _).mono (fun r h => ⟨fun c => (h c).2, sem_eq_zero_of_no_sems rfl r.2⟩) (Cert.Reference8Ideal.Value.run (F := Ideal) m ρ)

theorem reference9_frame : Cert.quiescent_Reference9Ideal (hReference9Ideal := Cert.Reference9Ideal.Gen.facts) := fun m ρ _ =>
  (θ_run _ _ _).mono (fun r h => ⟨fun c => (h c).2, sem_eq_zero_of_no_sems rfl r.2⟩) (Cert.Reference9Ideal.Value.run (F := Ideal) m ρ)

theorem reference10_frame : Cert.quiescent_Reference10Ideal (hReference10Ideal := Cert.Reference10Ideal.Gen.facts) := fun m ρ _ =>
  (θ_run _ _ _).mono (fun r h => ⟨fun c => (h c).2, sem_eq_zero_of_no_sems rfl r.2⟩) (Cert.Reference10Ideal.Value.run (F := Ideal) m ρ)

theorem reference11_frame : Cert.quiescent_Reference11Ideal (hReference11Ideal := Cert.Reference11Ideal.Gen.facts) := fun m ρ _ =>
  (θ_run _ _ _).mono (fun r h => ⟨fun c => (h c).2, sem_eq_zero_of_no_sems rfl r.2⟩) (Cert.Reference11Ideal.Value.run (F := Ideal) m ρ)

theorem reference12_frame : Cert.quiescent_Reference12Ideal (hReference12Ideal := Cert.Reference12Ideal.Gen.facts) := fun m ρ _ =>
  (θ_run _ _ _).mono (fun r h => ⟨fun c => (h c).2.2, sem_eq_zero_of_no_sems rfl r.2⟩) (Cert.Reference12Ideal.Value.run (F := Ideal) m ρ)

theorem reference13_frame : Cert.quiescent_Reference13Ideal (hReference13Ideal := Cert.Reference13Ideal.Gen.facts) := fun m ρ _ =>
  (θ_run _ _ _).mono (fun r h => ⟨fun c => (h c).2, sem_eq_zero_of_no_sems rfl r.2⟩) (Cert.Reference13Ideal.Value.run (F := Ideal) m ρ)

theorem reference14_frame : Cert.quiescent_Reference14Ideal (hReference14Ideal := Cert.Reference14Ideal.Gen.facts) := fun m ρ _ =>
  (θ_run _ _ _).mono (fun r h => ⟨fun c => (h c).2, sem_eq_zero_of_no_sems rfl r.2⟩) (Cert.Reference14Ideal.Value.run (F := Ideal) m ρ)

theorem reference15_frame : Cert.quiescent_Reference15Ideal (hReference15Ideal := Cert.Reference15Ideal.Gen.facts) := fun m ρ _ =>
  (θ_run _ _ _).mono (fun r h => ⟨fun c => (h c).2, sem_eq_zero_of_no_sems rfl r.2⟩) (Cert.Reference15Ideal.Value.run (F := Ideal) m ρ)

theorem reference16_frame : Cert.quiescent_Reference16Ideal (hReference16Ideal := Cert.Reference16Ideal.Gen.facts) := fun m ρ _ =>
  (θ_run _ _ _).mono (fun r h => ⟨fun c => (h c).2.2.2.2, sem_eq_zero_of_no_sems rfl r.2⟩) (Cert.Reference16Ideal.Value.run (F := Ideal) m ρ)

theorem reference17_frame : Cert.quiescent_Reference17Ideal (hReference17Ideal := Cert.Reference17Ideal.Gen.facts) := fun m ρ _ =>
  (θ_run _ _ _).mono (fun r h => ⟨fun c => (h c).2, sem_eq_zero_of_no_sems rfl r.2⟩) (Cert.Reference17Ideal.Value.run (F := Ideal) m ρ)

theorem reference18_frame : Cert.quiescent_Reference18Ideal (hReference18Ideal := Cert.Reference18Ideal.Gen.facts) := fun m ρ _ =>
  (θ_run _ _ _).mono (fun r h => ⟨fun c => (h c).2, sem_eq_zero_of_no_sems rfl r.2⟩) (Cert.Reference18Ideal.Value.run (F := Ideal) m ρ)

theorem reference19_frame : Cert.quiescent_Reference19Ideal (hReference19Ideal := Cert.Reference19Ideal.Gen.facts) := fun m ρ _ =>
  (θ_run _ _ _).mono (fun r h => ⟨fun c => (h c).2, sem_eq_zero_of_no_sems rfl r.2⟩) (Cert.Reference19Ideal.Value.run (F := Ideal) m ρ)

theorem reference20_frame : Cert.quiescent_Reference20Ideal (hReference20Ideal := Cert.Reference20Ideal.Gen.facts) := fun m ρ _ =>
  (θ_run _ _ _).mono (fun r h => ⟨fun c => (h c).2.2, sem_eq_zero_of_no_sems rfl r.2⟩) (Cert.Reference20Ideal.Value.run (F := Ideal) m ρ)

theorem reference21_frame : Cert.quiescent_Reference21Ideal (hReference21Ideal := Cert.Reference21Ideal.Gen.facts) := fun m ρ _ =>
  (θ_run _ _ _).mono (fun r h => ⟨fun c => (h c).2, sem_eq_zero_of_no_sems rfl r.2⟩) (Cert.Reference21Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    fun m ρ _ => Cert.Kernel.Far.frame m ρ,
    fun m ρ _ => Cert.KernelIdeal.Far.frame m ρ,
    reference_frame,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    reference4_frame,
    fun m ρ _ => Cert.Kernel5.Gen.frame m ρ,
    fun m ρ _ => Cert.Kernel5Ideal.Gen.frame m ρ,
    reference5_frame,
    fun m ρ _ => Cert.Kernel6.Gen.frame m ρ,
    fun m ρ _ => Cert.Kernel6Ideal.Gen.frame m ρ,
    reference6_frame,
    fun m ρ _ => Cert.Kernel7.Gen.frame m ρ,
    fun m ρ _ => Cert.Kernel7Ideal.Gen.frame m ρ,
    reference7_frame,
    fun m ρ _ => Cert.Kernel8.Gen.frame m ρ,
    fun m ρ _ => Cert.Kernel8Ideal.Gen.frame m ρ,
    reference8_frame,
    fun m ρ _ => Cert.Kernel9.Gen.frame m ρ,
    fun m ρ _ => Cert.Kernel9Ideal.Gen.frame m ρ,
    reference9_frame,
    fun m ρ _ => Cert.Kernel10.Gen.frame m ρ,
    fun m ρ _ => Cert.Kernel10Ideal.Gen.frame m ρ,
    reference10_frame,
    fun m ρ _ => Cert.Kernel11.Gen.frame m ρ,
    fun m ρ _ => Cert.Kernel11Ideal.Gen.frame m ρ,
    reference11_frame,
    fun m ρ _ => Cert.Kernel12.Gen.frame m ρ,
    fun m ρ _ => Cert.Kernel12Ideal.Gen.frame m ρ,
    reference12_frame,
    fun m ρ _ => Cert.Kernel13.Gen.frame m ρ,
    fun m ρ _ => Cert.Kernel13Ideal.Gen.frame m ρ,
    reference13_frame,
    fun m ρ _ => Cert.Kernel14.Gen.frame m ρ,
    fun m ρ _ => Cert.Kernel14Ideal.Gen.frame m ρ,
    reference14_frame,
    fun m ρ _ => Cert.Kernel15.Gen.frame m ρ,
    fun m ρ _ => Cert.Kernel15Ideal.Gen.frame m ρ,
    reference15_frame,
    fun m ρ _ => Cert.Kernel16.Gen.frame m ρ,
    fun m ρ _ => Cert.Kernel16Ideal.Gen.frame m ρ,
    reference16_frame,
    fun m ρ _ => Cert.Kernel17.Gen.frame m ρ,
    fun m ρ _ => Cert.Kernel17Ideal.Gen.frame m ρ,
    reference17_frame,
    fun m ρ _ => Cert.Kernel18.Gen.frame m ρ,
    fun m ρ _ => Cert.Kernel18Ideal.Gen.frame m ρ,
    reference18_frame,
    fun m ρ _ => Cert.Kernel19.Gen.frame m ρ,
    fun m ρ _ => Cert.Kernel19Ideal.Gen.frame m ρ,
    reference19_frame,
    fun m ρ _ => Cert.Kernel20.Gen.frame m ρ,
    fun m ρ _ => Cert.Kernel20Ideal.Gen.frame m ρ,
    reference20_frame,
    fun m ρ _ => Cert.Kernel21.Gen.frame m ρ,
    fun m ρ _ => Cert.Kernel21Ideal.Gen.frame m ρ,
    reference21_frame,
    IdealRules.named_const.statement Cert.KernelIdeal.κ "mask" .f32 0xF149F2CA#32 ⊥ rfl,
    Cert.Far.algebraic,
    trivial,
    Cert.RowGrad.algebraic,
    trivial,
    Cert.WeightGrad.algebraic,
    trivial,
    Cert.Projection.algebraic,
    trivial,
    Cert.GateGrad.algebraic,
    trivial,
    Cert.BranchRowGrad.algebraic,
    trivial,
    Cert.BranchWeightGrad.algebraic,
    trivial,
    Cert.BranchProduct.algebraic,
    trivial,
    Cert.OutRowGrad.algebraic,
    trivial,
    Cert.OutWeightGrad.algebraic,
    trivial,
    Cert.AttnProduct.algebraic,
    trivial,
    Cert.NormGrad.algebraic,
    trivial,
    Cert.NormRows.algebraic,
    trivial,
    Cert.AttnRowGrad.algebraic,
    trivial,
    Cert.AttnWeightGrad.algebraic,
    trivial,
    Cert.OutLoss.algebraic,
    trivial,
    Cert.StepWeightGrad.algebraic,
    trivial,
    Cert.StepRowGrad.algebraic,
    trivial,
    Cert.StepProduct.algebraic,
    trivial,
    Cert.AttnGateGrad.algebraic,
    trivial,
    Cert.GateSum.algebraic⟩

end Cert.Proof

end
